-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_finite [hPre_tokens_finite : Cert.Pre_tokens_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_finite [hPre_tokens_finite : Cert.Pre_tokens_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tokens_finite [hKernelIdeal : Cert.KernelIdeal.Facts] [hPre_tokens_finite : Cert.Pre_tokens_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tokens_finite [hReferenceIdeal : Cert.ReferenceIdeal.Facts] [hPre_tokens_finite : Cert.Pre_tokens_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tokens_finite [hKernelIdeal : Cert.KernelIdeal.Facts] [hReferenceIdeal : Cert.ReferenceIdeal.Facts] [hPre_tokens_finite : Cert.Pre_tokens_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_3)) (v3 : (c : Dev Cert.KernelIdeal.nD) → Buf (Elt Ideal) ((c.tc : Thread Cert.KernelIdeal.nD Cert.KernelIdeal.τ).loc Cert.KernelIdeal.main_v4_4)) (v4 : (c : Dev Cert.KernelIdeal.nD) → Buf (Elt Ideal) ((c.tc : Thread Cert.KernelIdeal.nD Cert.KernelIdeal.τ).loc Cert.KernelIdeal.main_v4_5)) (v5 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_3) = v2 c
          ∧ r.2.mem ((c.tc : Thread Cert.KernelIdeal.nD Cert.KernelIdeal.τ).loc Cert.KernelIdeal.main_v4_4) = v3 c
          ∧ r.2.mem ((c.tc : Thread Cert.KernelIdeal.nD Cert.KernelIdeal.τ).loc Cert.KernelIdeal.main_v4_5) = v4 c
          ∧ r.2.mem ((c.tc : Thread Cert.KernelIdeal.nD Cert.KernelIdeal.τ).loc Cert.KernelIdeal.main_v4_6) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tokens_finite : Cert.Pre_tokens_finite.Facts),
    quiescent_Kernel (hKernel := hKernel)
    ∧ quiescent_KernelIdeal (hKernelIdeal := hKernelIdeal)
    ∧ quiescent_KernelIdeal_pre_tokens_finite (hKernelIdeal := hKernelIdeal) (hPre_tokens_finite := hPre_tokens_finite)
    ∧ quiescent_ReferenceIdeal (hReferenceIdeal := hReferenceIdeal)
    ∧ quiescent_ReferenceIdeal_pre_tokens_finite (hReferenceIdeal := hReferenceIdeal) (hPre_tokens_finite := hPre_tokens_finite)
    ∧ preserves_Kernel_KernelIdeal
    ∧ algebraic_KernelIdeal_ReferenceIdeal_pre_tokens_finite (hKernelIdeal := hKernelIdeal) (hReferenceIdeal := hReferenceIdeal) (hPre_tokens_finite := hPre_tokens_finite)
-- ==== Pre_tokens_finite.lean ====
abbrev S48x1x1024 : Shape := ⟨3, ![48, 1, 1024]⟩
abbrev S1024x151936 : Shape := ⟨2, ![1024, 151936]⟩
abbrev S151936 : Shape := ⟨1, ![151936]⟩
abbrev S48x4748 : Shape := ⟨2, ![48, 4748]⟩
abbrev S48x1x32 : Shape := ⟨3, ![48, 1, 32]⟩
abbrev S_ : Shape := ⟨0, ![]⟩

class Facts : Prop where
  bcast_S_S48x1x1024 : S_.BroadcastsInDim S48x1x1024 (![] : Fin 0 → Fin S48x1x1024.rank)

variable [Facts]

def fn {F : FTy → Type} [FloatOps F] (main_arg0 : FVec F S48x1x1024 .bf16) (main_arg1 : FVec F S1024x151936 .fp8e4m3) (main_arg2 : FVec F S151936 .f32) (main_arg3 : IVec S48x4748 32) (main_arg4 : IVec S48x1x32 32) : IVec S48x1x1024 1 :=
  let main_v0 : FVec F S48x1x1024 .bf16 := Host.absf main_arg0
  let main_cst : FVec F S_ .bf16 := constant S_ .bf16 0x7F7F#16
  let main_v1 : FVec F S48x1x1024 .bf16 := broadcastInDim S48x1x1024 ![] bcast_S_S48x1x1024 main_cst
  let main_v2 : IVec S48x1x1024 1 := cmpf .ole main_v0 main_v1
  main_v2
-- ==== Kernel.lean ====
abbrev S48x1x1024 : Shape := ⟨3, ![48, 1, 1024]⟩
abbrev S1024x151936 : Shape := ⟨2, ![1024, 151936]⟩
abbrev S151936 : Shape := ⟨1, ![151936]⟩
abbrev S48x4748 : Shape := ⟨2, ![48, 4748]⟩
abbrev S48x1x32 : Shape := ⟨3, ![48, 1, 32]⟩
abbrev S48x1024 : Shape := ⟨2, ![48, 1024]⟩
abbrev S1187x128 : Shape := ⟨2, ![1187, 128]⟩
abbrev S48x32 : Shape := ⟨2, ![48, 32]⟩
abbrev S32x48 : Shape := ⟨2, ![32, 48]⟩
abbrev S48x1187x1x128 : Shape := ⟨4, ![48, 1187, 1, 128]⟩
abbrev S1x48 : Shape := ⟨2, ![1, 48]⟩
abbrev S38x1x48 : Shape := ⟨3, ![38, 1, 48]⟩
abbrev S48x4864 : Shape := ⟨2, ![48, 4864]⟩
abbrev S48x12 : Shape := ⟨2, ![48, 12]⟩
abbrev S4x1024x4096 : Shape := ⟨3, ![4, 1024, 4096]⟩
abbrev S1024x384 : Shape := ⟨2, ![1024, 384]⟩
abbrev S64x1024 : Shape := ⟨2, ![64, 1024]⟩
abbrev S48x128 : Shape := ⟨2, ![48, 128]⟩
abbrev S2x48x128 : Shape := ⟨3, ![2, 48, 128]⟩
abbrev S48x4096 : Shape := ⟨2, ![48, 4096]⟩
abbrev S128x128 : Shape := ⟨2, ![128, 128]⟩
abbrev S5 : Shape := ⟨1, ![5]⟩
abbrev S2 : Shape := ⟨1, ![2]⟩
abbrev S6 : Shape := ⟨1, ![6]⟩
abbrev S1 : Shape := ⟨1, ![1]⟩
abbrev S_ : Shape := ⟨0, ![]⟩
abbrev S48x4736 : Shape := ⟨2, ![48, 4736]⟩
abbrev S1x1024x4096 : Shape := ⟨3, ![1, 1024, 4096]⟩
abbrev S1024x4096 : Shape := ⟨2, ![1024, 4096]⟩
abbrev S48 : Shape := ⟨1, ![48]⟩
abbrev S48x1 : Shape := ⟨2, ![48, 1]⟩
abbrev S48x116 : Shape := ⟨2, ![48, 116]⟩
abbrev S48x128x1 : Shape := ⟨3, ![48, 128, 1]⟩
abbrev S1x48x128 : Shape := ⟨3, ![1, 48, 128]⟩
abbrev S48x1120x1x128 : Shape := ⟨4, ![48, 1120, 1, 128]⟩
abbrev S1024x256 : Shape := ⟨2, ![1024, 256]⟩
abbrev S64x256 : Shape := ⟨2, ![64, 256]⟩
abbrev S1x128 : Shape := ⟨2, ![1, 128]⟩
abbrev S8x128 : Shape := ⟨2, ![8, 128]⟩
abbrev S56976x128 : Shape := ⟨2, ![56976, 128]⟩
abbrev S1024x128 : Shape := ⟨2, ![1024, 128]⟩
abbrev S64x128 : Shape := ⟨2, ![64, 128]⟩
abbrev S48x67x1x128 : Shape := ⟨4, ![48, 67, 1, 128]⟩
abbrev S38x48 : Shape := ⟨2, ![38, 48]⟩

abbrev nBuf : Space → Nat
  | .hbm => 16
  | .vmem => 25
  | .smem => 0
  | _ => 0

abbrev bufTy : (tb : Table) → Fin (tcTables nBuf tb) → BufTy
  | .hbm, ⟨0, _⟩ => ⟨S48x1x1024, .bf16⟩
  | .hbm, ⟨1, _⟩ => ⟨S1024x151936, .fp8e4m3⟩
  | .hbm, ⟨2, _⟩ => ⟨S151936, .f32⟩
  | .hbm, ⟨3, _⟩ => ⟨S48x4748, .i32⟩
  | .hbm, ⟨4, _⟩ => ⟨S48x1x32, .i32⟩
  | .hbm, ⟨5, _⟩ => ⟨S48x1024, .bf16⟩
  | .hbm, ⟨6, _⟩ => ⟨S1187x128, .f32⟩
  | .hbm, ⟨7, _⟩ => ⟨S48x32, .i32⟩
  | .hbm, ⟨8, _⟩ => ⟨S32x48, .i32⟩
  | .hbm, ⟨9, _⟩ => ⟨S48x1187x1x128, .f32⟩
  | .hbm, ⟨10, _⟩ => ⟨S1x48, .f32⟩
  | .hbm, ⟨11, _⟩ => ⟨S32x48, .f32⟩
  | .hbm, ⟨12, _⟩ => ⟨S38x1x48, .f32⟩
  | .hbm, ⟨13, _⟩ => ⟨S38x1x48, .f32⟩
  | .hbm, ⟨14, _⟩ => ⟨S48x1024, .fp8e4m3⟩
  | .hbm, ⟨15, _⟩ => ⟨S1x48, .f32⟩
  | .local _ .vmem, ⟨0, _⟩ => ⟨S48x1024, .bf16⟩
  | .local _ .vmem, ⟨1, _⟩ => ⟨S1187x128, .f32⟩
  | .local _ .vmem, ⟨2, _⟩ => ⟨S48x4864, .i32⟩
  | .local _ .vmem, ⟨3, _⟩ => ⟨S48x12, .i32⟩
  | .local _ .vmem, ⟨4, _⟩ => ⟨S32x48, .i32⟩
  | .local _ .vmem, ⟨5, _⟩ => ⟨S4x1024x4096, .fp8e4m3⟩
  | .local _ .vmem, ⟨6, _⟩ => ⟨S1024x384, .fp8e4m3⟩
  | .local _ .vmem, ⟨7, _⟩ => ⟨S64x1024, .fp8e4m3⟩
  | .local _ .vmem, ⟨8, _⟩ => ⟨S48x1024, .fp8e4m3⟩
  | .local _ .vmem, ⟨9, _⟩ => ⟨S48x128, .f32⟩
  | .local _ .vmem, ⟨10, _⟩ => ⟨S2x48x128, .i32⟩
  | .local _ .vmem, ⟨11, _⟩ => ⟨S48x4096, .f32⟩
  | .local _ .vmem, ⟨12, _⟩ => ⟨S48x1187x1x128, .f32⟩
  | .local _ .vmem, ⟨13, _⟩ => ⟨S128x128, .f32⟩
  | .local _ .vmem, ⟨14, _⟩ => ⟨S48x128, .i32⟩
  | .local _ .vmem, ⟨15, _⟩ => ⟨S48x128, .i32⟩
  | .local _ .vmem, ⟨16, _⟩ => ⟨S48x128, .f32⟩
  | .local _ .vmem, ⟨17, _⟩ => ⟨S48x128, .i32⟩
  | .local _ .vmem, ⟨18, _⟩ => ⟨S48x128, .f32⟩
  | .local _ .vmem, ⟨19, _⟩ => ⟨S48x128, .f32⟩
  | .local _ .vmem, ⟨20, _⟩ => ⟨S1x48, .f32⟩
  | .local _ .vmem, ⟨21, _⟩ => ⟨S32x48, .f32⟩
  | .local _ .vmem, ⟨22, _⟩ => ⟨S38x1x48, .f32⟩
  | .local _ .vmem, ⟨23, _⟩ => ⟨S38x1x48, .f32⟩
  | .local _ .vmem, ⟨24, _⟩ => ⟨S1x48, .f32⟩
  | _, _ => ⟨S48x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev main_v4_6 : Ref sig .tc := ⟨.hbm, 15, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩
abbrev cc0_scratch22 : Ref sig .tc := ⟨.vmem, 22, rfl⟩
abbrev cc0_scratch23 : Ref sig .tc := ⟨.vmem, 23, rfl⟩
abbrev cc0_scratch24 : Ref sig .tc := ⟨.vmem, 24, rfl⟩

abbrev nD : Nat := 1
abbrev τ : Topo := Topo.v7x

variable {F : FTy → Type} [FloatOps F]

abbrev grid0 : Pipeline.Grid := .none

def k0_mult1 : BitVec 32 :=
  let c0_i32_5 : BitVec 32 := 0#32
  c0_i32_5
def k0_mult2 : BitVec 32 :=
  let c4096_i32 : BitVec 32 := 4096#32
  c4096_i32
def k0_mult3 : BitVec 32 :=
  let c8192_i32 : BitVec 32 := 8192#32
  c8192_i32
def k0_mult4 : BitVec 32 :=
  let c12288_i32 : BitVec 32 := 12288#32
  c12288_i32
def k0_mult5 : BitVec 32 :=
  let c0_i32_113 : BitVec 32 := 0#32
  c0_i32_113
@[reducible] def k0_t1_loop : Scf.Loop 32 :=
  let c0_i32_178 : BitVec 32 := 0#32
  let c37_i32 : BitVec 32 := 37#32
  let v426 : BitVec 32 := Scalar.addi c0_i32_178 c37_i32
  let c1_i32_179 : BitVec 32 := 1#32
  ⟨c0_i32_178, v426, c1_i32_179⟩
def k0_mult6 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c4096_i32_367 : BitVec 32 := 4096#32
  let v792 : BitVec 32 := Scalar.muli arg41 c4096_i32_367
  v792
def k0_off1 (k0_t1 : Fin k0_t1_loop.trips) : Fin 1 → Nat :=
  let c0_i32_178 : BitVec 32 := 0#32
  let c1_i32_179 : BitVec 32 := 1#32
  let arg41 : BitVec 32 := Scf.iv c0_i32_178 c1_i32_179 k0_t1
  let c4_i32_366 : BitVec 32 := 4#32
  let v791 : BitVec 32 := Scalar.remsi arg41 c4_i32_366
  ![v791.toNat]
def k0_off2 (k0_t1 : Fin k0_t1_loop.trips) : Fin 3 → Nat :=
  let c0_i32_178 : BitVec 32 := 0#32
  let c1_i32_179 : BitVec 32 := 1#32
  let arg41 : BitVec 32 := Scf.iv c0_i32_178 c1_i32_179 k0_t1
  let c4_i32_366 : BitVec 32 := 4#32
  let v791 : BitVec 32 := Scalar.remsi arg41 c4_i32_366
  let c0_i32_368 : BitVec 32 := 0#32
  let c0_i32_369 : BitVec 32 := 0#32
  ![v791.toNat, 0, 0]
def k0_off3 (k0_t1 : Fin k0_t1_loop.trips) : Fin 2 → Nat :=
  let c0_i32_370 : BitVec 32 := 0#32
  let c0_i32_178 : BitVec 32 := 0#32
  let c1_i32_179 : BitVec 32 := 1#32
  let arg41 : BitVec 32 := Scf.iv c0_i32_178 c1_i32_179 k0_t1
  let c4096_i32_367 : BitVec 32 := 4096#32
  let v792 : BitVec 32 := Scalar.muli arg41 c4096_i32_367
  let v793 : BitVec 32 := v792
  ![0, v793.toNat]
def k0_mult7 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c1_i32_372 : BitVec 32 := 1#32
  let v802 : BitVec 32 := Scalar.addi arg41 c1_i32_372
  let c128_i32_373 : BitVec 32 := 128#32
  let v803 : BitVec 32 := Scalar.muli v802 c128_i32_373
  v803
def k0_off4 (k0_t1 : Fin k0_t1_loop.trips) : Fin 2 → Nat :=
  let c0_374 : Index := 0#32
  let c0_i32_178 : BitVec 32 := 0#32
  let c1_i32_179 : BitVec 32 := 1#32
  let arg41 : BitVec 32 := Scf.iv c0_i32_178 c1_i32_179 k0_t1
  let c1_i32_372 : BitVec 32 := 1#32
  let v802 : BitVec 32 := Scalar.addi arg41 c1_i32_372
  let c128_i32_373 : BitVec 32 := 128#32
  let v803 : BitVec 32 := Scalar.muli v802 c128_i32_373
  let v804 : BitVec 32 := v803
  let v805 : Index := Scalar.indexCast v804
  ![0, v805.toNat]
def k0_off5 (k0_t1 : Fin k0_t1_loop.trips) : Fin 3 → Nat :=
  let c0_i32_178 : BitVec 32 := 0#32
  let c1_i32_179 : BitVec 32 := 1#32
  let arg41 : BitVec 32 := Scf.iv c0_i32_178 c1_i32_179 k0_t1
  let c1_i32_430 : BitVec 32 := 1#32
  let v952 : BitVec 32 := Scalar.addi arg41 c1_i32_430
  let c2_i32_431 : BitVec 32 := 2#32
  let v953 : BitVec 32 := Scalar.remsi v952 c2_i32_431
  let v954 : Index := Scalar.indexCast v953
  let c0_432 : Index := 0#32
  let c0_433 : Index := 0#32
  ![v954.toNat, 0, 0]
def k0_off6 (k0_t1 : Fin k0_t1_loop.trips) : Fin 3 → Nat :=
  let c0_i32_178 : BitVec 32 := 0#32
  let c1_i32_179 : BitVec 32 := 1#32
  let arg41 : BitVec 32 := Scf.iv c0_i32_178 c1_i32_179 k0_t1
  let c2_i32_449 : BitVec 32 := 2#32
  let v985 : BitVec 32 := Scalar.remsi arg41 c2_i32_449
  let v987 : Index := Scalar.indexCast v985
  let c0_452 : Index := 0#32
  let c0_453 : Index := 0#32
  ![v987.toNat, 0, 0]
def k0_mult8 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_469 : BitVec 32 := 32#32
  let v1002 : BitVec 32 := Scalar.muli arg41 c32_i32_469
  v1002
def k0_off7 (k0_t1 : Fin k0_t1_loop.trips) (c0_i32_470 : BitVec 32) : Fin 2 → Nat :=
  let c0_i32_178 : BitVec 32 := 0#32
  let c1_i32_179 : BitVec 32 := 1#32
  let arg41 : BitVec 32 := Scf.iv c0_i32_178 c1_i32_179 k0_t1
  let c32_i32_469 : BitVec 32 := 32#32
  let v1002 : BitVec 32 := Scalar.muli arg41 c32_i32_469
  let v1003 : BitVec 32 := v1002
  let v1004 : BitVec 32 := Scalar.addi v1003 c0_i32_470
  let v1005 : Index := Scalar.indexCast v1004
  let c0_471 : Index := 0#32
  ![v1005.toNat, 0]
def k0_off8 (k0_t1 : Fin k0_t1_loop.trips) (c0_i32_482 : BitVec 32) : Fin 2 → Nat :=
  let c0_i32_178 : BitVec 32 := 0#32
  let c1_i32_179 : BitVec 32 := 1#32
  let arg41 : BitVec 32 := Scf.iv c0_i32_178 c1_i32_179 k0_t1
  let c32_i32_481 : BitVec 32 := 32#32
  let v1035 : BitVec 32 := Scalar.muli arg41 c32_i32_481
  let v1036 : BitVec 32 := Scalar.addi v1035 c0_i32_482
  let v1038 : Index := Scalar.indexCast v1036
  let c0_483 : Index := 0#32
  ![v1038.toNat, 0]
def k0_off8_at (r : Fin 192) : BitVec 32 :=
  if r.val < 96 then
    if r.val < 48 then
      if r.val < 24 then
        if r.val < 12 then
          if r.val < 6 then
            if r.val < 3 then
              if r.val < 1 then
                0#32
              else
                if r.val < 2 then
                  9496#32
                else
                  18992#32
            else
              if r.val < 4 then
                28488#32
              else
                if r.val < 5 then
                  37984#32
                else
                  47480#32
          else
            if r.val < 9 then
              if r.val < 7 then
                1#32
              else
                if r.val < 8 then
                  9497#32
                else
                  18993#32
            else
              if r.val < 10 then
                28489#32
              else
                if r.val < 11 then
                  37985#32
                else
                  47481#32
        else
          if r.val < 18 then
            if r.val < 15 then
              if r.val < 13 then
                2#32
              else
                if r.val < 14 then
                  9498#32
                else
                  18994#32
            else
              if r.val < 16 then
                28490#32
              else
                if r.val < 17 then
                  37986#32
                else
                  47482#32
          else
            if r.val < 21 then
              if r.val < 19 then
                3#32
              else
                if r.val < 20 then
                  9499#32
                else
                  18995#32
            else
              if r.val < 22 then
                28491#32
              else
                if r.val < 23 then
                  37987#32
                else
                  47483#32
      else
        if r.val < 36 then
          if r.val < 30 then
            if r.val < 27 then
              if r.val < 25 then
                4#32
              else
                if r.val < 26 then
                  9500#32
                else
                  18996#32
            else
              if r.val < 28 then
                28492#32
              else
                if r.val < 29 then
                  37988#32
                else
                  47484#32
          else
            if r.val < 33 then
              if r.val < 31 then
                5#32
              else
                if r.val < 32 then
                  9501#32
                else
                  18997#32
            else
              if r.val < 34 then
                28493#32
              else
                if r.val < 35 then
                  37989#32
                else
                  47485#32
        else
          if r.val < 42 then
            if r.val < 39 then
              if r.val < 37 then
                6#32
              else
                if r.val < 38 then
                  9502#32
                else
                  18998#32
            else
              if r.val < 40 then
                28494#32
              else
                if r.val < 41 then
                  37990#32
                else
                  47486#32
          else
            if r.val < 45 then
              if r.val < 43 then
                7#32
              else
                if r.val < 44 then
                  9503#32
                else
                  18999#32
            else
              if r.val < 46 then
                28495#32
              else
                if r.val < 47 then
                  37991#32
                else
                  47487#32
    else
      if r.val < 72 then
        if r.val < 60 then
          if r.val < 54 then
            if r.val < 51 then
              if r.val < 49 then
                8#32
              else
                if r.val < 50 then
                  9504#32
                else
                  19000#32
            else
              if r.val < 52 then
                28496#32
              else
                if r.val < 53 then
                  37992#32
                else
                  47488#32
          else
            if r.val < 57 then
              if r.val < 55 then
                9#32
              else
                if r.val < 56 then
                  9505#32
                else
                  19001#32
            else
              if r.val < 58 then
                28497#32
              else
                if r.val < 59 then
                  37993#32
                else
                  47489#32
        else
          if r.val < 66 then
            if r.val < 63 then
              if r.val < 61 then
                10#32
              else
                if r.val < 62 then
                  9506#32
                else
                  19002#32
            else
              if r.val < 64 then
                28498#32
              else
                if r.val < 65 then
                  37994#32
                else
                  47490#32
          else
            if r.val < 69 then
              if r.val < 67 then
                11#32
              else
                if r.val < 68 then
                  9507#32
                else
                  19003#32
            else
              if r.val < 70 then
                28499#32
              else
                if r.val < 71 then
                  37995#32
                else
                  47491#32
      else
        if r.val < 84 then
          if r.val < 78 then
            if r.val < 75 then
              if r.val < 73 then
                12#32
              else
                if r.val < 74 then
                  9508#32
                else
                  19004#32
            else
              if r.val < 76 then
                28500#32
              else
                if r.val < 77 then
                  37996#32
                else
                  47492#32
          else
            if r.val < 81 then
              if r.val < 79 then
                13#32
              else
                if r.val < 80 then
                  9509#32
                else
                  19005#32
            else
              if r.val < 82 then
                28501#32
              else
                if r.val < 83 then
                  37997#32
                else
                  47493#32
        else
          if r.val < 90 then
            if r.val < 87 then
              if r.val < 85 then
                14#32
              else
                if r.val < 86 then
                  9510#32
                else
                  19006#32
            else
              if r.val < 88 then
                28502#32
              else
                if r.val < 89 then
                  37998#32
                else
                  47494#32
          else
            if r.val < 93 then
              if r.val < 91 then
                15#32
              else
                if r.val < 92 then
                  9511#32
                else
                  19007#32
            else
              if r.val < 94 then
                28503#32
              else
                if r.val < 95 then
                  37999#32
                else
                  47495#32
  else
    if r.val < 144 then
      if r.val < 120 then
        if r.val < 108 then
          if r.val < 102 then
            if r.val < 99 then
              if r.val < 97 then
                16#32
              else
                if r.val < 98 then
                  9512#32
                else
                  19008#32
            else
              if r.val < 100 then
                28504#32
              else
                if r.val < 101 then
                  38000#32
                else
                  47496#32
          else
            if r.val < 105 then
              if r.val < 103 then
                17#32
              else
                if r.val < 104 then
                  9513#32
                else
                  19009#32
            else
              if r.val < 106 then
                28505#32
              else
                if r.val < 107 then
                  38001#32
                else
                  47497#32
        else
          if r.val < 114 then
            if r.val < 111 then
              if r.val < 109 then
                18#32
              else
                if r.val < 110 then
                  9514#32
                else
                  19010#32
            else
              if r.val < 112 then
                28506#32
              else
                if r.val < 113 then
                  38002#32
                else
                  47498#32
          else
            if r.val < 117 then
              if r.val < 115 then
                19#32
              else
                if r.val < 116 then
                  9515#32
                else
                  19011#32
            else
              if r.val < 118 then
                28507#32
              else
                if r.val < 119 then
                  38003#32
                else
                  47499#32
      else
        if r.val < 132 then
          if r.val < 126 then
            if r.val < 123 then
              if r.val < 121 then
                20#32
              else
                if r.val < 122 then
                  9516#32
                else
                  19012#32
            else
              if r.val < 124 then
                28508#32
              else
                if r.val < 125 then
                  38004#32
                else
                  47500#32
          else
            if r.val < 129 then
              if r.val < 127 then
                21#32
              else
                if r.val < 128 then
                  9517#32
                else
                  19013#32
            else
              if r.val < 130 then
                28509#32
              else
                if r.val < 131 then
                  38005#32
                else
                  47501#32
        else
          if r.val < 138 then
            if r.val < 135 then
              if r.val < 133 then
                22#32
              else
                if r.val < 134 then
                  9518#32
                else
                  19014#32
            else
              if r.val < 136 then
                28510#32
              else
                if r.val < 137 then
                  38006#32
                else
                  47502#32
          else
            if r.val < 141 then
              if r.val < 139 then
                23#32
              else
                if r.val < 140 then
                  9519#32
                else
                  19015#32
            else
              if r.val < 142 then
                28511#32
              else
                if r.val < 143 then
                  38007#32
                else
                  47503#32
    else
      if r.val < 168 then
        if r.val < 156 then
          if r.val < 150 then
            if r.val < 147 then
              if r.val < 145 then
                24#32
              else
                if r.val < 146 then
                  9520#32
                else
                  19016#32
            else
              if r.val < 148 then
                28512#32
              else
                if r.val < 149 then
                  38008#32
                else
                  47504#32
          else
            if r.val < 153 then
              if r.val < 151 then
                25#32
              else
                if r.val < 152 then
                  9521#32
                else
                  19017#32
            else
              if r.val < 154 then
                28513#32
              else
                if r.val < 155 then
                  38009#32
                else
                  47505#32
        else
          if r.val < 162 then
            if r.val < 159 then
              if r.val < 157 then
                26#32
              else
                if r.val < 158 then
                  9522#32
                else
                  19018#32
            else
              if r.val < 160 then
                28514#32
              else
                if r.val < 161 then
                  38010#32
                else
                  47506#32
          else
            if r.val < 165 then
              if r.val < 163 then
                27#32
              else
                if r.val < 164 then
                  9523#32
                else
                  19019#32
            else
              if r.val < 166 then
                28515#32
              else
                if r.val < 167 then
                  38011#32
                else
                  47507#32
      else
        if r.val < 180 then
          if r.val < 174 then
            if r.val < 171 then
              if r.val < 169 then
                28#32
              else
                if r.val < 170 then
                  9524#32
                else
                  19020#32
            else
              if r.val < 172 then
                28516#32
              else
                if r.val < 173 then
                  38012#32
                else
                  47508#32
          else
            if r.val < 177 then
              if r.val < 175 then
                29#32
              else
                if r.val < 176 then
                  9525#32
                else
                  19021#32
            else
              if r.val < 178 then
                28517#32
              else
                if r.val < 179 then
                  38013#32
                else
                  47509#32
        else
          if r.val < 186 then
            if r.val < 183 then
              if r.val < 181 then
                30#32
              else
                if r.val < 182 then
                  9526#32
                else
                  19022#32
            else
              if r.val < 184 then
                28518#32
              else
                if r.val < 185 then
                  38014#32
                else
                  47510#32
          else
            if r.val < 189 then
              if r.val < 187 then
                31#32
              else
                if r.val < 188 then
                  9527#32
                else
                  19023#32
            else
              if r.val < 190 then
                28519#32
              else
                if r.val < 191 then
                  38015#32
                else
                  47511#32
def k0_mult9 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_494 : BitVec 32 := 32#32
  let v1082 : BitVec 32 := Scalar.muli arg41 c32_i32_494
  v1082
def k0_mult10 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_526 : BitVec 32 := 32#32
  let v1167 : BitVec 32 := Scalar.muli arg41 c32_i32_526
  v1167
def k0_mult11 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_551 : BitVec 32 := 32#32
  let v1247 : BitVec 32 := Scalar.muli arg41 c32_i32_551
  v1247
def k0_mult12 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_581 : BitVec 32 := 32#32
  let v1332 : BitVec 32 := Scalar.muli arg41 c32_i32_581
  v1332
def k0_mult13 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_606 : BitVec 32 := 32#32
  let v1412 : BitVec 32 := Scalar.muli arg41 c32_i32_606
  v1412
def k0_mult14 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_636 : BitVec 32 := 32#32
  let v1497 : BitVec 32 := Scalar.muli arg41 c32_i32_636
  v1497
def k0_mult15 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_660 : BitVec 32 := 32#32
  let v1577 : BitVec 32 := Scalar.muli arg41 c32_i32_660
  v1577
def k0_mult16 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_690 : BitVec 32 := 32#32
  let v1662 : BitVec 32 := Scalar.muli arg41 c32_i32_690
  v1662
def k0_mult17 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_714 : BitVec 32 := 32#32
  let v1742 : BitVec 32 := Scalar.muli arg41 c32_i32_714
  v1742
def k0_mult18 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_742 : BitVec 32 := 32#32
  let v1827 : BitVec 32 := Scalar.muli arg41 c32_i32_742
  v1827
def k0_mult19 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_765 : BitVec 32 := 32#32
  let v1907 : BitVec 32 := Scalar.muli arg41 c32_i32_765
  v1907
def k0_mult20 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_793 : BitVec 32 := 32#32
  let v1992 : BitVec 32 := Scalar.muli arg41 c32_i32_793
  v1992
def k0_mult21 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_817 : BitVec 32 := 32#32
  let v2072 : BitVec 32 := Scalar.muli arg41 c32_i32_817
  v2072
def k0_mult22 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_846 : BitVec 32 := 32#32
  let v2157 : BitVec 32 := Scalar.muli arg41 c32_i32_846
  v2157
def k0_mult23 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_869 : BitVec 32 := 32#32
  let v2237 : BitVec 32 := Scalar.muli arg41 c32_i32_869
  v2237
def k0_mult24 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_897 : BitVec 32 := 32#32
  let v2322 : BitVec 32 := Scalar.muli arg41 c32_i32_897
  v2322
def k0_mult25 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_921 : BitVec 32 := 32#32
  let v2402 : BitVec 32 := Scalar.muli arg41 c32_i32_921
  v2402
def k0_mult26 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_949 : BitVec 32 := 32#32
  let v2487 : BitVec 32 := Scalar.muli arg41 c32_i32_949
  v2487
def k0_mult27 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_972 : BitVec 32 := 32#32
  let v2567 : BitVec 32 := Scalar.muli arg41 c32_i32_972
  v2567
def k0_mult28 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_1000 : BitVec 32 := 32#32
  let v2652 : BitVec 32 := Scalar.muli arg41 c32_i32_1000
  v2652
def k0_mult29 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_1023 : BitVec 32 := 32#32
  let v2732 : BitVec 32 := Scalar.muli arg41 c32_i32_1023
  v2732
def k0_mult30 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_1051 : BitVec 32 := 32#32
  let v2817 : BitVec 32 := Scalar.muli arg41 c32_i32_1051
  v2817
def k0_mult31 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_1074 : BitVec 32 := 32#32
  let v2897 : BitVec 32 := Scalar.muli arg41 c32_i32_1074
  v2897
def k0_mult32 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_1103 : BitVec 32 := 32#32
  let v2982 : BitVec 32 := Scalar.muli arg41 c32_i32_1103
  v2982
def k0_mult33 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_1126 : BitVec 32 := 32#32
  let v3062 : BitVec 32 := Scalar.muli arg41 c32_i32_1126
  v3062
def k0_mult34 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_1154 : BitVec 32 := 32#32
  let v3147 : BitVec 32 := Scalar.muli arg41 c32_i32_1154
  v3147
def k0_mult35 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_1177 : BitVec 32 := 32#32
  let v3227 : BitVec 32 := Scalar.muli arg41 c32_i32_1177
  v3227
def k0_mult36 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_1205 : BitVec 32 := 32#32
  let v3312 : BitVec 32 := Scalar.muli arg41 c32_i32_1205
  v3312
def k0_mult37 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_1228 : BitVec 32 := 32#32
  let v3392 : BitVec 32 := Scalar.muli arg41 c32_i32_1228
  v3392
def k0_mult38 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_1256 : BitVec 32 := 32#32
  let v3477 : BitVec 32 := Scalar.muli arg41 c32_i32_1256
  v3477
def k0_mult39 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c32_i32_1279 : BitVec 32 := 32#32
  let v3557 : BitVec 32 := Scalar.muli arg41 c32_i32_1279
  v3557
def k0_cond2 (k0_t1 : Fin k0_t1_loop.trips) : BitVec 1 :=
  let c0_i32_178 : BitVec 32 := 0#32
  let c1_i32_179 : BitVec 32 := 1#32
  let arg41 : BitVec 32 := Scf.iv c0_i32_178 c1_i32_179 k0_t1
  let c4_i32_1381 : BitVec 32 := 4#32
  let v3796 : BitVec 32 := Scalar.addi arg41 c4_i32_1381
  let c37_i32_1382 : BitVec 32 := 37#32
  let v3797 : BitVec 1 := Scalar.cmpi .slt v3796 c37_i32_1382
  let v3798 : BitVec 32 := Scalar.extui v3797
  let c0_i32_1383 : BitVec 32 := 0#32
  let v3799 : BitVec 1 := Scalar.cmpi .ne v3798 c0_i32_1383
  v3799

def k0_mult40 (k0_t1 : Fin k0_t1_loop.trips) : BitVec 32 :=
  let c0_i32_178 : BitVec 32 := 0#32
  let c1_i32_179 : BitVec 32 := 1#32
  let arg41 : BitVec 32 := Scf.iv c0_i32_178 c1_i32_179 k0_t1
  let c4_i32_1384 : BitVec 32 := 4#32
  let v3800 : BitVec 32 := Scalar.addi arg41 c4_i32_1384
  let c4096_i32_1385 : BitVec 32 := 4096#32
  let v3801 : BitVec 32 := Scalar.muli v3800 c4096_i32_1385
  v3801
def k0_off9 (k0_t1 : Fin k0_t1_loop.trips) : Fin 1 → Nat :=
  let c0_i32_178 : BitVec 32 := 0#32
  let c1_i32_179 : BitVec 32 := 1#32
  let arg41 : BitVec 32 := Scf.iv c0_i32_178 c1_i32_179 k0_t1
  let c4_i32_366 : BitVec 32 := 4#32
  let v791 : BitVec 32 := Scalar.remsi arg41 c4_i32_366
  ![v791.toNat]
def k0_off10 (k0_t1 : Fin k0_t1_loop.trips) : Fin 3 → Nat :=
  let c0_i32_178 : BitVec 32 := 0#32
  let c1_i32_179 : BitVec 32 := 1#32
  let arg41 : BitVec 32 := Scf.iv c0_i32_178 c1_i32_179 k0_t1
  let c4_i32_366 : BitVec 32 := 4#32
  let v791 : BitVec 32 := Scalar.remsi arg41 c4_i32_366
  let c0_i32_1386 : BitVec 32 := 0#32
  let c0_i32_1387 : BitVec 32 := 0#32
  ![v791.toNat, 0, 0]
def k0_off11 (k0_t1 : Fin k0_t1_loop.trips) : Fin 2 → Nat :=
  let c0_i32_1388 : BitVec 32 := 0#32
  let c0_i32_178 : BitVec 32 := 0#32
  let c1_i32_179 : BitVec 32 := 1#32
  let arg41 : BitVec 32 := Scf.iv c0_i32_178 c1_i32_179 k0_t1
  let c4_i32_1384 : BitVec 32 := 4#32
  let v3800 : BitVec 32 := Scalar.addi arg41 c4_i32_1384
  let c4096_i32_1385 : BitVec 32 := 4096#32
  let v3801 : BitVec 32 := Scalar.muli v3800 c4096_i32_1385
  let v3802 : BitVec 32 := v3801
  ![0, v3802.toNat]
def k0_mult41 : BitVec 32 :=
  let c1184_i32_200 : BitVec 32 := 1184#32
  c1184_i32_200
def k0_off12 (c0_i32_201 : BitVec 32) : Fin 2 → Nat :=
  let c1184_i32_200 : BitVec 32 := 1184#32
  let v442 : BitVec 32 := c1184_i32_200
  let v443 : BitVec 32 := Scalar.addi v442 c0_i32_201
  let v444 : Index := Scalar.indexCast v443
  let c0_202 : Index := 0#32
  ![v444.toNat, 0]
def k0_mult42 : BitVec 32 :=
  let c1184_i32_218 : BitVec 32 := 1184#32
  c1184_i32_218
def k0_mult43 : BitVec 32 :=
  let c1184_i32_239 : BitVec 32 := 1184#32
  c1184_i32_239
-- ==== ReferenceIdeal.lean ====
abbrev S48x1x1024 : Shape := ⟨3, ![48, 1, 1024]⟩
abbrev S1024x151936 : Shape := ⟨2, ![1024, 151936]⟩
abbrev S151936 : Shape := ⟨1, ![151936]⟩
abbrev S48x4748 : Shape := ⟨2, ![48, 4748]⟩
abbrev S48x1x32 : Shape := ⟨3, ![48, 1, 32]⟩
abbrev S48x1024 : Shape := ⟨2, ![48, 1024]⟩
abbrev S1x151936 : Shape := ⟨2, ![1, 151936]⟩
abbrev S48x1187x1x128 : Shape := ⟨4, ![48, 1187, 1, 128]⟩
abbrev S1x48 : Shape := ⟨2, ![1, 48]⟩
abbrev S38x1x48 : Shape := ⟨3, ![38, 1, 48]⟩
abbrev S48 : Shape := ⟨1, ![48]⟩
abbrev S48x1 : Shape := ⟨2, ![48, 1]⟩
abbrev S1x253 : Shape := ⟨2, ![1, 253]⟩
abbrev S48x253 : Shape := ⟨2, ![48, 253]⟩
abbrev S48x151936 : Shape := ⟨2, ![48, 151936]⟩
abbrev S1x1x32 : Shape := ⟨3, ![1, 1, 32]⟩
abbrev S48x4748x1 : Shape := ⟨3, ![48, 4748, 1]⟩
abbrev S48x4748x32 : Shape := ⟨3, ![48, 4748, 32]⟩
abbrev S48x151552 : Shape := ⟨2, ![48, 151552]⟩
abbrev S48x37x4096 : Shape := ⟨3, ![48, 37, 4096]⟩
abbrev S48x37 : Shape := ⟨2, ![48, 37]⟩
abbrev S48x37x1 : Shape := ⟨3, ![48, 37, 1]⟩
abbrev S48x384 : Shape := ⟨2, ![48, 384]⟩
abbrev S48x38 : Shape := ⟨2, ![48, 38]⟩
abbrev S38x48 : Shape := ⟨2, ![38, 48]⟩

abbrev nBuf : Space → Nat
  | .hbm => 13
  | .vmem => 10
  | .smem => 0
  | _ => 0

abbrev bufTy : (tb : Table) → Fin (tcTables nBuf tb) → BufTy
  | .hbm, ⟨0, _⟩ => ⟨S48x1x1024, .bf16⟩
  | .hbm, ⟨1, _⟩ => ⟨S1024x151936, .fp8e4m3⟩
  | .hbm, ⟨2, _⟩ => ⟨S151936, .f32⟩
  | .hbm, ⟨3, _⟩ => ⟨S48x4748, .i32⟩
  | .hbm, ⟨4, _⟩ => ⟨S48x1x32, .i32⟩
  | .hbm, ⟨5, _⟩ => ⟨S48x1024, .bf16⟩
  | .hbm, ⟨6, _⟩ => ⟨S1x151936, .f32⟩
  | .hbm, ⟨7, _⟩ => ⟨S48x1187x1x128, .f32⟩
  | .hbm, ⟨8, _⟩ => ⟨S1x48, .f32⟩
  | .hbm, ⟨9, _⟩ => ⟨S38x1x48, .f32⟩
  | .hbm, ⟨10, _⟩ => ⟨S38x1x48, .f32⟩
  | .hbm, ⟨11, _⟩ => ⟨S48x1024, .fp8e4m3⟩
  | .hbm, ⟨12, _⟩ => ⟨S1x48, .f32⟩
  | .local _ .vmem, ⟨0, _⟩ => ⟨S48x1024, .bf16⟩
  | .local _ .vmem, ⟨1, _⟩ => ⟨S1024x151936, .fp8e4m3⟩
  | .local _ .vmem, ⟨2, _⟩ => ⟨S1x151936, .f32⟩
  | .local _ .vmem, ⟨3, _⟩ => ⟨S48x4748, .i32⟩
  | .local _ .vmem, ⟨4, _⟩ => ⟨S48x1187x1x128, .f32⟩
  | .local _ .vmem, ⟨5, _⟩ => ⟨S1x48, .f32⟩
  | .local _ .vmem, ⟨6, _⟩ => ⟨S38x1x48, .f32⟩
  | .local _ .vmem, ⟨7, _⟩ => ⟨S38x1x48, .f32⟩
  | .local _ .vmem, ⟨8, _⟩ => ⟨S48x1024, .fp8e4m3⟩
  | .local _ .vmem, ⟨9, _⟩ => ⟨S1x48, .f32⟩
  | _, _ => ⟨S48x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S48x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x151936 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x151936 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x4748 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x1187x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S38x1x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S38x1x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S48x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Body.lean ====
/-
  The kernel's body written with its own repetitions: one definition for the six strided stores of a finished tile,
  one for a 128-column tile, one for a pair of tiles under one contraction, one for a trip of the chunk loop. The
  printed program spells every one of these out; `trip_eq` says that the printed trip is this one, by computation.
-/
module

public import proofs.«01_k».proof.Kernel
public import proofs.«01_k».proof.Proof.Gen.Kernel.Skeleton

@[expose] public section

set_option maxRecDepth 65536

noncomputable section

namespace Cert.Kernel.Hand

open Cert.Kernel Cert.Kernel.Gen
open Idealize.ShloMosaic Idealize.ShloMosaic.TcCoe
open Idealize.SL.Sem

variable {F : FTy → Type} [FloatOps F] [Facts]

/-! ## The buffers, by what they hold -/

abbrev hX : Memref sig .tc .hbm S48x1024 .bf16 := Memref.whole main_v0
abbrev hW : Memref sig .tc .hbm S1024x151936 .fp8e4m3 := Memref.whole main_arg1
abbrev hWs : Memref sig .tc .hbm S1187x128 .f32 := Memref.whole main_v1
abbrev hMask : Memref sig .tc .hbm S48x4748 .i32 := Memref.whole main_arg3
abbrev hCand : Memref sig .tc .hbm S32x48 .i32 := Memref.whole main_v3
abbrev hOut : Memref sig .tc .hbm S48x1187x1x128 .f32 := Memref.whole main_v4_0
abbrev hLse : Memref sig .tc .hbm S1x48 .f32 := Memref.whole main_v4_1
abbrev hCandOut : Memref sig .tc .hbm S32x48 .f32 := Memref.whole main_v4_2
abbrev hCmax : Memref sig .tc .hbm S38x1x48 .f32 := Memref.whole main_v4_3
abbrev hCsum : Memref sig .tc .hbm S38x1x48 .f32 := Memref.whole main_v4_4
abbrev hCodes : Memref sig .tc .hbm S48x1024 .fp8e4m3 := Memref.whole main_v4_5
abbrev hXs : Memref sig .tc .hbm S1x48 .f32 := Memref.whole main_v4_6
abbrev mX : Memref sig .tc .vmem S48x1024 .bf16 := Memref.whole cc0_scratch0
abbrev mWs : Memref sig .tc .vmem S1187x128 .f32 := Memref.whole cc0_scratch1
abbrev mMask : Memref sig .tc .vmem S48x4864 .i32 := Memref.whole cc0_scratch2
abbrev mMtail : Memref sig .tc .vmem S48x12 .i32 := Memref.whole cc0_scratch3
abbrev mCand : Memref sig .tc .vmem S32x48 .i32 := Memref.whole cc0_scratch4
abbrev mW : Memref sig .tc .vmem S4x1024x4096 .fp8e4m3 := Memref.whole cc0_scratch5
abbrev mWtail : Memref sig .tc .vmem S1024x384 .fp8e4m3 := Memref.whole cc0_scratch6
abbrev mLhs : Memref sig .tc .vmem S64x1024 .fp8e4m3 := Memref.whole cc0_scratch7
abbrev mCodes : Memref sig .tc .vmem S48x1024 .fp8e4m3 := Memref.whole cc0_scratch8
abbrev mXs : Memref sig .tc .vmem S48x128 .f32 := Memref.whole cc0_scratch9
abbrev mBits : Memref sig .tc .vmem S2x48x128 .i32 := Memref.whole cc0_scratch10
abbrev mNeg : Memref sig .tc .vmem S48x4096 .f32 := Memref.whole cc0_scratch11
abbrev mOut : Memref sig .tc .vmem S48x1187x1x128 .f32 := Memref.whole cc0_scratch12
abbrev mSq : Memref sig .tc .vmem S128x128 .f32 := Memref.whole cc0_scratch13
abbrev mCidx : Memref sig .tc .vmem S48x128 .i32 := Memref.whole cc0_scratch14
abbrev mCtile : Memref sig .tc .vmem S48x128 .i32 := Memref.whole cc0_scratch15
abbrev mCacc : Memref sig .tc .vmem S48x128 .f32 := Memref.whole cc0_scratch16
abbrev mCword : Memref sig .tc .vmem S48x128 .i32 := Memref.whole cc0_scratch17
abbrev mMst : Memref sig .tc .vmem S48x128 .f32 := Memref.whole cc0_scratch18
abbrev mSst : Memref sig .tc .vmem S48x128 .f32 := Memref.whole cc0_scratch19
abbrev mLse : Memref sig .tc .vmem S1x48 .f32 := Memref.whole cc0_scratch20
abbrev mCandO : Memref sig .tc .vmem S32x48 .f32 := Memref.whole cc0_scratch21
abbrev mCmaxO : Memref sig .tc .vmem S38x1x48 .f32 := Memref.whole cc0_scratch22
abbrev mCsumO : Memref sig .tc .vmem S38x1x48 .f32 := Memref.whole cc0_scratch23
abbrev mXsO : Memref sig .tc .vmem S1x48 .f32 := Memref.whole cc0_scratch24
/-- The output block as rows of 128 columns: row `1187 * b + T` is token `b`'s tile `T`. -/
abbrev mOutRows : Memref sig .tc .vmem S56976x128 .f32 :=
  mOut.reshape S56976x128 reshapes_S48x1187x1x128_S56976x128.1 reshapes_S48x1187x1x128_S56976x128.2
    (Memref.isWhole_whole _).contiguous
/-- Slot `off 0` of the ring of weight chunks. -/
abbrev slotAt (off : Fin 3 → ℕ) (h : ∀ a, off a + S1x1024x4096.size a ≤ S4x1024x4096.size a) :
    Memref sig .tc .vmem S1024x4096 .fp8e4m3 :=
  (mW.slice (Rect.unit (s := S4x1024x4096) off S1x1024x4096.size h) (fun _ => rfl)).squeeze S1024x4096
    squeezes_S1x1024x4096_S1024x4096
/-- Columns `off 1 … off 1 + 4095` of the weight codes. -/
abbrev colsAt (off : Fin 2 → ℕ) (h : ∀ a, off a + S1024x4096.size a ≤ S1024x151936.size a) :
    Memref sig .tc .hbm S1024x4096 .fp8e4m3 :=
  hW.slice (Rect.unit (s := S1024x151936) off S1024x4096.size h) (fun _ => rfl)

abbrev P (F : FTy → Type) [FloatOps F] (α : Type) := Prog (TpuEff nD τ sig (Elt F) Λ₀ .tc) α
abbrev V48 (F : FTy → Type) [FloatOps F] := FVec F S48x128 .f32
abbrev I48 := IVec S48x128 32

/-! ## One tile -/

/-- Eight tokens' rows of a finished tile, stored with stride 1187 into the output block. -/
def storeSlab (off : Fin 2 → ℕ)
    (h : ∀ a, S8x128.size a = 0 ∨ off a + (![1187, 1] : Fin 2 → ℕ) a * (S8x128.size a - 1) < S56976x128.size a)
    (w : FVec F S8x128 .f32) : P F PUnit := do
  let _v ← Prog.lift (.load mOutRows (⟨off, S8x128.size, ![1187, 1], h⟩ : LoadRect S56976x128) (View.loadsAt_vmem h_S8x128))
  Prog.lift (.store mOutRows ⟨(⟨off, S8x128.size, ![1187, 1], h⟩ : LoadRect S56976x128), spos_1187_1⟩
    (shapeCast S8x128 w shapeCasts_S8x128_S8x128) Finset.univ (View.stores_vmem_bits_univ h_S8x128 rfl) (.inl rfl))

/-- A tile's logits: the contraction's columns times the token's scale times the columns' scales. -/
def lgOf (raw xs : V48 F) (ws : Vec F S1x128 .f32) : V48 F :=
  mulf (mulf raw xs) (broadcastTo S48x128 ws broadcasts_S1x128_S48x128)
/-- Which of a tile's columns the tokens may take: one bit of each transposed word. -/
def okOf (t : I48) (bit : BitVec 32) : IVec S48x128 1 :=
  cmpi .ne (andi t (broadcast S48x128 bit)) (broadcast S48x128 0#32)
/-- The logits with every refused column at `-∞`. -/
def negOf (ok : IVec S48x128 1) (lg : V48 F) : V48 F :=
  select ok lg (broadcast S48x128 (Scalar.ofBits .f32 0xFF800000#32))
/-- The logits with every refused column at zero. -/
def maskedOf (ok : IVec S48x128 1) (lg : V48 F) : V48 F :=
  select ok lg (broadcast S48x128 (Scalar.ofBits .f32 0x00000000#32))
/-- Lanes `idx` of a block, per row (a negative lane counts from the end). -/
def pick {α : EltTy} (v : S48x128.Idx → Elt F α) (idx : I48) : S48x128.Idx → Elt F α :=
  dynamicGather 1 v (shapeCast S48x128 (shapeCast S48x128x1 (select (cmpi .slt idx (broadcast S48x128 0#32))
    (addi idx (broadcast S48x128 128#32)) idx) shapeCasts_S48x128_S48x128x1) shapeCasts_S48x128x1_S48x128)
/-- The candidates' logits after a tile: those whose tile this is are read off it. -/
def caccOf (ctile : I48) (j : BitVec 32) (lg : V48 F) (cidx : I48) (cacc : V48 F) : V48 F :=
  select (cmpi .eq ctile (broadcast S48x128 j)) (pick (α := .f32) lg cidx) cacc

/-- One tile of 128 columns: its logits, its masked logits stored to the two blocks, and the running
    column maximum and candidates' logits. -/
def tile (woff : Fin 2 → ℕ) (hw : ∀ a, woff a + S1x128.size a ≤ S1187x128.size a)
    (noff : Fin 2 → ℕ) (hn : ∀ a, noff a + S48x128.size a ≤ S48x4096.size a)
    (ooff : Fin 6 → Fin 2 → ℕ)
    (ho : ∀ r, ∀ a, S8x128.size a = 0 ∨ ooff r a + (![1187, 1] : Fin 2 → ℕ) a * (S8x128.size a - 1) < S56976x128.size a)
    (bit j : BitVec 32) (raw : V48 F) (xs : V48 F) (t cidx ctile : I48) (s : V48 F × V48 F) : P F (V48 F × V48 F) := do
  let ws : Vec F S1x128 .f32 ← Prog.lift (.load mWs (Rect.unit (s := S1187x128) woff S1x128.size hw).toLoadRect (View.loadsAt_vmem h_S1x128))
  let _v ← Prog.lift (.load mNeg (Rect.unit (s := S48x4096) noff S48x128.size hn).toLoadRect (View.loadsAt_vmem h_S48x128))
  Prog.lift (.store mNeg (Rect.unit (s := S48x4096) noff S48x128.size hn)
    (shapeCast S48x128 (negOf (okOf t bit) (lgOf raw xs ws)) shapeCasts_S48x128_S48x128) Finset.univ
    (View.stores_vmem_bits_univ h_S48x128 rfl) (.inl rfl))
  storeSlab (ooff 0) (ho 0) (extractStridedSlice S8x128 ![0, 0] (maskedOf (okOf t bit) (lgOf raw xs ws)) slices_S48x128_o0_0_S8x128)
  storeSlab (ooff 1) (ho 1) (extractStridedSlice S8x128 ![8, 0] (maskedOf (okOf t bit) (lgOf raw xs ws)) slices_S48x128_o8_0_S8x128)
  storeSlab (ooff 2) (ho 2) (extractStridedSlice S8x128 ![16, 0] (maskedOf (okOf t bit) (lgOf raw xs ws)) slices_S48x128_o16_0_S8x128)
  storeSlab (ooff 3) (ho 3) (extractStridedSlice S8x128 ![24, 0] (maskedOf (okOf t bit) (lgOf raw xs ws)) slices_S48x128_o24_0_S8x128)
  storeSlab (ooff 4) (ho 4) (extractStridedSlice S8x128 ![32, 0] (maskedOf (okOf t bit) (lgOf raw xs ws)) slices_S48x128_o32_0_S8x128)
  storeSlab (ooff 5) (ho 5) (extractStridedSlice S8x128 ![40, 0] (maskedOf (okOf t bit) (lgOf raw xs ws)) slices_S48x128_o40_0_S8x128)
  pure (maximumf s.1 (negOf (okOf t bit) (lgOf raw xs ws)), caccOf ctile j (lgOf raw xs ws) cidx s.2)

/-! ## Where a trip's accesses lie -/

theorem trips_eq : k0_t1_loop.trips = 37 := by decide
theorem k_lt (k : Fin k0_t1_loop.trips) : k.val < 37 := trips_eq ▸ k.isLt

theorem off1_eq (k : Fin k0_t1_loop.trips) : k0_off1 k = ![k.val % 4] := by revert k; decide
theorem off2_eq (k : Fin k0_t1_loop.trips) : k0_off2 k = ![k.val % 4, 0, 0] := by revert k; decide
theorem off3_eq (k : Fin k0_t1_loop.trips) : k0_off3 k = ![0, 4096 * k.val] := by revert k; decide
theorem off4_eq (k : Fin k0_t1_loop.trips) : k0_off4 k = ![0, 128 * (k.val + 1)] := by revert k; decide
theorem off5_eq (k : Fin k0_t1_loop.trips) : k0_off5 k = ![(k.val + 1) % 2, 0, 0] := by revert k; decide
theorem off6_eq (k : Fin k0_t1_loop.trips) : k0_off6 k = ![k.val % 2, 0, 0] := by revert k; decide
theorem off9_eq (k : Fin k0_t1_loop.trips) : k0_off9 k = ![k.val % 4] := by revert k; decide
theorem off10_eq (k : Fin k0_t1_loop.trips) : k0_off10 k = ![k.val % 4, 0, 0] := by revert k; decide
theorem off11_eq (k : Fin k0_t1_loop.trips) : k0_off11 k = ![0, 4096 * (k.val + 4)] := by revert k; decide
theorem cond2_eq (k : Fin k0_t1_loop.trips) : k0_cond2 k = 1#1 ↔ k.val < 33 := by revert k; decide

theorem off7_eq (k : Fin k0_t1_loop.trips) (j : ℕ) (hj : j < 32) :
    k0_off7 k (BitVec.ofNat 32 j) = ![32 * k.val + j, 0] := by
  have hk := k_lt k
  have e : (Scalar.indexCast (Scalar.addi (Scalar.muli (Scf.iv 0#32 1#32 k.val) 32#32) (BitVec.ofNat 32 j))).toNat = 32 * k.val + j := by
    simp only [Scalar.indexCast, Scalar.addi, Scalar.muli, IntOp.addi, IntOp.muli, Scf.iv, BitVec.toNat_add, BitVec.toNat_mul, BitVec.toNat_ofNat]
    omega
  show ![(Scalar.indexCast (Scalar.addi (Scalar.muli (Scf.iv 0#32 1#32 k.val) 32#32) (BitVec.ofNat 32 j))).toNat, 0] = _
  rw [e]

theorem off8_eq (k : Fin k0_t1_loop.trips) (j : ℕ) (hj : j < 65536) :
    k0_off8 k (BitVec.ofNat 32 j) = ![32 * k.val + j, 0] := by
  have hk := k_lt k
  have e : (Scalar.indexCast (Scalar.addi (Scalar.muli (Scf.iv 0#32 1#32 k.val) 32#32) (BitVec.ofNat 32 j))).toNat = 32 * k.val + j := by
    simp only [Scalar.indexCast, Scalar.addi, Scalar.muli, IntOp.addi, IntOp.muli, Scf.iv, BitVec.toNat_add, BitVec.toNat_mul, BitVec.toNat_ofNat]
    omega
  show ![(Scalar.indexCast (Scalar.addi (Scalar.muli (Scf.iv 0#32 1#32 k.val) 32#32) (BitVec.ofNat 32 j))).toNat, 0] = _
  rw [e]

theorem off7_in (k : Fin k0_t1_loop.trips) (j : ℕ) (hj : j < 32) :
    ∀ a, k0_off7 k (BitVec.ofNat 32 j) a + S1x128.size a ≤ S1187x128.size a := by
  have hk := k_lt k
  rw [off7_eq k j hj]
  intro a; fin_cases a
  · show 32 * k.val + j + 1 ≤ 1187; omega
  · show 0 + 128 ≤ 128; omega

theorem off8_in (k : Fin k0_t1_loop.trips) (j : ℕ) (hj : j < 32) (r : Fin 6) :
    ∀ a, S8x128.size a = 0 ∨ k0_off8 k (BitVec.ofNat 32 (9496 * r.val + j)) a + (![1187, 1] : Fin 2 → ℕ) a * (S8x128.size a - 1) < S56976x128.size a := by
  have hk := k_lt k
  rw [off8_eq k _ (by omega)]
  intro a; right; fin_cases a
  · show 32 * k.val + (9496 * r.val + j) + 1187 * (8 - 1) < 56976; omega
  · show 0 + 1 * (128 - 1) < 128; omega

theorem neg_in (j : ℕ) (hj : j < 32) : ∀ a, (![0, 128 * j] : Fin 2 → ℕ) a + S48x128.size a ≤ S48x4096.size a := by
  intro a; fin_cases a
  · show 0 + 48 ≤ 48; omega
  · show 128 * j + 128 ≤ 4096; omega

theorem pair_in (p : ℕ) (hp : p < 16) : ∀ a, (![0, 256 * p] : Fin 2 → ℕ) a + S1024x256.size a ≤ S1024x4096.size a := by
  intro a; fin_cases a
  · show 0 + 1024 ≤ 1024; omega
  · show 256 * p + 256 ≤ 4096; omega

/-! ## A trip -/

/-- The trip's number, as the kernel carries it. -/
abbrev ivOf (k : Fin k0_t1_loop.trips) : BitVec 32 := Scf.iv 0#32 1#32 k.val

/-- Tile `j` of trip `k`. -/
def tileK (k : Fin k0_t1_loop.trips) (j : ℕ) (hj : j < 32) (raw xs : V48 F) (t cidx ctile : I48) (s : V48 F × V48 F) :
    P F (V48 F × V48 F) :=
  tile (k0_off7 k (BitVec.ofNat 32 j)) (off7_in k j hj) ![0, 128 * j] (neg_in j hj)
    (fun r => k0_off8 k (BitVec.ofNat 32 (9496 * r.val + j))) (off8_in k j hj)
    (BitVec.ofNat 32 (2 ^ j)) (BitVec.ofNat 32 j) raw xs t cidx ctile s

/-- Pair `p` of trip `k`: one contraction of 256 columns of the trip's slot, then its two tiles. -/
def pairK (k : Fin k0_t1_loop.trips) (p : ℕ) (hp : p < 16) (xs : V48 F) (t cidx ctile : I48) (s : V48 F × V48 F) :
    P F (V48 F × V48 F) := do
  let l : Vec F S64x1024 .fp8e4m3 ← Prog.lift (.load mLhs (Rect.unit (s := S64x1024) ![0, 0] S64x1024.size inb_S64x1024_S64x1024_0_0).toLoadRect (View.loadsAt_vmem h_S64x1024))
  let w : Vec F S1024x256 .fp8e4m3 ← Prog.lift (.load (slotAt (k0_off2 k) (k0_off2_inb k)) (Rect.unit (s := S1024x4096) ![0, 256 * p] S1024x256.size (pair_in p hp)).toLoadRect (View.loadsAt_vmem h_S1024x256))
  let s₁ ← tileK k (2 * p) (by omega) (extractStridedSlice S48x128 ![0, 0] (matmul dot_S64x1024_S1024x256_S64x256_1_0_0_1_n_n none l w (constant S64x256 .f32 0x00000000#32)) slices_S64x256_o0_0_S48x128) xs t cidx ctile s
  tileK k (2 * p + 1) (by omega) (extractStridedSlice S48x128 ![0, 128] (matmul dot_S64x1024_S1024x256_S64x256_1_0_0_1_n_n none l w (constant S64x256 .f32 0x00000000#32)) slices_S64x256_o0_128_S48x128) xs t cidx ctile s₁

/-- Pairs `p … p + n - 1` of trip `k`. -/
def pairsK (k : Fin k0_t1_loop.trips) (xs : V48 F) (t cidx ctile : I48) :
    (n p : ℕ) → (p + n ≤ 16) → V48 F × V48 F → P F (V48 F × V48 F)
  | 0, _, _, s => pure s
  | n + 1, p, h, s => do
    let s₁ ← pairK k p (by omega) xs t cidx ctile s
    pairsK k xs t cidx ctile n (p + 1) (by omega) s₁

/-- The chunk's sum of exponentials: tiles `j … j + n - 1` of the block of masked logits added to `a`. -/
def sumsK (h : V48 F) : (n j : ℕ) → (j + n ≤ 32) → V48 F → P F (V48 F)
  | 0, _, _, a => pure a
  | n + 1, j, hj, a => do
    let v : Vec F S48x128 .f32 ← Prog.lift (.load mNeg (Rect.unit (s := S48x4096) ![0, 128 * j] S48x128.size (neg_in j (by omega))).toLoadRect (View.loadsAt_vmem h_S48x128))
    sumsK h n (j + 1) (by omega) (addf a (exp (subf v h)))

/-- Words to bits: a block of 128 mask words, every 32×32 block of bits transposed. -/
def unpack (lane : I48) (words : Vec F S48x128 .i32) : I48 :=
  let step (v : I48) (d lo hi : BitVec 32) : I48 :=
    let first : IVec S48x128 1 := cmpi .eq (andi (andi lane (broadcast S48x128 31#32)) (broadcast S48x128 d)) (broadcast S48x128 0#32)
    let keep : I48 := select first (broadcast S48x128 lo) (broadcast S48x128 hi)
    let other : I48 := pick (F := F) (α := .i32) v (xori lane (broadcast S48x128 d))
    ori (andi v keep) (andi (select first (shli other (broadcast S48x128 d)) (shrui other (broadcast S48x128 d)))
      (xori keep (constantI S48x128 32 4294967295#32)))
  let v₀ : I48 := pick (F := F) (α := .i32) words (addi (muli (andi lane (broadcast S48x128 31#32)) (broadcast S48x128 4#32)) (shrsi lane (broadcast S48x128 5#32)))
  let v₁ := step v₀ 16#32 65535#32 4294901760#32
  let v₂ := step v₁ 8#32 16711935#32 4278255360#32
  let v₃ := step v₂ 4#32 252645135#32 4042322160#32
  let v₄ := step v₃ 2#32 858993459#32 3435973836#32
  step v₄ 1#32 1431655765#32 2863311530#32

/-- The block's words the candidates' columns lie in, for those whose chunk this is. -/
def cwordOf (words : Vec F S48x128 .i32) (chunk : BitVec 32) (ctile cidx old : I48) : I48 :=
  select (cmpi .eq (shrsi ctile (broadcast S48x128 5#32)) (broadcast S48x128 chunk))
    (pick (F := F) (α := .i32) words (andi (ori (shli ctile (broadcast S48x128 2#32)) (shrsi cidx (broadcast S48x128 5#32))) (broadcast S48x128 127#32))) old

/-- The row maximum of a block, on every lane. -/
def rowMax (v : V48 F) : V48 F :=
  broadcastTo S48x128 (shapeCast S48x1 (shapeCast S48x1 (multiReduction .maximumf [1] S48 v 0xFF800000#32 reduces_S48x128_S48 (.inl rfl) rfl) shapeCasts_S48_S48x1) shapeCasts_S48x1_S48x1) broadcasts_S48x1_S48x128
/-- The row sum of a block, on every lane. -/
def rowSum (v : V48 F) : V48 F :=
  broadcastTo S48x128 (shapeCast S48x1 (shapeCast S48x1 (multiReduction .add [1] S48 v 0x00000000#32 reduces_S48x128_S48 (.inl rfl) rfl) shapeCasts_S48_S48x1) shapeCasts_S48x1_S48x1) broadcasts_S48x1_S48x128
/-- A block with what is not finite replaced by zero. -/
def finiteOf (v : V48 F) : V48 F :=
  select (cmpf .olt (absf v) (broadcast S48x128 (Scalar.ofBits .f32 0x7F800000#32))) v (broadcast S48x128 (Scalar.ofBits .f32 0x00000000#32))

abbrev ld48 {α : EltTy} (m : Memref sig .tc .vmem S48x128 α) : P F (Vec F S48x128 α) :=
  Prog.lift (.load m (Rect.unit (s := S48x128) ![0, 0] S48x128.size inb_S48x128_S48x128_0_0).toLoadRect (View.loadsAt_vmem h_S48x128))
abbrev st48f (m : Memref sig .tc .vmem S48x128 .f32) (v : V48 F) : P F PUnit :=
  Prog.lift (.store m (Rect.unit (s := S48x128) ![0, 0] S48x128.size inb_S48x128_S48x128_0_0) (shapeCast S48x128 v shapeCasts_S48x128_S48x128) Finset.univ (View.stores_vmem_bits_univ h_S48x128 rfl) (.inl rfl))
abbrev st48i (m : Memref sig .tc .vmem S48x128 .i32) (v : I48) : P F PUnit :=
  Prog.lift (.store m (Rect.unit (s := S48x128) ![0, 0] S48x128.size inb_S48x128_S48x128_0_0) (shapeCast S48x128 v shapeCasts_S48x128_S48x128) Finset.univ (View.stores_vmem_bits_univ h_S48x128 rfl) (.inl rfl))

/-- After a chunk's tiles: the candidates' logits stored, the chunk's maximum and its sum of exponentials into
    lane `c` of the two blocks of chunk statistics. -/
def stats (n : ℕ) (hn : 0 + n ≤ 32) (lane : I48) (c : BitVec 32) (s : V48 F × V48 F) : P F PUnit := do
  let _v ← ld48 mCacc
  st48f mCacc s.2
  let a ← sumsK (finiteOf (rowMax s.1)) n 0 hn (broadcast S48x128 (Scalar.ofBits .f32 0x00000000#32))
  let m ← ld48 mMst
  let _v ← ld48 mMst
  st48f mMst (select (cmpi .eq lane (broadcast S48x128 c)) (rowMax s.1) m)
  let q ← ld48 mSst
  let _v ← ld48 mSst
  st48f mSst (select (cmpi .eq lane (broadcast S48x128 c)) (rowSum a) q)

/-- The DMA cells: inputs, weight chunks, the two halves of the output block, the other results. -/
abbrev inSems : DmaSems sig S5 := cc0_scratch25
abbrev wSems : DmaSems sig S5 := cc0_scratch26
abbrev oSems : DmaSems sig S2 := cc0_scratch27
abbrev sSems : DmaSems sig S6 := cc0_scratch28
abbrev wCell (off : Fin 1 → ℕ) (h : ∀ a, off a + S1.size a ≤ S5.size a) : DmaSems sig S_ :=
  (wSems.slice (Rect.unit (s := S5) off S1.size h)).squeeze S_ squeezes_S1_S_
abbrev inCell (off : Fin 1 → ℕ) (h : ∀ a, off a + S1.size a ≤ S5.size a) : DmaSems sig S_ :=
  (inSems.slice (Rect.unit (s := S5) off S1.size h)).squeeze S_ squeezes_S1_S_
abbrev oCell (off : Fin 1 → ℕ) (h : ∀ a, off a + S1.size a ≤ S2.size a) : DmaSems sig S_ :=
  (oSems.slice (Rect.unit (s := S2) off S1.size h)).squeeze S_ squeezes_S1_S_
abbrev sCell (off : Fin 1 → ℕ) (h : ∀ a, off a + S1.size a ≤ S6.size a) : DmaSems sig S_ :=
  (sSems.slice (Rect.unit (s := S6) off S1.size h)).squeeze S_ squeezes_S1_S_

/-- The first 1120 tiles of the output block, and where they go. -/
abbrev bulkSrc : Memref sig .tc .vmem S48x1120x1x128 .f32 :=
  mOut.slice (Rect.unit (s := S48x1187x1x128) ![0, 0, 0, 0] S48x1120x1x128.size inb_S48x1187x1x128_S48x1120x1x128_0_0_0_0) (fun _ => rfl)
abbrev bulkDst : Memref sig .tc .hbm S48x1120x1x128 .f32 :=
  hOut.slice (Rect.unit (s := S48x1187x1x128) ![0, 0, 0, 0] S48x1120x1x128.size inb_S48x1187x1x128_S48x1120x1x128_0_0_0_0) (fun _ => rfl)

/-- The bits of the next chunk's mask words into the other of two blocks, and the candidates' words. -/
def nextWords (lane : I48) (k : Fin k0_t1_loop.trips) : P F PUnit := do
  let words : Vec F S48x128 .i32 ← Prog.lift (.load mMask (Rect.unit (s := S48x4864) (k0_off4 k) S48x128.size (k0_off4_inb k)).toLoadRect (View.loadsAt_vmem h_S48x128))
  let _v ← Prog.lift (.load mBits (Rect.unit (s := S2x48x128) (k0_off5 k) S1x48x128.size (k0_off5_inb k)).toLoadRect (View.loadsAt_vmem h_S1x48x128))
  Prog.lift (.store mBits (Rect.unit (s := S2x48x128) (k0_off5 k) S1x48x128.size (k0_off5_inb k)) (shapeCast S1x48x128 (unpack (F := F) lane words) shapeCasts_S48x128_S1x48x128) Finset.univ (View.stores_vmem_bits_univ h_S1x48x128 rfl) (.inl rfl))
  let ctile ← ld48 mCtile
  let cidx ← ld48 mCidx
  let old ← ld48 mCword
  let _v ← ld48 mCword
  st48i mCword (cwordOf words (Scalar.addi (ivOf k) 1#32) ctile cidx old)

/-- A trip's tiles, from the blocks they read, and its statistics. -/
def tiles (lane : I48) (k : Fin k0_t1_loop.trips) : P F PUnit := do
  let xs ← ld48 mXs
  let t : Vec F S1x48x128 .i32 ← Prog.lift (.load mBits (Rect.unit (s := S2x48x128) (k0_off6 k) S1x48x128.size (k0_off6_inb k)).toLoadRect (View.loadsAt_vmem h_S1x48x128))
  let cidx ← ld48 mCidx
  let ctile ← ld48 mCtile
  let cacc ← ld48 mCacc
  let s ← pairsK k xs (shapeCast S48x128 t shapeCasts_S1x48x128_S48x128) cidx (subi ctile (broadcast S48x128 (Scalar.muli (ivOf k) 32#32))) 16 0 (by omega)
    (broadcast S48x128 (Scalar.ofBits .f32 0xFF800000#32), cacc)
  stats 32 (by omega) lane (ivOf k) s

/-- A trip of the chunk loop. -/
def trip (lane : I48) (k : Fin k0_t1_loop.trips) : P F PUnit := do
  Prog.lift (.waitDma2 (wCell (k0_off1 k) (k0_off1_inb k)).sem (colsAt (k0_off3 k) (k0_off3_inb k)) (slotAt (k0_off2 k) (k0_off2_inb k))
    ((Memref.isWhole_whole _).wordExact_slice rfl _ (k0_off3_wordsfp8e4m3 k)) (((Memref.isWhole_whole _).wordExact_slice rfl _ (k0_off2_wordsfp8e4m3 k)).reshape _ _))
  if _h : Scalar.cmpi .ne (Scalar.extui (Scalar.cmpi .eq (ivOf k) 35#32) : BitVec 32) 0#32 = 1#1 then do
    Prog.lift (.enqueueDma bulkSrc (.here bulkDst) (.dma (oCell ![0] inb_S2_S1_0).sem) (View.wordExact_bits rfl) (View.wordExact_bits rfl) ⟨Or.inl rfl, trivial⟩)
    pure ⟨⟩
  else pure ⟨⟩
  nextWords lane k
  tiles lane k
  if k0_h2 : k0_cond2 k = 1#1 then do
    Prog.lift (.enqueueDma (colsAt (k0_off11 k) (k0_off11_inb k k0_h2)) (.here (slotAt (k0_off10 k) (k0_off10_inb k k0_h2))) (.dma (wCell (k0_off9 k) (k0_off9_inb k k0_h2)).sem)
      ((Memref.isWhole_whole _).wordExact_slice rfl _ (k0_off11_wordsfp8e4m3 k k0_h2)) (((Memref.isWhole_whole _).wordExact_slice rfl _ (k0_off10_wordsfp8e4m3 k k0_h2)).reshape _ _) ⟨Or.inl rfl, trivial⟩)
    pure ⟨⟩
  else pure ⟨⟩
  pure ⟨⟩

end Cert.Kernel.Hand

end
-- ==== Proof.Rules.lean ====
/- The rules of the body's operations on memrefs owned at known contents: what a load yields, what a store leaves, and
   a local copy from its issue to its wait. -/
module

public import proofs.«01_k».proof.Proof.Body
public import Idealize.ShloMosaic.Lib.Memref
public import Idealize.ShloMosaic.Lib.Transfers
public import Idealize.ShloMosaic.Lib.Pipeline.FrameBody
public import Idealize.ShloMosaic.Lib.Tactic

@[expose] public section

set_option maxRecDepth 65536

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

/-- The proof's algebra. -/
local notation "𝕄" => MT nD τ sig Unit (Elt F) ℕ (Pipeline.UD sig nD τ) ℕ

/-- What a piece of the body establishes. -/
abbrev wpk {α : Type} (c : Dev nD) (p : P F α) (Q : α → sProp 𝕄) : sProp 𝕄 :=
  wp frame (wpE (defs₀ (F := F)) Variants.none (c : Thread nD τ) none) Set.univ p Q

variable {c : Dev nD} {sp : Space} {s : Shape} {e : EltTy}

theorem wpk_bind {α β : Type} (p : P F α) (k : α → P F β) (Q : β → sProp 𝕄) : wpk c (p >>= k) Q = wpk c p (fun a => wpk c (k a) Q) :=
  wp_bind _ _ _ p k Q

theorem wpk_pure {α : Type} (a : α) (Q : α → sProp 𝕄) : Q a ⊢ wpk c (pure a : P F α) Q := by
  unfold wpk; rw [wp_pure]; iintro H; imodintro; iexact H

/-- Owning a memref at `X`. -/
abbrev own (c : Dev nD) {sp : Space} {s : Shape} {e : EltTy} (m : Memref sig .tc sp s e) (X : s.Idx → Elt F e) : sProp 𝕄 :=
  owns (c : Thread nD τ) m fullShare X

/-- Owning a memref at some contents. -/
abbrev any (c : Dev nD) {sp : Space} {s : Shape} {e : EltTy} (m : Memref sig .tc sp s e) : sProp 𝕄 :=
  iprop(∃ X : s.Idx → Elt F e, own c m X)

theorem any_of (m : Memref sig .tc sp s e) (X : s.Idx → Elt F e) : own c m X ⊢ (any c m : sProp 𝕄) := by
  iintro H; iexists X; iexact H

/-! ## Loads -/

theorem ld {cs : CoreSpace} {m : Memref sig .tc cs s e} {r : LoadRect s} {hl : m.view.LoadsAt r}
    {q : PosShare TreeShare} {X : s.Idx → Elt F e} {Q : (r.shape.Idx → Elt F e) → sProp 𝕄} :
    owns (c : Thread nD τ) m q X
      ⊢ iprop((owns (c : Thread nD τ) m q X -∗ Q (fun x => X (r.idx x))) -∗ wpk c (Prog.lift (.load m r hl)) Q) := by
  unfold owns
  iintro ⟨%f, %hf, H⟩ HQ
  subst hf
  iapply (wp_load (defs := defs₀ (F := F)) (α := r.shape.Idx → Elt F e) Variants.none (c : Thread nD τ) none Set.univ (m := m) (r := r) (hl := hl) (k := Prog.ret)
    (S := m.view.set) (q := q) (f := f) (by
      exact m.view.setOn_subset_set _)) $$ H
  iintro H
  rw [wp_ret]
  imodintro
  ihave HQ' := HQ $$ [H]
  · iexists f
    isplitr; · ipureintro; rfl
    iexact H
  exact .rfl

/-- A rectangle that is all of its shape places every index at itself. -/
theorem idx_full {off : Fin s.rank → ℕ} {h : ∀ a, off a + s.size a ≤ s.size a} (x : s.Idx) :
    (Rect.unit off s.size h).toLoadRect.idx x = x := by
  funext a; apply Fin.ext
  rw [LoadRect.idx_apply]
  have := h a
  show off a + 1 * (x a).val = _
  omega

/-- A load of all of a memref. -/
theorem ldF {cs : CoreSpace} {m : Memref sig .tc cs s e} {off : Fin s.rank → ℕ} {h : ∀ a, off a + s.size a ≤ s.size a}
    {hl : m.view.LoadsAt (Rect.unit off s.size h).toLoadRect} {q : PosShare TreeShare} {X : s.Idx → Elt F e} {Q : (s.Idx → Elt F e) → sProp 𝕄} :
    owns (c : Thread nD τ) m q X
      ⊢ iprop((owns (c : Thread nD τ) m q X -∗ Q X) -∗ wpk c (Prog.lift (.load m (Rect.unit off s.size h).toLoadRect hl)) Q) := by
  have e : (fun x : s.Idx => X ((Rect.unit off s.size h).toLoadRect.idx x)) = X := funext fun x => congrArg X (idx_full x)
  have := ld (c := c) (m := m) (r := (Rect.unit off s.size h).toLoadRect) (hl := hl) (q := q) (X := X) (Q := Q)
  rw [show (fun x => X ((Rect.unit off s.size h).toLoadRect.idx x)) = X from e] at this
  exact this

theorem ldAny {cs : CoreSpace} {m : Memref sig .tc cs s e} {r : LoadRect s} {hl : m.view.LoadsAt r}
    {Q : (r.shape.Idx → Elt F e) → sProp 𝕄} :
    any c m ⊢ iprop((∀ v, any c m -∗ Q v) -∗ wpk c (Prog.lift (.load m r hl)) Q) := by
  iintro ⟨%X, H⟩ HQ
  iapply ld $$ H
  iintro H
  iapply HQ
  iexists X; iexact H

/-! ## Stores -/

/-- Contents with a rectangle's elements replaced. -/
def upd {α : Type} (X : s.Idx → α) (r : Rect s) (w : r.shape.Idx → α) : s.Idx → α :=
  fun y => match preimage? r.emb y with
    | some x => w x
    | none => X y

theorem upd_emb {α : Type} (X : s.Idx → α) (r : Rect s) (w : r.shape.Idx → α) (x : r.shape.Idx) : upd X r w (r.emb x) = w x := by
  simp [upd, preimage?_emb]

theorem upd_off {α : Type} (X : s.Idx → α) (r : Rect s) (w : r.shape.Idx → α) (y : s.Idx) (h : ∀ x, r.emb x ≠ y) : upd X r w y = X y := by
  simp [upd, preimage?_eq_none h]

theorem upd_full {α : Type} (X : s.Idx → α) {off : Fin s.rank → ℕ} {h : ∀ a, off a + s.size a ≤ s.size a} (w : s.Idx → α) :
    upd X (Rect.unit off s.size h) w = w := by
  funext y
  have e : (Rect.unit off s.size h).emb y = y := idx_full y
  have := upd_emb X (Rect.unit off s.size h) w y
  rwa [e] at this

theorem st {cs : CoreSpace} {m : Memref sig .tc cs s e} {r : Rect s} {w : r.shape.Idx → Elt F e}
    {hx : (m.access r).Stores Finset.univ} {hm : Finset.univ = Finset.univ ∨ ∀ a, r.stride a = 1}
    {X : s.Idx → Elt F e} {Q : PUnit → sProp 𝕄} :
    own c m X ⊢ iprop((own c m (upd X r w) -∗ Q ⟨⟩) -∗ wpk c (Prog.lift (.store m r w Finset.univ hx hm)) Q) := by
  unfold own owns
  iintro ⟨%f, %hf, H⟩ HQ
  subst hf
  iapply (wp_store (defs := defs₀ (F := F)) (α := PUnit) Variants.none (c : Thread nD τ) none Set.univ (m := m) (r := r) (w := w) (hx := hx) (hm := hm) (k := Prog.ret)
    (S := m.view.set) (f := f) (m.view.set_slice_subset r)) $$ H
  iintro H
  rw [wp_ret]
  imodintro
  ihave HQ' := HQ $$ [H]
  · iexists (m.access r).write (Elt F) f w Finset.univ
    isplitr
    · ipureintro
      funext y
      by_cases hy : ∃ x, r.emb x = y
      · obtain ⟨x, rfl⟩ := hy
        rw [upd_emb]
        exact View.read_slice_write_emb r f w (Finset.mem_univ x)
      · rw [upd_off _ _ _ _ (fun x hx => hy ⟨x, hx⟩)]
        exact View.read_slice_write_of_not_mem r f w _ (fun hm => hy (by
          obtain ⟨x, _, hx⟩ := Finset.mem_map.mp hm; exact ⟨x, hx⟩))
    · iexact H
  exact .rfl

theorem stAny {cs : CoreSpace} {m : Memref sig .tc cs s e} {r : Rect s} {w : r.shape.Idx → Elt F e}
    {hx : (m.access r).Stores Finset.univ} {hm : Finset.univ = Finset.univ ∨ ∀ a, r.stride a = 1}
    {Q : PUnit → sProp 𝕄} :
    any c m ⊢ iprop((any c m -∗ Q ⟨⟩) -∗ wpk c (Prog.lift (.store m r w Finset.univ hx hm)) Q) := by
  iintro ⟨%X, H⟩ HQ
  iapply st $$ H
  iintro H
  iapply HQ
  iexists _; iexact H

/-- A store of all of a memref. -/
theorem stF {cs : CoreSpace} {m : Memref sig .tc cs s e} {off : Fin s.rank → ℕ} {h : ∀ a, off a + s.size a ≤ s.size a} {w : s.Idx → Elt F e}
    {hx : (m.access (Rect.unit off s.size h)).Stores Finset.univ} {hm : Finset.univ = Finset.univ ∨ ∀ a, (Rect.unit off s.size h).stride a = 1}
    {Q : PUnit → sProp 𝕄} :
    any c m ⊢ iprop((own c m w -∗ Q ⟨⟩) -∗ wpk c (Prog.lift (.store m (Rect.unit off s.size h) w Finset.univ hx hm)) Q) := by
  iintro ⟨%X, H⟩ HQ
  iapply st $$ H
  rw [upd_full]
  iintro H
  iapply HQ
  iexact H

/-! ## Copies -/

/-- A copy in flight on a cell, and what its wait delivers. -/
abbrev flight (c : Dev nD) (sm : SemLoc sig) (N : ℕ) (D : sProp 𝕄) : sProp 𝕄 :=
  Transfers.Flight (countersEmb (U := Pipeline.UD sig nD τ)) (c : Thread nD τ) sm () N D

/-- What the core owes, whatever waits it has recorded. -/
abbrev due (c : Dev nD) : sProp 𝕄 := iprop(∃ W, owes (c : Thread nD τ) 0 W)

theorem flight_mono {sm : SemLoc sig} {N : ℕ} {D D' : sProp 𝕄} (h : D ⊢ D') : flight c sm N D ⊢ flight c sm N D' :=
  Transfers.Flight_mono _ _ h

theorem copy {sp' : Space} {src : Memref sig .tc sp s e} {dst : Memref sig .tc sp' s e} {sm : SemLoc sig}
    {hsrc : src.view.WordExact} {hdst : dst.view.WordExact} {hsem : DmaTarget.Typed sp sm (.here dst : DmaTarget nD τ sig .tc sp' s e)}
    {q : PosShare TreeShare} {fs : Buf (Elt F) (src.view.loc (c : Thread nD τ))} (h0 : 0 < s.numel) {Q : PUnit → sProp 𝕄} :
    iprop((src.view.loc (c : Thread nD τ) ↦[src.view.set]{q} fs) ∗ any c dst ∗ semVal ((c : Thread nD τ), sm) 0)
      ⊢ iprop((flight c sm (dst.view.amount sm) iprop(own c dst (src.view.read (Elt F) fs) ∗ (src.view.loc (c : Thread nD τ) ↦[src.view.set]{q} fs)) -∗ Q ⟨⟩)
        -∗ wpk c (Prog.lift (.enqueueDma src (.here dst) sm hsrc hdst hsem)) Q) := by
  iintro ⟨Hs, ⟨%X, Hd⟩, Hv⟩ HQ
  unfold own owns
  icases Hd with ⟨%fd, -, Hd⟩
  iapply (Transfers.wp_dmaLocal (defs := defs₀ (F := F)) (α := PUnit) (countersEmb (U := Pipeline.UD sig nD τ)) Variants.none (c : Thread nD τ) none
    (src := src) (dst := dst) (via := .same) (sm := sm) (hsrc := hsrc) (hdst := hdst) (hsem := hsem) (k := Prog.ret) (q := q) (fs := fs) (fd := fd)
    () (dst.view.amount sm) rfl (View.amount_pos _ _ h0) (Finset.Subset.refl _)) $$ [Hs Hd Hv]
  · isplitl [Hs]; · iexact Hs
    isplitl [Hd] <;> iassumption
  iintro H
  rw [wp_ret]
  imodintro
  iapply HQ
  iapply (flight_mono ?_) $$ H
  iintro ⟨Hd, Hs⟩
  isplitl [Hd]
  · iexists _
    isplitr
    rotate_left
    · iexact Hd
    · ipureintro; exact (View.read_write_univ _ _).trans rfl
  · iexact Hs

theorem wait {sp' : Space} {s' : Shape} {e' : EltTy} {sem : DmaSem sig} {src : Memref sig .tc sp' s' e'} {dst : Memref sig .tc sp s e}
    {hsrc : src.view.WordExact} {hdst : dst.view.WordExact} {N : ℕ} (hN : dst.view.dmaCredit = N) {D : sProp 𝕄} {Q : PUnit → sProp 𝕄} :
    iprop(flight c (.dma sem) N D ∗ due c)
      ⊢ iprop((iprop(D ∗ semVal ((c : Thread nD τ), .dma sem) 0 ∗ due c) -∗ Q ⟨⟩)
        -∗ wpk c (Prog.lift (.waitDma2 sem src dst hsrc hdst)) Q) := by
  iintro ⟨Hf, ⟨%W, HW⟩⟩ HQ
  iapply (Transfers.wp_waitLocal (defs := defs₀ (F := F)) (α := PUnit) (countersEmb (U := Pipeline.UD sig nD τ)) Variants.none (c : Thread nD τ) none
    (srcw := src) (dstw := dst) (hsrc := hsrc) (hdst := hdst) (k := Prog.ret) () hN (D := D) (W := W)) $$ [Hf HW]
  · isplitl [Hf] <;> iassumption
  iintro ⟨HD, Hv, HW⟩
  rw [wp_ret]
  imodintro
  iapply HQ
  isplitl [HD]; · iexact HD
  isplitl [Hv]; · iexact Hv
  iexists _; iexact HW

end Cert.Kernel.Hand

end
-- ==== Proof.Tile.lean ====
/- One tile: eight tokens' rows at a time, its masked logits are stored into the output block's tile, and nothing else
   of the output block changes. -/
module

public import proofs.«01_k».proof.Proof.Rules
public import Idealize.ShloMosaic.Lib.ValueIdxCoords
public import Idealize.ShloMosaic.Lib.Pipeline.Value

@[expose] public section

set_option maxRecDepth 65536

noncomputable section

namespace Cert.Kernel.Hand

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (Pipeline.UD sig nD τ) ℕ

variable {c : Dev nD}

/-- The contents of the output block. -/
abbrev OBuf (F : FTy → Type) [FloatOps F] := S48x1187x1x128.Idx → Elt F .f32
/-- The output block's elements `S`, at `f`. -/
abbrev outPt (c : Dev nD) (S : Finset S48x1187x1x128.Idx) (f : OBuf F) : sProp 𝕄 :=
  (mOut.view.loc (c : Thread nD τ) ↦[S]{fullShare} (f : Buf (Elt F) (mOut.view.loc (c : Thread nD τ))))

/-- Where a slab's element lies in the output block. -/
theorem slab_emb (r T : ℕ) (hr : r < 6) (hT : T < 1187) (off : Fin 2 → ℕ) (hoff : off = ![9496 * r + T, 0])
    (h : ∀ a, S8x128.size a = 0 ∨ off a + (![1187, 1] : Fin 2 → ℕ) a * (S8x128.size a - 1) < S56976x128.size a)
    (x : S8x128.Idx) :
    (mOutRows.access ⟨(⟨off, S8x128.size, ![1187, 1], h⟩ : LoadRect S56976x128), spos_1187_1⟩).emb x
      = ix4 (⟨8 * r + (x 0).val, by have : (x 0).val < 8 := (x 0).isLt; omega⟩ : Fin 48) (⟨T, hT⟩ : Fin 1187) (0 : Fin 1) (⟨(x 1).val, (x 1).isLt⟩ : Fin 128) := by
  subst hoff
  refine Shape.reshapeEquiv_eq_of_rowMajor (s := S48x1187x1x128) (s' := S56976x128) _ ?_
  refine (Shape.rowMajor_val_four _).trans (Eq.trans ?_ (Shape.rowMajor_val_two _).symm)
  have h0 : (x 0).val < 8 := (x 0).isLt
  have h1 : (x 1).val < 128 := (x 1).isLt
  show ((8 * r + (x 0).val) * 1187 + T) * 1 * 128 + 0 * 128 + (x 1).val = (9496 * r + T + 1187 * (x 0).val) * 128 + (0 + 1 * (x 1).val)
  omega

/-- One slab stored: eight tokens' rows of tile `T` hold it, the rest of the block is as it was. -/
theorem storeSlab_spec (r T : ℕ) (hr : r < 6) (hT : T < 1187) {off : Fin 2 → ℕ} (hoff : off = ![9496 * r + T, 0])
    {h : ∀ a, S8x128.size a = 0 ∨ off a + (![1187, 1] : Fin 2 → ℕ) a * (S8x128.size a - 1) < S56976x128.size a}
    {w : FVec F S8x128 .f32} {S : Finset S48x1187x1x128.Idx} (hS : ∀ i : S48x1187x1x128.Idx, (i 1).val = T → i ∈ S)
    {f : OBuf F} {Q : PUnit → sProp 𝕄} :
    outPt c S f ⊢ iprop((∀ f', ⌜(∀ (x : S8x128.Idx) (i : S48x1187x1x128.Idx), (i 0).val = 8 * r + (x 0).val → (i 1).val = T → (i 3).val = (x 1).val → f' i = w x)
          ∧ ∀ i : S48x1187x1x128.Idx, ¬ ((i 0).val / 8 = r ∧ (i 1).val = T) → f' i = f i⌝ -∗ outPt c S f' -∗ Q ⟨⟩)
        -∗ wpk c (storeSlab off h w) Q) := by
  have hset : (mOutRows.access ⟨(⟨off, S8x128.size, ![1187, 1], h⟩ : LoadRect S56976x128), spos_1187_1⟩).set ⊆ S := by
    intro i hi
    obtain ⟨x, _, rfl⟩ := Finset.mem_map.mp hi
    apply hS
    rw [slab_emb r T hr hT off hoff h x]
  unfold storeSlab
  rw [wpk_bind]
  iintro H HQ
  iapply (wp_load (defs := defs₀ (F := F)) (α := S8x128.Idx → Elt F .f32) Variants.none (c : Thread nD τ) none Set.univ (m := mOutRows)
    (r := (⟨off, S8x128.size, ![1187, 1], h⟩ : LoadRect S56976x128)) (k := Prog.ret) (S := S) (q := fullShare) (f := f)
    (by
      intro i hi; apply hset
      rw [View.set_slice]; exact hi)) $$ H
  iintro H
  rw [wp_ret]
  imodintro
  iapply (wp_store (defs := defs₀ (F := F)) (α := PUnit) Variants.none (c : Thread nD τ) none Set.univ (m := mOutRows)
    (r := ⟨(⟨off, S8x128.size, ![1187, 1], h⟩ : LoadRect S56976x128), spos_1187_1⟩) (k := Prog.ret) (S := S) (f := f) hset) $$ H
  iintro H
  rw [wp_ret]
  imodintro
  ihave HQ := HQ $$ %_ [] H
  rotate_left
  · exact .rfl
  · ipureintro
    constructor
    · intro x i h0 h1 h3
      have e : i = (mOutRows.access ⟨(⟨off, S8x128.size, ![1187, 1], h⟩ : LoadRect S56976x128), spos_1187_1⟩).emb x := by
        rw [slab_emb r T hr hT off hoff h x]
        rw [eq_ix4 i]
        funext a
        match a with
        | ⟨0, _⟩ => exact Fin.ext h0
        | ⟨1, _⟩ => exact Fin.ext h1
        | ⟨2, _⟩ => exact Subsingleton.elim (α := Fin 1) _ _
        | ⟨3, _⟩ => exact Fin.ext h3
      rw [e]
      refine (View.write_emb_of_mem _ _ (Finset.mem_univ x)).trans ?_
      show shapeCast S8x128 w shapeCasts_S8x128_S8x128 x = w x
      rw [shapeCast_self]
    · intro i hi
      refine View.write_of_not_mem _ _ _ ?_
      intro hm
      obtain ⟨x, _, hx⟩ := Finset.mem_map.mp hm
      apply hi
      rw [← hx, slab_emb r T hr hT off hoff h x]
      have h0 : (x 0).val < 8 := (x 0).isLt
      constructor
      · show (8 * r + (x 0).val) / 8 = r; omega
      · rfl

/-- An element of the output block as an element of its tile. -/
abbrev inTile (i : S48x1187x1x128.Idx) : S48x128.Idx := ix2 (⟨(i 0).val, (i 0).isLt⟩ : Fin 48) (⟨(i 3).val, (i 3).isLt⟩ : Fin 128)

/-- The block holds `M` as tile `T`. -/
def Filled (f : OBuf F) (T : Fin 1187) (M : V48 F) : Prop := ∀ i : S48x1187x1x128.Idx, (i 1).val = T.val → f i = M (inTile i)

/-- Row `T` of the column scales. -/
def scalesRow (X : S1187x128.Idx → Elt F .f32) (T : Fin 1187) : Vec F S1x128 .f32 := fun x => X (ix2 T (⟨(x 1).val, (x 1).isLt⟩ : Fin 128))

theorem slab_slice (r : ℕ) (hr : r < 6) (M : V48 F) (h : S48x128.Slices ![8 * r, 0] S8x128) (x : S8x128.Idx) (i : S48x1187x1x128.Idx)
    (h0 : (i 0).val = 8 * r + (x 0).val) (h3 : (i 3).val = (x 1).val) :
    extractStridedSlice S8x128 ![8 * r, 0] M h x = M (inTile i) := by
  refine extractStridedSlice_apply _ _ _ _ _ fun a => ?_
  match a with
  | ⟨0, _⟩ => exact h0
  | ⟨1, _⟩ => exact h3.trans (Nat.zero_add _).symm

/-- A tile, once run: its masked logits are the output block's tile `T`, which alone has changed; its logits with `-∞` for
    every refused column are stored beside the others and taken into the running maximum. -/
theorem tile_spec (T : Fin 1187) {woff : Fin 2 → ℕ} {hw : ∀ a, woff a + S1x128.size a ≤ S1187x128.size a} (hwoff : woff = ![T.val, 0])
    {noff : Fin 2 → ℕ} {hn : ∀ a, noff a + S48x128.size a ≤ S48x4096.size a}
    {ooff : Fin 6 → Fin 2 → ℕ} (hooff : ∀ r, ooff r = ![9496 * r.val + T.val, 0])
    {ho : ∀ r, ∀ a, S8x128.size a = 0 ∨ ooff r a + (![1187, 1] : Fin 2 → ℕ) a * (S8x128.size a - 1) < S56976x128.size a}
    {bit j : BitVec 32} {raw xs : V48 F} {t cidx ctile : I48} {s : V48 F × V48 F}
    {X : S1187x128.Idx → Elt F .f32} {S : Finset S48x1187x1x128.Idx} (hS : ∀ i : S48x1187x1x128.Idx, (i 1).val = T.val → i ∈ S)
    {f : OBuf F} {N : S48x4096.Idx → Elt F .f32} {Q : V48 F × V48 F → sProp 𝕄} :
    iprop(own c mWs X ∗ own c mNeg N ∗ outPt c S f)
      ⊢ iprop((∀ r, iprop(own c mWs X ∗ own c mNeg (upd N (Rect.unit (s := S48x4096) noff S48x128.size hn) (negOf (okOf t bit) (lgOf raw xs (scalesRow X T))))
            ∗ (∃ f', ⌜(Filled f' T (maskedOf (okOf t bit) (lgOf raw xs (scalesRow X T)))
                ∧ ∀ i : S48x1187x1x128.Idx, (i 1).val ≠ T.val → f' i = f i)
              ∧ r.1 = maximumf s.1 (negOf (okOf t bit) (lgOf raw xs (scalesRow X T)))⌝ ∗ outPt c S f')) -∗ Q r)
        -∗ wpk c (tile woff hw noff hn ooff ho bit j raw xs t cidx ctile s) Q) := by
  unfold tile
  simp only [wpk_bind]
  iintro ⟨HW, HN, HO⟩ HQ
  iapply ld $$ HW
  iintro HW
  have hws : (fun x => X ((Rect.unit (s := S1187x128) woff S1x128.size hw).toLoadRect.idx x)) = scalesRow X T := by
    subst hwoff
    funext x
    refine congrArg X (funext fun a => Fin.ext ?_)
    have hx0 : (x 0).val < 1 := (x 0).isLt
    match a with
    | ⟨0, _⟩ => show T.val + 1 * (x 0).val = T.val; omega
    | ⟨1, _⟩ => show 0 + 1 * (x 1).val = (x 1).val; omega
  rw [hws]
  generalize hM : maskedOf (okOf t bit) (lgOf raw xs (scalesRow X T)) = M
  iapply ld $$ HN
  iintro HN
  iapply st $$ HN
  iintro HN
  rw [shapeCast_self]
  iapply (storeSlab_spec 0 T.val (by omega) T.isLt (hooff 0) hS) $$ HO
  iintro %f0 %h0 HO
  iapply (storeSlab_spec 1 T.val (by omega) T.isLt (hooff 1) hS) $$ HO
  iintro %f1 %h1 HO
  iapply (storeSlab_spec 2 T.val (by omega) T.isLt (hooff 2) hS) $$ HO
  iintro %f2 %h2 HO
  iapply (storeSlab_spec 3 T.val (by omega) T.isLt (hooff 3) hS) $$ HO
  iintro %f3 %h3 HO
  iapply (storeSlab_spec 4 T.val (by omega) T.isLt (hooff 4) hS) $$ HO
  iintro %f4 %h4 HO
  iapply (storeSlab_spec 5 T.val (by omega) T.isLt (hooff 5) hS) $$ HO
  iintro %f5 %h5 HO
  iapply wpk_pure
  iapply HQ
  isplitl [HW]; · iexact HW
  isplitl [HN]; · iexact HN
  iexists f5
  isplitr
  rotate_left
  · iexact HO
  ipureintro
  refine ⟨?_, rfl⟩
  constructor
  · intro i hi
    have hb : (i 0).val < 48 := (i 0).isLt
    have e3 : (i 3).val < 128 := (i 3).isLt
    have key : ∀ r : ℕ, r < 6 → (i 0).val / 8 = r → ∃ x : S8x128.Idx, (i 0).val = 8 * r + (x 0).val ∧ (i 3).val = (x 1).val := by
      intro r hr hd
      refine ⟨ix2 (⟨(i 0).val - 8 * r, by omega⟩ : Fin 8) (⟨(i 3).val, e3⟩ : Fin 128), ?_, rfl⟩
      show (i 0).val = 8 * r + ((i 0).val - 8 * r)
      omega
    have hd : (i 0).val / 8 < 6 := by omega
    have hcases : (i 0).val / 8 = 0 ∨ (i 0).val / 8 = 1 ∨ (i 0).val / 8 = 2 ∨ (i 0).val / 8 = 3 ∨ (i 0).val / 8 = 4 ∨ (i 0).val / 8 = 5 := by omega
    rcases hcases with hc | hc | hc | hc | hc | hc <;> obtain ⟨x, hx0, hx3⟩ := key _ (by omega) hc
    · rw [h5.2 i (by omega), h4.2 i (by omega), h3.2 i (by omega), h2.2 i (by omega), h1.2 i (by omega), h0.1 x i hx0 hi hx3]
      exact slab_slice 0 (by omega) M _ x i hx0 hx3
    · rw [h5.2 i (by omega), h4.2 i (by omega), h3.2 i (by omega), h2.2 i (by omega), h1.1 x i hx0 hi hx3]
      exact slab_slice 1 (by omega) M _ x i hx0 hx3
    · rw [h5.2 i (by omega), h4.2 i (by omega), h3.2 i (by omega), h2.1 x i hx0 hi hx3]
      exact slab_slice 2 (by omega) M _ x i hx0 hx3
    · rw [h5.2 i (by omega), h4.2 i (by omega), h3.1 x i hx0 hi hx3]
      exact slab_slice 3 (by omega) M _ x i hx0 hx3
    · rw [h5.2 i (by omega), h4.1 x i hx0 hi hx3]
      exact slab_slice 4 (by omega) M _ x i hx0 hx3
    · rw [h5.1 x i hx0 hi hx3]
      exact slab_slice 5 (by omega) M _ x i hx0 hx3
  · intro i hi
    rw [h5.2 i (by omega), h4.2 i (by omega), h3.2 i (by omega), h2.2 i (by omega), h1.2 i (by omega), h0.2 i (by omega)]

end Cert.Kernel.Hand

end
-- ==== Proof.Trip.lean ====
/- A trip's tiles: what each tile of the output block is to hold, and that a trip's tiles hold it. -/
module

public import proofs.«01_k».proof.Proof.Tile

@[expose] public section

set_option maxRecDepth 65536

noncomputable section

namespace Cert.Kernel.Hand

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (Pipeline.UD sig nD τ) ℕ

variable {c : Dev nD}

/-! ## What the tiles are to hold -/

/-- What the output block is a function of: the tokens' codes (over sixteen more rows), their scales, the columns'
    scales, the weight codes and the mask's words. -/
structure Data (F : FTy → Type) [FloatOps F] where
  L : S64x1024.Idx → Elt F .fp8e4m3
  xs : V48 F
  ws : S1187x128.Idx → Elt F .f32
  wc : S1024x151936.Idx → Elt F .fp8e4m3
  mw : S48x4864.Idx → Elt F .i32

/-- Column `n` of the weight codes. -/
abbrev colN (n : ℕ) : Fin 151936 := ⟨n % 151936, Nat.mod_lt _ (by decide)⟩
/-- Column `n` of the mask's words. -/
abbrev wordN (n : ℕ) : Fin 4864 := ⟨n % 4864, Nat.mod_lt _ (by decide)⟩

variable (D : Data F)

/-- Columns `a …` of the weight codes. -/
def Data.cols (a w : ℕ) : (⟨2, ![1024, w]⟩ : Shape).Idx → Elt F .fp8e4m3 :=
  fun x => D.wc (ix2 (⟨(x 0).val, (x 0).isLt⟩ : Fin 1024) (colN (a + (x 1).val)))
/-- The words of chunk `n`. -/
def Data.words (n : ℕ) : Vec F S48x128 .i32 := fun x => D.mw (ix2 (⟨(x 0).val, (x 0).isLt⟩ : Fin 48) (wordN (128 * n + (x 1).val)))
/-- The bits of chunk `n`. -/
def Data.bits (lane : I48) (n : ℕ) : I48 := unpack (F := F) lane (D.words n)
/-- The contraction of a pair of tiles. -/
def Data.pair (P : ℕ) : FVec F S64x256 .f32 :=
  matmul dot_S64x1024_S1024x256_S64x256_1_0_0_1_n_n none D.L (D.cols (256 * P) 256 : Vec F S1024x256 .fp8e4m3) (constant S64x256 .f32 0x00000000#32)
/-- The contraction of the last tile. -/
def Data.single : FVec F S64x128 .f32 :=
  matmul dot_S64x1024_S1024x128_S64x128_1_0_0_1_n_n none D.L (D.cols 151808 128 : Vec F S1024x128 .fp8e4m3) (constant S64x128 .f32 0x00000000#32)
/-- The contraction of tile `T`. -/
def Data.raw (T : ℕ) : V48 F :=
  if T = 1186 then extractStridedSlice S48x128 ![0, 0] D.single slices_S64x128_o0_0_S48x128
  else if T % 2 = 0 then extractStridedSlice S48x128 ![0, 0] (D.pair (T / 2)) slices_S64x256_o0_0_S48x128
  else extractStridedSlice S48x128 ![0, 128] (D.pair (T / 2)) slices_S64x256_o0_128_S48x128
/-- What tile `T` is to hold. -/
def Data.want (lane : I48) (T : Fin 1187) : V48 F :=
  maskedOf (okOf (D.bits lane (T.val / 32)) (BitVec.ofNat 32 (2 ^ (T.val % 32)))) (lgOf (D.raw T.val) D.xs (scalesRow D.ws T))

/-- Tile `n`. -/
abbrev tileN (n : ℕ) : Fin 1187 := ⟨n % 1187, Nat.mod_lt _ (by decide)⟩
/-- The logits of tile `T`, `-∞` for every refused column. -/
def Data.neg (lane : I48) (T : Fin 1187) : V48 F :=
  negOf (okOf (D.bits lane (T.val / 32)) (BitVec.ofNat 32 (2 ^ (T.val % 32)))) (lgOf (D.raw T.val) D.xs (scalesRow D.ws T))
/-- The greatest of chunk `k`'s first `n` tiles, lane by lane. -/
def Data.top (lane : I48) (k : ℕ) : ℕ → V48 F
  | 0 => broadcast S48x128 (Scalar.ofBits .f32 0xFF800000#32)
  | n + 1 => maximumf (Data.top lane k n) (D.neg lane (tileN (32 * k + n)))
/-- The exponentials of chunk `k`'s first `n` tiles less `h`, summed lane by lane. -/
def Data.acc (lane : I48) (k : ℕ) (h : V48 F) : ℕ → V48 F
  | 0 => broadcast S48x128 (Scalar.ofBits .f32 0x00000000#32)
  | n + 1 => addf (Data.acc lane k h n) (exp (subf (D.neg lane (tileN (32 * k + n))) h))
/-- How many tiles chunk `k` has. -/
def tilesIn (k : ℕ) : ℕ := if k = 37 then 3 else 32
/-- The maximum of chunk `k`, on every lane. -/
def Data.chunkMax (lane : I48) (k : ℕ) : V48 F := rowMax (D.top lane k (tilesIn k))
/-- The sum of exponentials of chunk `k`, on every lane. -/
def Data.chunkSum (lane : I48) (k : ℕ) : V48 F := rowSum (D.acc lane k (finiteOf (D.chunkMax lane k)) (tilesIn k))
/-- The maxima of the first `n` chunks, each on its lane. -/
def Data.maxes (lane : I48) : ℕ → V48 F
  | 0 => broadcast S48x128 (Scalar.ofBits .f32 0xFF800000#32)
  | n + 1 => select (cmpi .eq lane (broadcast S48x128 (BitVec.ofNat 32 n))) (D.chunkMax lane n) (Data.maxes lane n)
/-- The sums of exponentials of the first `n` chunks, each on its lane. -/
def Data.sums (lane : I48) : ℕ → V48 F
  | 0 => broadcast S48x128 (Scalar.ofBits .f32 0x00000000#32)
  | n + 1 => select (cmpi .eq lane (broadcast S48x128 (BitVec.ofNat 32 n))) (D.chunkSum lane n) (Data.sums lane n)

/-- The block of chunk `k`'s logits holds the first `n` tiles. -/
def NegTo (lane : I48) (k n : ℕ) (N : S48x4096.Idx → Elt F .f32) : Prop :=
  ∀ j < n, ∀ (x : S48x128.Idx) (y : S48x4096.Idx), (y 0).val = (x 0).val → (y 1).val = 128 * j + (x 1).val → N y = D.neg lane (tileN (32 * k + j)) x

theorem NegTo.step {lane : I48} {k n : ℕ} {N : S48x4096.Idx → Elt F .f32} (h : NegTo D lane k n N) {noff : Fin 2 → ℕ} (hoff : noff = ![0, 128 * n])
    {hn : ∀ a, noff a + S48x128.size a ≤ S48x4096.size a} {w : V48 F} (hw : w = D.neg lane (tileN (32 * k + n))) :
    NegTo D lane k (n + 1) (upd N (Rect.unit (s := S48x4096) noff S48x128.size hn) w) := by
  subst hoff
  subst hw
  intro j hj x y h0 h1
  have hx : (x 1).val < 128 := (x 1).isLt
  by_cases hjn : j = n
  · subst hjn
    have e : y = (Rect.unit (s := S48x4096) ![0, 128 * j] S48x128.size hn).emb x := by
      funext a; apply Fin.ext
      match a with
      | ⟨0, _⟩ => show (y 0).val = 0 + 1 * (x 0).val; omega
      | ⟨1, _⟩ => show (y 1).val = 128 * j + 1 * (x 1).val; omega
    rw [e]; exact upd_emb _ _ _ _
  · rw [upd_off]
    · exact h j (by omega) x y h0 h1
    · intro z hz
      have hz1 : (y 1).val = 128 * n + 1 * (z 1).val := by rw [← hz]; rfl
      have : (z 1).val < 128 := (z 1).isLt
      omega

theorem NegTo.load {lane : I48} {k n j : ℕ} {N : S48x4096.Idx → Elt F .f32} (h : NegTo D lane k n N) (hj : j < n)
    {hn : ∀ a, (![0, 128 * j] : Fin 2 → ℕ) a + S48x128.size a ≤ S48x4096.size a} :
    (fun x => N ((Rect.unit (s := S48x4096) ![0, 128 * j] S48x128.size hn).toLoadRect.idx x)) = D.neg lane (tileN (32 * k + j)) := by
  funext x
  refine h j hj x _ ?_ ?_
  · show 0 + 1 * (x 0).val = (x 0).val; omega
  · show 128 * j + 1 * (x 1).val = 128 * j + (x 1).val; omega

/-- From `f` to `f'` tiles `a … b - 1` have been filled, and no other has changed. -/
def Upto (lane : I48) (f f' : OBuf F) (a b : ℕ) : Prop :=
  (∀ T : Fin 1187, a ≤ T.val → T.val < b → Filled f' T (D.want lane T)) ∧ ∀ i : S48x1187x1x128.Idx, ¬ (a ≤ (i 1).val ∧ (i 1).val < b) → f' i = f i

variable {D}

theorem Upto.refl (lane : I48) (f : OBuf F) (a : ℕ) : Upto D lane f f a a :=
  ⟨fun T h h' => absurd h' (by omega), fun _ _ => rfl⟩

theorem Upto.trans {lane : I48} {f f' f'' : OBuf F} {a b d : ℕ} (h₁ : Upto D lane f f' a b) (h₂ : Upto D lane f' f'' b d) (hab : a ≤ b) (hbd : b ≤ d) :
    Upto D lane f f'' a d := by
  refine ⟨fun T ha hd i hi => ?_, fun i hi => ?_⟩
  · by_cases hb : T.val < b
    · rw [h₂.2 i (by omega)]; exact h₁.1 T ha hb i hi
    · exact h₂.1 T (by omega) hd i hi
  · rw [h₂.2 i (by omega), h₁.2 i (by omega)]

theorem Upto.one {lane : I48} {f f' : OBuf F} {T : Fin 1187} {M : V48 F} (h : Filled f' T M ∧ ∀ i : S48x1187x1x128.Idx, (i 1).val ≠ T.val → f' i = f i)
    (hM : M = D.want lane T) : Upto D lane f f' T.val (T.val + 1) := by
  refine ⟨fun T' h1 h2 => ?_, fun i hi => h.2 i (by omega)⟩
  have : T' = T := Fin.ext (by omega)
  subst this; subst hM; exact h.1

/-! ## A pair of tiles, and a trip's pairs -/

/-- What the tiles read and write beside the output block. -/
abbrev tileRes (c : Dev nD) (D : Data F) : sProp 𝕄 := iprop(own c mWs D.ws ∗ own c mLhs D.L ∗ any c mNeg)
/-- The same, with the first `n` tiles of chunk `k` in the block of its logits. -/
abbrev tileAt (c : Dev nD) (D : Data F) (lane : I48) (k n : ℕ) : sProp 𝕄 :=
  iprop(own c mWs D.ws ∗ own c mLhs D.L ∗ ∃ N, ⌜NegTo D lane k n N⌝ ∗ own c mNeg N)

theorem tileAt_zero (lane : I48) (k : ℕ) : tileRes c D ⊢ tileAt c D lane k 0 := by
  iintro ⟨HW, HL, %N, HN⟩
  isplitl [HW]; · iexact HW
  isplitl [HL]; · iexact HL
  iexists N
  isplitr
  · ipureintro; intro j hj; omega
  iexact HN

/-- The ring's slot of trip `k`, holding the trip's chunk. -/
abbrev slotRes (c : Dev nD) (D : Data F) (k : Fin k0_t1_loop.trips) : sProp 𝕄 :=
  own c (slotAt (k0_off2 k) (k0_off2_inb k)) (D.cols (4096 * k.val) 4096 : S1024x4096.Idx → Elt F .fp8e4m3)

theorem cols_sub (a p : ℕ) (h : ∀ x, (![0, 256 * p] : Fin 2 → ℕ) x + S1024x256.size x ≤ S1024x4096.size x) :
    (fun x => (D.cols a 4096 : S1024x4096.Idx → Elt F .fp8e4m3) ((Rect.unit (s := S1024x4096) ![0, 256 * p] S1024x256.size h).toLoadRect.idx x))
      = (D.cols (a + 256 * p) 256 : S1024x256.Idx → Elt F .fp8e4m3) := by
  funext x
  refine congrArg D.wc (funext fun d => Fin.ext ?_)
  match d with
  | ⟨0, _⟩ => show 0 + 1 * (x 0).val = (x 0).val; omega
  | ⟨1, _⟩ => show (a + (256 * p + 1 * (x 1).val)) % 151936 = (a + 256 * p + (x 1).val) % 151936; congr 1; omega

theorem tileK_spec (lane : I48) (k : Fin k0_t1_loop.trips) (j : ℕ) (hj : j < 32) {raw : V48 F} (hraw : raw = D.raw (32 * k.val + j)) {t cidx ctile : I48}
    (ht : t = D.bits lane k.val) {s : V48 F × V48 F} (hs : s.1 = D.top lane k.val j) {S : Finset S48x1187x1x128.Idx}
    (hS : ∀ i : S48x1187x1x128.Idx, 32 * k.val ≤ (i 1).val → (i 1).val < 32 * k.val + 32 → i ∈ S) {f : OBuf F} {Q : V48 F × V48 F → sProp 𝕄} :
    iprop(tileAt c D lane k.val j ∗ outPt c S f)
      ⊢ iprop((∀ r, iprop(tileAt c D lane k.val (j + 1) ∗ (∃ f', ⌜Upto D lane f f' (32 * k.val + j) (32 * k.val + j + 1) ∧ r.1 = D.top lane k.val (j + 1)⌝ ∗ outPt c S f')) -∗ Q r)
        -∗ wpk c (tileK k j hj raw D.xs t cidx ctile s) Q) := by
  have hk := k_lt k
  have h1 : (32 * k.val + j) / 32 = k.val := by omega
  have h2 : (32 * k.val + j) % 32 = j := by omega
  have hT : tileN (32 * k.val + j) = (⟨32 * k.val + j, by omega⟩ : Fin 1187) := Fin.ext (Nat.mod_eq_of_lt (by omega))
  have hneg : negOf (okOf t (BitVec.ofNat 32 (2 ^ j))) (lgOf raw D.xs (scalesRow D.ws (⟨32 * k.val + j, by omega⟩ : Fin 1187))) = D.neg lane (tileN (32 * k.val + j)) := by
    subst hraw; subst ht
    rw [hT]
    unfold Data.neg
    rw [h1, h2]
  unfold tileK
  iintro ⟨⟨HW, HL, %N, %hN, HN⟩, HO⟩ HQ
  iapply (tile_spec (⟨32 * k.val + j, by omega⟩ : Fin 1187) (off7_eq k j hj)
    (fun r => by rw [off8_eq k _ (by omega)]; show ![32 * k.val + (9496 * r.val + j), 0] = ![9496 * r.val + (32 * k.val + j), 0]; congr 1; omega)
    (S := S) (fun i hi => hS i (by rw [hi]; show _ ≤ 32 * k.val + j; omega) (by rw [hi]; show 32 * k.val + j < _; omega))) $$ [HW HN HO]
  · isplitl [HW]; · iexact HW
    isplitl [HN] <;> iassumption
  iintro %r ⟨HW, HN, %f', %hf, HO⟩
  iapply HQ
  isplitl [HW HL HN]
  · isplitl [HW]; · iexact HW
    isplitl [HL]; · iexact HL
    iexists _
    isplitr
    rotate_left
    · iexact HN
    ipureintro
    exact NegTo.step D hN rfl hneg
  iexists f'
  isplitr
  · ipureintro
    refine ⟨Upto.one hf.1 ?_, ?_⟩
    · subst hraw; subst ht
      unfold Data.want
      rw [h1, h2]
    · rw [hf.2, hneg, hs]; rfl
  · iexact HO

theorem pairK_spec (lane : I48) (k : Fin k0_t1_loop.trips) (p : ℕ) (hp : p < 16) {t cidx ctile : I48}
    (ht : t = D.bits lane k.val) {s : V48 F × V48 F} (hs : s.1 = D.top lane k.val (2 * p)) {S : Finset S48x1187x1x128.Idx}
    (hS : ∀ i : S48x1187x1x128.Idx, 32 * k.val ≤ (i 1).val → (i 1).val < 32 * k.val + 32 → i ∈ S) {f : OBuf F} {Q : V48 F × V48 F → sProp 𝕄} :
    iprop(tileAt c D lane k.val (2 * p) ∗ slotRes c D k ∗ outPt c S f)
      ⊢ iprop((∀ r, iprop(tileAt c D lane k.val (2 * p + 2) ∗ slotRes c D k
            ∗ (∃ f', ⌜Upto D lane f f' (32 * k.val + 2 * p) (32 * k.val + 2 * p + 2) ∧ r.1 = D.top lane k.val (2 * p + 2)⌝ ∗ outPt c S f')) -∗ Q r)
        -∗ wpk c (pairK k p hp D.xs t cidx ctile s) Q) := by
  have hk := k_lt k
  unfold pairK
  simp only [wpk_bind]
  iintro ⟨⟨HW, HL, HN⟩, HY, HO⟩ HQ
  iapply ldF $$ HL
  iintro HL
  iapply ld $$ HY
  iintro HY
  rw [cols_sub]
  iapply (tileK_spec (D := D) lane k (2 * p) _ (by
    unfold Data.raw Data.pair
    rw [if_neg (by omega), if_pos (by omega), show 256 * ((32 * k.val + 2 * p) / 2) = 4096 * k.val + 256 * p by omega]) ht hs hS) $$ [HW HL HN HO]
  · isplitl [HW HL HN]
    · isplitl [HW]; · iexact HW
      isplitl [HL] <;> iassumption
    iexact HO
  iintro %r ⟨HT, %f1, %h1, HO⟩
  iapply (tileK_spec (D := D) lane k (2 * p + 1) _ (by
    unfold Data.raw Data.pair
    rw [if_neg (by omega), if_neg (by omega), show 256 * ((32 * k.val + (2 * p + 1)) / 2) = 4096 * k.val + 256 * p by omega]) ht h1.2 hS) $$ [HT HO]
  · isplitl [HT] <;> iassumption
  iintro %r' ⟨HT, %f2, %h2, HO⟩
  iapply HQ
  isplitl [HT]; · iexact HT
  isplitl [HY]; · iexact HY
  iexists f2
  isplitr
  · ipureintro; exact ⟨h1.1.trans h2.1 (by omega) (by omega), h2.2⟩
  · iexact HO

theorem pairsK_spec (lane : I48) (k : Fin k0_t1_loop.trips) {t cidx ctile : I48}
    (ht : t = D.bits lane k.val) {S : Finset S48x1187x1x128.Idx}
    (hS : ∀ i : S48x1187x1x128.Idx, 32 * k.val ≤ (i 1).val → (i 1).val < 32 * k.val + 32 → i ∈ S) {Q : V48 F × V48 F → sProp 𝕄} :
    ∀ (n p : ℕ) (h : p + n ≤ 16) (s : V48 F × V48 F) (hs : s.1 = D.top lane k.val (2 * p)) (f : OBuf F),
    iprop(tileAt c D lane k.val (2 * p) ∗ slotRes c D k ∗ outPt c S f)
      ⊢ iprop((∀ r, iprop(tileAt c D lane k.val (2 * p + 2 * n) ∗ slotRes c D k
            ∗ (∃ f', ⌜Upto D lane f f' (32 * k.val + 2 * p) (32 * k.val + 2 * p + 2 * n) ∧ r.1 = D.top lane k.val (2 * p + 2 * n)⌝ ∗ outPt c S f')) -∗ Q r)
        -∗ wpk c (pairsK k D.xs t cidx ctile n p h s) Q)
  | 0, p, h, s, hs, f => by
    unfold pairsK
    iintro ⟨HT, HY, HO⟩ HQ
    iapply wpk_pure
    iapply HQ
    isplitl [HT]; · iexact HT
    isplitl [HY]; · iexact HY
    iexists f
    isplitr
    · ipureintro; exact ⟨Upto.refl _ _ _, hs⟩
    · iexact HO
  | n + 1, p, h, s, hs, f => by
    have e : 2 * (p + 1) + 2 * n = 2 * p + 2 * (n + 1) := by omega
    unfold pairsK
    rw [wpk_bind]
    iintro ⟨HT, HY, HO⟩ HQ
    iapply (pairK_spec (D := D) lane k p _ ht hs hS) $$ [HT HY HO]
    · isplitl [HT]; · iexact HT
      isplitl [HY] <;> iassumption
    iintro %r ⟨HT, HY, %f1, %h1, HO⟩
    iapply (pairsK_spec lane k ht hS n (p + 1) _ r h1.2 f1) $$ [HT HY HO]
    · isplitl [HT]; · iexact HT
      isplitl [HY] <;> iassumption
    rw [show 32 * k.val + 2 * (p + 1) + 2 * n = 32 * k.val + 2 * p + 2 * (n + 1) by omega, e]
    iintro %r' ⟨HT, HY, %f2, %h2, HO⟩
    iapply HQ
    isplitl [HT]; · iexact HT
    isplitl [HY]; · iexact HY
    iexists f2
    isplitr
    · ipureintro
      exact ⟨h1.1.trans h2.1 (by omega) (by omega), h2.2⟩
    · iexact HO

/-! ## The statistics -/

theorem sumsK_spec (lane : I48) (k m : ℕ) {N : S48x4096.Idx → Elt F .f32} (hN : NegTo D lane k m N) {h : V48 F} {Q : V48 F → sProp 𝕄} :
    ∀ (n j : ℕ) (hj : j + n ≤ 32) (hm : j + n ≤ m) (a : V48 F) (ha : a = D.acc lane k h j),
    own c mNeg N ⊢ iprop((∀ r, ⌜r = D.acc lane k h (j + n)⌝ -∗ own c mNeg N -∗ Q r) -∗ wpk c (sumsK h n j hj a) Q)
  | 0, j, hj, hm, a, ha => by
    unfold sumsK
    iintro H HQ
    iapply wpk_pure
    iapply HQ $$ [] [H]
    · ipureintro; exact ha
    · iexact H
  | n + 1, j, hj, hm, a, ha => by
    unfold sumsK
    rw [wpk_bind]
    iintro H HQ
    iapply ld $$ H
    iintro H
    rw [NegTo.load D hN (show j < m by omega)]
    iapply (sumsK_spec lane k m hN n (j + 1) _ (by omega) _ (by rw [ha]; rfl)) $$ H
    rw [show j + 1 + n = j + (n + 1) by omega]
    iexact HQ

/-- What the statistics and the candidates are kept in: the chunks' maxima are `M` and their sums `S`. -/
abbrev statRes (c : Dev nD) (M S : V48 F) : sProp 𝕄 :=
  iprop(any c mCacc ∗ own c mMst M ∗ own c mSst S ∗ any c mCidx ∗ any c mCtile ∗ any c mCword)
/-- The same after `n` chunks. -/
abbrev statAt (c : Dev nD) (D : Data F) (lane : I48) (n : ℕ) : sProp 𝕄 := statRes c (D.maxes lane n) (D.sums lane n)

theorem stats_spec {n : ℕ} {hn : 0 + n ≤ 32} {lane : I48} {k : ℕ} (hk : tilesIn k = n) {ch : BitVec 32} (hch : ch = BitVec.ofNat 32 k) {s : V48 F × V48 F}
    (hs : s.1 = D.top lane k n) {N : S48x4096.Idx → Elt F .f32} (hN : NegTo D lane k n N) {Q : PUnit → sProp 𝕄} :
    iprop(own c mNeg N ∗ statAt c D lane k) ⊢ iprop((iprop(any c mNeg ∗ statAt c D lane (k + 1)) -∗ Q ⟨⟩) -∗ wpk c (stats n hn lane ch s) Q) := by
  subst hch
  subst hk
  unfold stats
  simp only [wpk_bind]
  iintro ⟨HN, HA, HM, HS, HR⟩ HQ
  iapply ldAny $$ HA
  iintro %v1 HA
  iapply stAny $$ HA
  iintro HA
  iapply (sumsK_spec lane k _ hN _ 0 _ (by omega) _ rfl) $$ HN
  iintro %a %ha HN
  iapply ldF $$ HM
  iintro HM
  iapply ldF $$ HM
  iintro HM
  ihave HM := (any_of _ _) $$ HM
  iapply stF $$ HM
  iintro HM
  iapply ldF $$ HS
  iintro HS
  iapply ldF $$ HS
  iintro HS
  ihave HS := (any_of _ _) $$ HS
  iapply stF $$ HS
  iintro HS
  have e1 : (shapeCast S48x128 (select (cmpi .eq lane (broadcast S48x128 (BitVec.ofNat 32 k))) (rowMax s.1) (D.maxes lane k)) shapeCasts_S48x128_S48x128 : V48 F) = D.maxes lane (k + 1) := by
    rw [shapeCast_self, hs]; rfl
  have e2 : (shapeCast S48x128 (select (cmpi .eq lane (broadcast S48x128 (BitVec.ofNat 32 k))) (rowSum a) (D.sums lane k)) shapeCasts_S48x128_S48x128 : V48 F) = D.sums lane (k + 1) := by
    rw [shapeCast_self, ha, hs, Nat.zero_add]; rfl
  ihave HM := (show own c mMst _ ⊢ own c mMst (D.maxes lane (k + 1)) from Entails.of_eq (congrArg (own c mMst) e1)) $$ HM
  ihave HS := (show own c mSst _ ⊢ own c mSst (D.sums lane (k + 1)) from Entails.of_eq (congrArg (own c mSst) e2)) $$ HS
  iapply HQ
  isplitl [HN]; · iexists N; iexact HN
  isplitl [HA]; · iexact HA
  isplitl [HM]; · iexact HM
  isplitl [HS]; · iexact HS
  iexact HR

/-! ## The bits of the mask -/

/-- One of the two blocks of bits holds `t`. -/
def BitsAt (B : S2x48x128.Idx → Elt F .i32) (p : ℕ) (t : I48) : Prop :=
  ∀ x : S1x48x128.Idx, ∀ y : S2x48x128.Idx, (y 0).val = p → (y 1).val = (x 1).val → (y 2).val = (x 2).val →
    B y = shapeCast S1x48x128 (t : Vec F S48x128 .i32) shapeCasts_S48x128_S1x48x128 x

theorem bits_load {B : S2x48x128.Idx → Elt F .i32} {p : ℕ} {t : I48} (h : BitsAt B p t) {off : Fin 3 → ℕ} (ho : off = ![p, 0, 0])
    {hb : ∀ a, off a + S1x48x128.size a ≤ S2x48x128.size a} :
    shapeCast S48x128 (fun x => B ((Rect.unit (s := S2x48x128) off S1x48x128.size hb).toLoadRect.idx x) : Vec F S1x48x128 .i32) shapeCasts_S1x48x128_S48x128 = t := by
  subst ho
  have e : (fun x => B ((Rect.unit (s := S2x48x128) ![p, 0, 0] S1x48x128.size hb).toLoadRect.idx x) : Vec F S1x48x128 .i32)
      = shapeCast S1x48x128 (t : Vec F S48x128 .i32) shapeCasts_S48x128_S1x48x128 := by
    funext x
    have hx : (x 0).val < 1 := (x 0).isLt
    refine h x _ ?_ ?_ ?_
    · show p + 1 * (x 0).val = p; omega
    · show 0 + 1 * (x 1).val = (x 1).val; omega
    · show 0 + 1 * (x 2).val = (x 2).val; omega
  rw [e]
  exact shapeCast_shapeCast _ _ _

theorem bits_store {B : S2x48x128.Idx → Elt F .i32} {p : ℕ} {t : I48} {off : Fin 3 → ℕ} (ho : off = ![p, 0, 0])
    {hb : ∀ a, off a + S1x48x128.size a ≤ S2x48x128.size a} :
    BitsAt (upd B (Rect.unit (s := S2x48x128) off S1x48x128.size hb) (shapeCast S1x48x128 (t : Vec F S48x128 .i32) shapeCasts_S48x128_S1x48x128)) p t := by
  subst ho
  intro x y h0 h1 h2
  have hx : (x 0).val < 1 := (x 0).isLt
  have e : y = (Rect.unit (s := S2x48x128) ![p, 0, 0] S1x48x128.size hb).emb x := by
    funext a; apply Fin.ext
    match a with
    | ⟨0, _⟩ => show (y 0).val = p + 1 * (x 0).val; omega
    | ⟨1, _⟩ => show (y 1).val = 0 + 1 * (x 1).val; omega
    | ⟨2, _⟩ => show (y 2).val = 0 + 1 * (x 2).val; omega
  rw [e]; exact upd_emb _ _ _ _

theorem bits_keep {B : S2x48x128.Idx → Elt F .i32} {p p' : ℕ} {t : I48} (h : BitsAt B p t) {off : Fin 3 → ℕ} (ho : off = ![p', 0, 0]) (hp : p ≠ p')
    {hb : ∀ a, off a + S1x48x128.size a ≤ S2x48x128.size a} {w : S1x48x128.Idx → Elt F .i32} :
    BitsAt (upd B (Rect.unit (s := S2x48x128) off S1x48x128.size hb) w) p t := by
  subst ho
  intro x y h0 h1 h2
  rw [upd_off]
  · exact h x y h0 h1 h2
  · intro z hz
    have hz0 : (z 0).val < 1 := (z 0).isLt
    have : (y 0).val = p' + 1 * (z 0).val := by rw [← hz]; rfl
    omega

theorem words_load {off : Fin 2 → ℕ} {n : ℕ} (ho : off = ![0, 128 * n]) {hb : ∀ a, off a + S48x128.size a ≤ S48x4864.size a} :
    (fun x => D.mw ((Rect.unit (s := S48x4864) off S48x128.size hb).toLoadRect.idx x)) = D.words n := by
  subst ho
  funext x
  refine congrArg D.mw (funext fun d => Fin.ext ?_)
  have h1 : 128 * n + 128 ≤ 4864 := hb 1
  have hx : (x 1).val < 128 := (x 1).isLt
  match d with
  | ⟨0, _⟩ => show 0 + 1 * (x 0).val = (x 0).val; omega
  | ⟨1, _⟩ => show 128 * n + 1 * (x 1).val = (128 * n + (x 1).val) % 4864; rw [Nat.mod_eq_of_lt (by omega)]; omega

/-- The bits of chunk `n` are in their block. -/
abbrev bitsRes (c : Dev nD) (D : Data F) (lane : I48) (n : ℕ) : sProp 𝕄 := iprop(∃ B, ⌜BitsAt B (n % 2) (D.bits lane n)⌝ ∗ own c mBits B)

theorem nextWords_spec {M S : V48 F} (lane : I48) (k : Fin k0_t1_loop.trips) {Q : PUnit → sProp 𝕄} :
    iprop(own c mMask D.mw ∗ bitsRes c D lane k.val ∗ statRes c M S)
      ⊢ iprop((iprop(own c mMask D.mw ∗ (∃ B, ⌜BitsAt B (k.val % 2) (D.bits lane k.val) ∧ BitsAt B ((k.val + 1) % 2) (D.bits lane (k.val + 1))⌝ ∗ own c mBits B) ∗ statRes c M S) -∗ Q ⟨⟩)
        -∗ wpk c (nextWords lane k) Q) := by
  unfold nextWords
  simp only [wpk_bind]
  iintro ⟨HM, ⟨%B, %hB, HB⟩, HA, HMst, HSst, HI, HT, HC⟩ HQ
  iapply ld $$ HM
  iintro HM
  rw [words_load (off4_eq k)]
  iapply ld $$ HB
  iintro HB
  iapply st $$ HB
  iintro HB
  iapply ldAny $$ HT
  iintro %v1 HT
  iapply ldAny $$ HI
  iintro %v2 HI
  iapply ldAny $$ HC
  iintro %v3 HC
  iapply ldAny $$ HC
  iintro %v4 HC
  iapply stAny $$ HC
  iintro HC
  iapply HQ
  isplitl [HM]; · iexact HM
  isplitl [HB]
  · iexists _
    isplitr
    rotate_left
    · iexact HB
    ipureintro
    exact ⟨bits_keep hB (off5_eq k) (by omega), bits_store (off5_eq k)⟩
  isplitl [HA]; · iexact HA
  isplitl [HMst]; · iexact HMst
  isplitl [HSst]; · iexact HSst
  isplitl [HI]; · iexact HI
  isplitl [HT] <;> iassumption

theorem iv_eq (k : Fin k0_t1_loop.trips) : ivOf k = BitVec.ofNat 32 k.val := by revert k; decide

theorem tiles_spec (lane : I48) (k : Fin k0_t1_loop.trips) {S : Finset S48x1187x1x128.Idx}
    (hS : ∀ i : S48x1187x1x128.Idx, 32 * k.val ≤ (i 1).val → (i 1).val < 32 * k.val + 32 → i ∈ S) {f : OBuf F} {B : S2x48x128.Idx → Elt F .i32}
    (hB : BitsAt B (k.val % 2) (D.bits lane k.val)) {Q : PUnit → sProp 𝕄} :
    iprop(tileRes c D ∗ slotRes c D k ∗ own c mXs D.xs ∗ own c mBits B ∗ statAt c D lane k.val ∗ outPt c S f)
      ⊢ iprop((iprop(tileRes c D ∗ slotRes c D k ∗ own c mXs D.xs ∗ own c mBits B ∗ statAt c D lane (k.val + 1)
            ∗ (∃ f', ⌜Upto D lane f f' (32 * k.val) (32 * k.val + 32)⌝ ∗ outPt c S f')) -∗ Q ⟨⟩)
        -∗ wpk c (tiles lane k) Q) := by
  unfold tiles
  simp only [wpk_bind]
  iintro ⟨HT, HY, HX, HB, ⟨HA, HMst, HSst, HI, HCt, HC⟩, HO⟩ HQ
  iapply ldF $$ HX
  iintro HX
  iapply ld $$ HB
  iintro HB
  iapply ldAny $$ HI
  iintro %v1 HI
  iapply ldAny $$ HCt
  iintro %v2 HCt
  iapply ldAny $$ HA
  iintro %v3 HA
  iapply (pairsK_spec (D := D) lane k (bits_load hB (off6_eq k)) hS 16 0 _ _ rfl f) $$ [HT HY HO]
  · isplitl [HT]; · iapply (tileAt_zero lane k.val) $$ HT
    isplitl [HY] <;> iassumption
  iintro %r ⟨⟨HW, HL, %N, %hN, HN⟩, HY, %f', %hf, HO⟩
  iapply (stats_spec (D := D) (k := k.val) (if_neg (by have := k_lt k; omega)) (iv_eq k) hf.2 hN) $$ [HN HA HMst HSst HI HCt HC]
  · isplitl [HN]; · iexact HN
    isplitl [HA]; · iexact HA
    isplitl [HMst]; · iexact HMst
    isplitl [HSst]; · iexact HSst
    isplitl [HI]; · iexact HI
    isplitl [HCt] <;> iassumption
  iintro ⟨HN, HR⟩
  iapply HQ
  isplitl [HW HL HN]
  · isplitl [HW]; · iexact HW
    isplitl [HL] <;> iassumption
  isplitl [HY]; · iexact HY
  isplitl [HX]; · iexact HX
  isplitl [HB]; · iexact HB
  isplitl [HR]; · iexact HR
  iexists f'
  isplitr
  · ipureintro; exact hf.1
  · iexact HO

end Cert.Kernel.Hand

end
-- ==== Proof.Ring.lean ====
/- A trip of the chunk loop: the ring of weight chunks in flight, the output block's two halves, and that a trip carries
   them one chunk on. -/
module

public import proofs.«01_k».proof.Proof.Trip

@[expose] public section

set_option maxRecDepth 65536

noncomputable section

namespace Cert.Kernel.Hand

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (Pipeline.UD sig nD τ) ℕ

variable {c : Dev nD} {sp : Space} {s : Shape} {e : EltTy}

theorem of_eq {A B : sProp 𝕄} (h : A = B) : A ⊢ B := h ▸ .rfl

/-! ## Lending a part of a memref -/

/-- What is held beside a copy in flight may be delivered with it. -/
theorem flight_frame {sm : SemLoc sig} {N : ℕ} {A B : sProp 𝕄} : iprop(flight c sm N A ∗ B) ⊢ flight c sm N iprop(A ∗ B) := by
  unfold flight Transfers.Flight
  iintro ⟨⟨⟨%R, HR, %h1, %h2⟩, Hc⟩, HB⟩
  isplitl [HR HB]
  · iexists iprop(R ∗ B)
    isplitl [HR HB]
    · isplitl [HR] <;> iassumption
    isplitr
    · ipureintro
      intro K
      iintro ⟨⟨HR, HB⟩, HK⟩
      iapply (h1 K)
      isplitl [HR]; · iexact HR
      iintro ⟨Hv, HA⟩
      iapply HK
      isplitl [Hv]; · iexact Hv
      isplitl [HA] <;> iassumption
    · ipureintro
      intro K
      iintro ⟨⟨HR, HB⟩, HK⟩
      iapply (h2 K)
      isplitl [HR]; · iexact HR
      iintro HR
      iapply HK
      isplitl [HR] <;> iassumption
  · iexact Hc

/-- A slice of a memref, and the memref back for it. -/
theorem lend {cs : Space} (m : Memref sig .tc cs s e) (r : Rect s) (hr : ∀ a, r.stride a = 1) (q : PosShare TreeShare) (X : s.Idx → Elt F e) :
    (owns (c : Thread nD τ) m q X : sProp 𝕄) ⊢ iprop(owns (c : Thread nD τ) (m.slice r hr) q (fun i => X (r.emb i))
      ∗ (∀ G, owns (c : Thread nD τ) (m.slice r hr) q G -∗ owns (c : Thread nD τ) m q (r.overlay X G))) := by
  iintro H
  ihave H' := (owns_slice_split (c : Thread nD τ) m q r hr X) $$ H
  icases H' with ⟨Hs, %f, %hf, Hr⟩
  isplitl [Hs]; · iexact Hs
  iintro %G HG
  subst hf
  iapply (owns_slice_join (c : Thread nD τ) m q r hr G f)
  isplitl [HG] <;> iassumption

theorem overlay_self {α : Type} (r : Rect s) (X : s.Idx → α) : r.overlay X (fun i => X (r.emb i)) = X := by
  funext j
  by_cases hj : j ∈ r.set
  · rw [← Rect.map_emb_univ] at hj
    obtain ⟨i, -, rfl⟩ := Finset.mem_map.mp hj
    exact Rect.overlay_emb r X (fun i => X (r.emb i)) i
  · exact Rect.overlay_of_not_mem r X _ hj

/-- A copy from a memref. -/
theorem copyOf {sp' : Space} {src : Memref sig .tc sp s e} {dst : Memref sig .tc sp' s e} {sm : SemLoc sig}
    {hsrc : src.view.WordExact} {hdst : dst.view.WordExact} {hsem : DmaTarget.Typed sp sm (.here dst : DmaTarget nD τ sig .tc sp' s e)}
    {q : PosShare TreeShare} {X : s.Idx → Elt F e} (h0 : 0 < s.numel) {Q : PUnit → sProp 𝕄} :
    iprop(owns (c : Thread nD τ) src q X ∗ any c dst ∗ semVal ((c : Thread nD τ), sm) 0)
      ⊢ iprop((flight c sm (dst.view.amount sm) iprop(own c dst X ∗ owns (c : Thread nD τ) src q X) -∗ Q ⟨⟩)
        -∗ wpk c (Prog.lift (.enqueueDma src (.here dst) sm hsrc hdst hsem)) Q) := by
  iintro ⟨Hs, Hd, Hv⟩ HQ
  ihave Hs' := (show owns (c : Thread nD τ) src q X ⊢ iprop(∃ f, ⌜src.view.read (Elt F) f = X⌝ ∗ (src.view.loc (c : Thread nD τ) ↦[src.view.set]{q} f)) from .rfl) $$ Hs
  icases Hs' with ⟨%f, %hf, Hs⟩
  subst hf
  iapply (copy h0) $$ [Hs Hd Hv]
  · isplitl [Hs]; · iexact Hs
    isplitl [Hd] <;> iassumption
  iintro H
  iapply HQ
  iapply (flight_mono ?_) $$ H
  iintro ⟨Hd, Hs⟩
  isplitl [Hd]; · iexact Hd
  iapply (owns_intro (c : Thread nD τ) src q f) $$ Hs

/-- A copy from a slice of a memref, which comes back whole. -/
theorem copySlice {sp' : Space} {m : Memref sig .tc sp s e} {r : Rect s} {hr : ∀ a, r.stride a = 1} {dst : Memref sig .tc sp' r.shape e} {sm : SemLoc sig}
    {hsrc : (m.slice r hr).view.WordExact} {hdst : dst.view.WordExact} {hsem : DmaTarget.Typed sp sm (.here dst : DmaTarget nD τ sig .tc sp' r.shape e)}
    {q : PosShare TreeShare} {X : s.Idx → Elt F e} (h0 : 0 < r.shape.numel) {Q : PUnit → sProp 𝕄} :
    iprop(owns (c : Thread nD τ) m q X ∗ any c dst ∗ semVal ((c : Thread nD τ), sm) 0)
      ⊢ iprop((flight c sm (dst.view.amount sm) iprop(own c dst (fun x => X (r.emb x)) ∗ owns (c : Thread nD τ) m q X) -∗ Q ⟨⟩)
        -∗ wpk c (Prog.lift (.enqueueDma (m.slice r hr) (.here dst) sm hsrc hdst hsem)) Q) := by
  iintro ⟨Hs, Hd, Hv⟩ HQ
  ihave Hs' := (lend m r hr q X) $$ Hs
  icases Hs' with ⟨Hs, Hback⟩
  iapply (copyOf h0) $$ [Hs Hd Hv]
  · isplitl [Hs]; · iexact Hs
    isplitl [Hd] <;> iassumption
  iintro H
  iapply HQ
  iapply (flight_mono (D := iprop((own c dst (fun x => X (r.emb x)) ∗ owns (c : Thread nD τ) (m.slice r hr) q (fun x => X (r.emb x)))
    ∗ (∀ G, owns (c : Thread nD τ) (m.slice r hr) q G -∗ owns (c : Thread nD τ) m q (r.overlay X G)))) ?_)
  rotate_left
  · iapply flight_frame
    isplitl [H] <;> iassumption
  iintro ⟨⟨Hd, Hs⟩, Hback⟩
  isplitl [Hd]; · iexact Hd
  ihave Hm := Hback $$ %_ Hs
  rw [overlay_self]
  iexact Hm

/-! ## The ring -/

theorem slot_in (n : ℕ) : ∀ a, (![n % 4, 0, 0] : Fin 3 → ℕ) a + S1x1024x4096.size a ≤ S4x1024x4096.size a := by
  intro a; fin_cases a
  · show n % 4 + 1 ≤ 4; omega
  · show 0 + 1024 ≤ 1024; omega
  · show 0 + 4096 ≤ 4096; omega
theorem cell_in (n : ℕ) : ∀ a, (![n % 4] : Fin 1 → ℕ) a + S1.size a ≤ S5.size a := by
  intro a; fin_cases a
  show n % 4 + 1 ≤ 5; omega

/-- The ring's slot and its semaphore cell for chunk `n`. -/
abbrev slotN (n : ℕ) : Memref sig .tc .vmem S1024x4096 .fp8e4m3 := slotAt ![n % 4, 0, 0] (slot_in n)
abbrev cellN (n : ℕ) : SemLoc sig := .dma (wCell ![n % 4] (cell_in n)).sem
/-- The share of the weight codes that chunk `n`'s copy reads. -/
abbrev shareN (n : ℕ) : PosShare TreeShare := Transfers.shareTok fullShare 4 (⟨n % 4, Nat.mod_lt _ (by decide)⟩ : Fin 4)

theorem slot_eq {off : Fin 3 → ℕ} {h : ∀ a, off a + S1x1024x4096.size a ≤ S4x1024x4096.size a} {n : ℕ} (e : off = ![n % 4, 0, 0]) : slotAt off h = slotN n := by
  subst e; rfl
theorem cell_eq {off : Fin 1 → ℕ} {h : ∀ a, off a + S1.size a ≤ S5.size a} {n : ℕ} (e : off = ![n % 4]) : (SemLoc.dma (wCell off h).sem : SemLoc sig) = cellN n := by
  subst e; rfl

theorem slot_mod (n : ℕ) : slotN (n + 4) = slotN n := slot_eq (by rw [Nat.add_mod_right])
theorem cell_mod (n : ℕ) : cellN (n + 4) = cellN n := cell_eq (by rw [Nat.add_mod_right])
theorem share_mod (n : ℕ) : shareN (n + 4) = shareN n := by
  unfold shareN Transfers.shareTok
  show Transfers.shareTokN fullShare ((n + 4) % 4) = Transfers.shareTokN fullShare (n % 4)
  rw [Nat.add_mod_right]

/-- The ring at chunk `n`: in flight to its slot while there is a chunk `n`, and otherwise at rest. -/
def ringAt (c : Dev nD) (D : Data F) (n : ℕ) : sProp 𝕄 :=
  if n ≤ 36 then flight c (cellN n) ((slotN n).view.amount (cellN n))
    iprop(own c (slotN n) (D.cols (4096 * n) 4096 : S1024x4096.Idx → Elt F .fp8e4m3) ∗ owns (c : Thread nD τ) hW (shareN n) D.wc)
  else iprop(any c (slotN n) ∗ owns (c : Thread nD τ) hW (shareN n) D.wc ∗ semVal ((c : Thread nD τ), cellN n) 0)

theorem cols_slice (D : Data F) {off : Fin 2 → ℕ} {a : ℕ} (ho : off = ![0, a]) (hb : ∀ x, off x + S1024x4096.size x ≤ S1024x151936.size x) :
    (fun x => D.wc ((Rect.unit (s := S1024x151936) off S1024x4096.size hb).emb x)) = (D.cols a 4096 : S1024x4096.Idx → Elt F .fp8e4m3) := by
  subst ho
  have h1 : a + 4096 ≤ 151936 := hb 1
  funext x
  refine congrArg D.wc (funext fun d => Fin.ext ?_)
  have hx : (x 1).val < 4096 := (x 1).isLt
  match d with
  | ⟨0, _⟩ => show 0 + 1 * (x 0).val = (x 0).val; omega
  | ⟨1, _⟩ => show a + 1 * (x 1).val = (a + (x 1).val) % 151936; rw [Nat.mod_eq_of_lt (by omega)]; omega

/-- Chunk `n`'s copy. -/
theorem ring_copy (D : Data F) {n : ℕ} (hn : n ≤ 36) {co : Fin 2 → ℕ} {so : Fin 3 → ℕ} {w : Fin 1 → ℕ} {hc hs hw}
    {hsrc : (colsAt co hc).view.WordExact} {hdst : (slotAt so hs).view.WordExact}
    {hsem : DmaTarget.Typed .hbm (.dma (wCell w hw).sem) (.here (slotAt so hs) : DmaTarget nD τ sig .tc .vmem S1024x4096 .fp8e4m3)}
    (e1 : co = ![0, 4096 * n]) (e2 : so = ![n % 4, 0, 0]) (e3 : w = ![n % 4]) {Q : PUnit → sProp 𝕄} :
    iprop(owns (c : Thread nD τ) hW (shareN n) D.wc ∗ any c (slotN n) ∗ semVal ((c : Thread nD τ), cellN n) 0)
      ⊢ iprop((ringAt c D n -∗ Q ⟨⟩) -∗ wpk c (Prog.lift (.enqueueDma (colsAt co hc) (.here (slotAt so hs)) (.dma (wCell w hw).sem) hsrc hdst hsem)) Q) := by
  subst e2 e3
  unfold ringAt
  rw [if_pos hn, ← cols_slice D e1 hc]
  exact copySlice (m := hW) (r := Rect.unit (s := S1024x151936) co S1024x4096.size hc) (by show 0 < S1024x4096.numel; decide)

/-- The wait for chunk `n`. -/
theorem ring_wait (D : Data F) {n : ℕ} (hn : n ≤ 36) {sp' : Space} {s' : Shape} {e' : EltTy} {src : Memref sig .tc sp' s' e'} {so : Fin 3 → ℕ} {w : Fin 1 → ℕ} {hs hw}
    {hsrc : src.view.WordExact} {hdst : (slotAt so hs).view.WordExact}
    (e2 : so = ![n % 4, 0, 0]) (e3 : w = ![n % 4]) {Q : PUnit → sProp 𝕄} :
    iprop(ringAt c D n ∗ due c)
      ⊢ iprop((iprop((own c (slotN n) (D.cols (4096 * n) 4096 : S1024x4096.Idx → Elt F .fp8e4m3) ∗ owns (c : Thread nD τ) hW (shareN n) D.wc)
          ∗ semVal ((c : Thread nD τ), cellN n) 0 ∗ due c) -∗ Q ⟨⟩)
        -∗ wpk c (Prog.lift (.waitDma2 (wCell w hw).sem src (slotAt so hs) hsrc hdst)) Q) := by
  subst e2 e3
  unfold ringAt
  rw [if_pos hn]
  exact wait rfl

/-! ## The output block's halves -/

/-- The output block's first 1120 tiles, and the rest of them. -/
abbrev setA : Finset S48x1187x1x128.Idx := bulkSrc.view.set
abbrev setB : Finset S48x1187x1x128.Idx := Finset.univ \ bulkSrc.view.set

theorem mem_setA (i : S48x1187x1x128.Idx) : i ∈ setA ↔ (i 1).val < 1120 := by
  have hset : setA = (Rect.unit (s := S48x1187x1x128) ![0, 0, 0, 0] S48x1120x1x128.size inb_S48x1187x1x128_S48x1120x1x128_0_0_0_0).set := by
    show (View.slice _ _).set = _
    rw [View.set_slice]; exact Finset.map_refl
  rw [hset, ← Rect.map_emb_univ, Finset.mem_map]
  constructor
  · rintro ⟨x, -, rfl⟩
    have hx : (x 1).val < 1120 := (x 1).isLt
    show 0 + 1 * (x 1).val < 1120; omega
  · intro h
    refine ⟨ix4 (⟨(i 0).val, (i 0).isLt⟩ : Fin 48) (⟨(i 1).val, h⟩ : Fin 1120) (⟨(i 2).val, (i 2).isLt⟩ : Fin 1) (⟨(i 3).val, (i 3).isLt⟩ : Fin 128), Finset.mem_univ _, ?_⟩
    funext a; apply Fin.ext
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
    | ⟨3, _⟩ => show 0 + 1 * (i 3).val = (i 3).val; omega

theorem mem_setB (i : S48x1187x1x128.Idx) : i ∈ setB ↔ 1120 ≤ (i 1).val := by
  rw [Finset.mem_sdiff, mem_setA]; simp

/-- What the output's first 1120 tiles are to hold. -/
def BulkGood (D : Data F) (lane : I48) (Y : S48x1120x1x128.Idx → Elt F .f32) : Prop :=
  ∀ x : S48x1120x1x128.Idx, ∀ T : Fin 1187, (x 1).val = T.val → Y x = D.want lane T (ix2 (⟨(x 0).val, (x 0).isLt⟩ : Fin 48) (⟨(x 3).val, (x 3).isLt⟩ : Fin 128))

abbrev cellA : SemLoc sig := .dma (oCell ![0] inb_S2_S1_0).sem

/-- The copy of the first 1120 tiles in flight. -/
abbrev bulkFlight (c : Dev nD) (D : Data F) (lane : I48) : sProp 𝕄 :=
  flight c cellA (bulkDst.view.amount cellA) iprop((∃ Y, ⌜BulkGood D lane Y⌝ ∗ own c bulkDst Y) ∗ (∃ f, outPt c setA f))

/-- The first 1120 tiles after `n` trips: being filled, and then on their way out. -/
def outA (c : Dev nD) (D : Data F) (lane : I48) (n : ℕ) : sProp 𝕄 :=
  if n ≤ 35 then iprop((∃ f, ⌜∀ T : Fin 1187, T.val < 32 * n → Filled f T (D.want lane T)⌝ ∗ outPt c setA f) ∗ any c bulkDst ∗ semVal ((c : Thread nD τ), cellA) 0)
  else bulkFlight c D lane
theorem outA_lo {D : Data F} {lane : I48} {n : ℕ} (h : n ≤ 35) : outA c D lane n
    = iprop((∃ f, ⌜∀ T : Fin 1187, T.val < 32 * n → Filled f T (D.want lane T)⌝ ∗ outPt c setA f) ∗ any c bulkDst ∗ semVal ((c : Thread nD τ), cellA) 0) := if_pos h
theorem outA_hi {D : Data F} {lane : I48} {n : ℕ} (h : 36 ≤ n) : outA c D lane n = bulkFlight c D lane := if_neg (by omega)
/-- The rest of the tiles after `n` trips. -/
abbrev outB (c : Dev nD) (D : Data F) (lane : I48) (n : ℕ) : sProp 𝕄 :=
  iprop(∃ f, ⌜∀ T : Fin 1187, 1120 ≤ T.val → T.val < 32 * n → Filled f T (D.want lane T)⌝ ∗ outPt c setB f)

/-! ## A trip -/

/-- What a trip finds. -/
def inv (c : Dev nD) (D : Data F) (lane : I48) (n : ℕ) : sProp 𝕄 :=
  iprop(own c mMask D.mw ∗ bitsRes c D lane n ∗ statAt c D lane n ∗ tileRes c D ∗ own c mXs D.xs ∗ outA c D lane n ∗ outB c D lane n ∗ due c
    ∗ ringAt c D n ∗ ringAt c D (n + 1) ∗ ringAt c D (n + 2) ∗ ringAt c D (n + 3))

/-- A trip after its chunk's arrival. -/
def tripRest (lane : I48) (k : Fin k0_t1_loop.trips) : P F PUnit := do
  nextWords lane k
  tiles lane k
  if k0_h2 : k0_cond2 k = 1#1 then do
    Prog.lift (.enqueueDma (colsAt (k0_off11 k) (k0_off11_inb k k0_h2)) (.here (slotAt (k0_off10 k) (k0_off10_inb k k0_h2))) (.dma (wCell (k0_off9 k) (k0_off9_inb k k0_h2)).sem)
      ((Memref.isWhole_whole _).wordExact_slice rfl _ (k0_off11_wordsfp8e4m3 k k0_h2)) (((Memref.isWhole_whole _).wordExact_slice rfl _ (k0_off10_wordsfp8e4m3 k k0_h2)).reshape _ _) ⟨Or.inl rfl, trivial⟩)
    pure ⟨⟩
  else pure ⟨⟩
  pure ⟨⟩

theorem tripRest_spec (D : Data F) (lane : I48) (k : Fin k0_t1_loop.trips) {S : Finset S48x1187x1x128.Idx}
    (hS : ∀ i : S48x1187x1x128.Idx, 32 * k.val ≤ (i 1).val → (i 1).val < 32 * k.val + 32 → i ∈ S) {f : OBuf F} {Q : PUnit → sProp 𝕄} :
    iprop(own c mMask D.mw ∗ bitsRes c D lane k.val ∗ statAt c D lane k.val ∗ tileRes c D ∗ own c mXs D.xs ∗ outPt c S f
        ∗ own c (slotN k.val) (D.cols (4096 * k.val) 4096 : S1024x4096.Idx → Elt F .fp8e4m3) ∗ owns (c : Thread nD τ) hW (shareN k.val) D.wc ∗ semVal ((c : Thread nD τ), cellN k.val) 0)
      ⊢ iprop((iprop(own c mMask D.mw ∗ bitsRes c D lane (k.val + 1) ∗ statAt c D lane (k.val + 1) ∗ tileRes c D ∗ own c mXs D.xs
            ∗ (∃ f', ⌜Upto D lane f f' (32 * k.val) (32 * k.val + 32)⌝ ∗ outPt c S f') ∗ ringAt c D (k.val + 4)) -∗ Q ⟨⟩)
        -∗ wpk c (tripRest lane k) Q) := by
  have hk := k_lt k
  unfold tripRest
  simp only [wpk_bind]
  iintro ⟨HM, HB, HR, HT, HX, HO, HY, Hw, Hv⟩ HQ
  iapply (nextWords_spec (D := D) lane k) $$ [HM HB HR]
  · isplitl [HM]; · iexact HM
    isplitl [HB] <;> iassumption
  iintro ⟨HM, ⟨%B, %hB, HB⟩, HR⟩
  rw [← slot_eq (h := k0_off2_inb k) (off2_eq k)]
  iapply (tiles_spec (D := D) lane k hS hB.1) $$ [HT HY HX HB HR HO]
  · isplitl [HT]; · iexact HT
    isplitl [HY]; · iexact HY
    isplitl [HX]; · iexact HX
    isplitl [HB]; · iexact HB
    isplitl [HR] <;> iassumption
  iintro ⟨HT, HY, HX, HB, HR, HO⟩
  unfold slotRes
  rw [slot_eq (h := k0_off2_inb k) (off2_eq k)]
  ihave HY := (any_of _ _) $$ HY
  have fin : iprop(own c mMask D.mw ∗ own c mBits B ∗ statAt c D lane (k.val + 1) ∗ tileRes c D ∗ own c mXs D.xs
            ∗ (∃ f', ⌜Upto D lane f f' (32 * k.val) (32 * k.val + 32)⌝ ∗ outPt c S f') ∗ ringAt c D (k.val + 4)
            ∗ (iprop(own c mMask D.mw ∗ bitsRes c D lane (k.val + 1) ∗ statAt c D lane (k.val + 1) ∗ tileRes c D ∗ own c mXs D.xs
            ∗ (∃ f', ⌜Upto D lane f f' (32 * k.val) (32 * k.val + 32)⌝ ∗ outPt c S f') ∗ ringAt c D (k.val + 4)) -∗ Q ⟨⟩)) ⊢ Q ⟨⟩ := by
    iintro ⟨HM, HB, HR, HT, HX, HO, Hr, HQ⟩
    iapply HQ
    isplitl [HM]; · iexact HM
    isplitl [HB]
    · iexists B
      isplitr
      · ipureintro; exact hB.2
      iexact HB
    isplitl [HR]; · iexact HR
    isplitl [HT]; · iexact HT
    isplitl [HX]; · iexact HX
    isplitl [HO] <;> iassumption
  by_cases h : k0_cond2 k = 1#1
  · rw [dif_pos h, wpk_bind]
    have hlt := (cond2_eq k).mp h
    rw [← slot_mod, ← cell_mod, ← share_mod]
    iapply (ring_copy D (n := k.val + 4) (by omega) (off11_eq k) ((off10_eq k).trans (by rw [Nat.add_mod_right])) ((off9_eq k).trans (by rw [Nat.add_mod_right]))) $$ [Hw HY Hv]
    · isplitl [Hw]; · iexact Hw
      isplitl [HY] <;> iassumption
    iintro Hr
    iapply wpk_pure
    iapply fin
    isplitl [HM]; · iexact HM
    isplitl [HB]; · iexact HB
    isplitl [HR]; · iexact HR
    isplitl [HT]; · iexact HT
    isplitl [HX]; · iexact HX
    isplitl [HO]; · iexact HO
    isplitl [Hr] <;> iassumption
  · rw [dif_neg h]
    have hlt : ¬ k.val < 33 := fun hl => h ((cond2_eq k).mpr hl)
    iapply wpk_pure
    iapply fin
    isplitl [HM]; · iexact HM
    isplitl [HB]; · iexact HB
    isplitl [HR]; · iexact HR
    isplitl [HT]; · iexact HT
    isplitl [HX]; · iexact HX
    isplitl [HO]; · iexact HO
    isplitr [HQ]
    · unfold ringAt
      rw [if_neg (by omega), slot_mod, cell_mod, share_mod]
      isplitl [HY]; · iexact HY
      isplitl [Hw] <;> iassumption
    · iexact HQ

theorem cond1_eq (k : Fin k0_t1_loop.trips) : (Scalar.cmpi .ne (Scalar.extui (Scalar.cmpi .eq (ivOf k) 35#32) : BitVec 32) 0#32 = 1#1) ↔ k.val = 35 := by
  revert k; decide

/-- The copy of the first 1120 tiles, in the trip that starts it. -/
theorem bulk_spec (D : Data F) (lane : I48) (k : Fin k0_t1_loop.trips) (h : 35 ≤ k.val) {R : P F PUnit} {Q : PUnit → sProp 𝕄} :
    outA c D lane k.val ⊢ iprop((bulkFlight c D lane -∗ wpk c R Q) -∗ wpk c (if _h : Scalar.cmpi .ne (Scalar.extui (Scalar.cmpi .eq (ivOf k) 35#32) : BitVec 32) 0#32 = 1#1 then do
      Prog.lift (.enqueueDma bulkSrc (.here bulkDst) (.dma (oCell ![0] inb_S2_S1_0).sem) (View.wordExact_bits rfl) (View.wordExact_bits rfl) ⟨Or.inl rfl, trivial⟩)
      R
    else R) Q) := by
  have hk := k_lt k
  by_cases h35 : k.val = 35
  · rw [dif_pos ((cond1_eq k).mpr h35), wpk_bind, outA_lo (by omega)]
    iintro ⟨⟨%f, %hf, HO⟩, HbD, HbS⟩ HQ
    iapply (copy (src := bulkSrc) (dst := bulkDst) (fs := f) (q := fullShare) (by show 0 < S48x1120x1x128.numel; decide)) $$ [HO HbD HbS]
    · isplitl [HO]; · iexact HO
      isplitl [HbD] <;> iassumption
    iintro Hf
    iapply HQ
    iapply (flight_mono ?_) $$ Hf
    iintro ⟨Hd, Hs⟩
    isplitl [Hd]
    · iexists _
      isplitr
      rotate_left
      · iexact Hd
      ipureintro
      intro x T hT
      have hx : (x 1).val < 1120 := (x 1).isLt
      refine (hf T (by omega) ((Rect.unit (s := S48x1187x1x128) ![0, 0, 0, 0] S48x1120x1x128.size inb_S48x1187x1x128_S48x1120x1x128_0_0_0_0).emb x) ?_).trans ?_
      · show 0 + 1 * (x 1).val = T.val; omega
      · refine congrArg (D.want lane T) (funext fun a => Fin.ext ?_)
        match a with
        | ⟨0, _⟩ => show 0 + 1 * (x 0).val = (x 0).val; omega
        | ⟨1, _⟩ => show 0 + 1 * (x 3).val = (x 3).val; omega
    · iexists f; iexact Hs
  · rw [dif_neg (fun hc => h35 ((cond1_eq k).mp hc)), outA_hi (by omega)]
    iintro H HQ
    iapply HQ
    iexact H

/-- A trip carries its invariant on. -/
theorem trip_spec (D : Data F) (lane : I48) (k : Fin k0_t1_loop.trips) {Q : PUnit → sProp 𝕄} :
    inv c D lane k.val ⊢ iprop((inv c D lane (k.val + 1) -∗ Q ⟨⟩) -∗ wpk c (trip lane k) Q) := by
  have hk := k_lt k
  rw [show (trip lane k : P F PUnit) = (do
    Prog.lift (.waitDma2 (wCell (k0_off1 k) (k0_off1_inb k)).sem (colsAt (k0_off3 k) (k0_off3_inb k)) (slotAt (k0_off2 k) (k0_off2_inb k))
      ((Memref.isWhole_whole _).wordExact_slice rfl _ (k0_off3_wordsfp8e4m3 k)) (((Memref.isWhole_whole _).wordExact_slice rfl _ (k0_off2_wordsfp8e4m3 k)).reshape _ _))
    if _h : Scalar.cmpi .ne (Scalar.extui (Scalar.cmpi .eq (ivOf k) 35#32) : BitVec 32) 0#32 = 1#1 then do
      Prog.lift (.enqueueDma bulkSrc (.here bulkDst) (.dma (oCell ![0] inb_S2_S1_0).sem) (View.wordExact_bits rfl) (View.wordExact_bits rfl) ⟨Or.inl rfl, trivial⟩)
      pure ⟨⟩
    else pure ⟨⟩
    tripRest lane k) from rfl]
  simp only [wpk_bind]
  unfold inv
  iintro ⟨HM, HB, HR, HT, HX, HA, HOB, HW, Hr0, Hr1, Hr2, Hr3⟩ HQ
  iapply (ring_wait D (n := k.val) (by omega) (off2_eq k) (off1_eq k)) $$ [Hr0 HW]
  · isplitl [Hr0] <;> iassumption
  iintro ⟨⟨HY, Hw⟩, Hv, HW⟩
  by_cases hlt : k.val < 35
  · rw [dif_neg (fun h => absurd ((cond1_eq k).mp h) (by omega))]
    ihave HA := (of_eq (outA_lo (by omega))) $$ HA
    icases HA with ⟨⟨%f, %hf, HO⟩, HbD, HbS⟩
    iapply (tripRest_spec D lane k (S := setA) (fun i h1 h2 => (mem_setA i).mpr (by omega))) $$ [HM HB HR HT HX HO HY Hw Hv]
    · isplitl [HM]; · iexact HM
      isplitl [HB]; · iexact HB
      isplitl [HR]; · iexact HR
      isplitl [HT]; · iexact HT
      isplitl [HX]; · iexact HX
      isplitl [HO]; · iexact HO
      isplitl [HY]; · iexact HY
      isplitl [Hw] <;> iassumption
    iintro ⟨HM, HB, HR, HT, HX, ⟨%f', %hf', HO⟩, Hr4⟩
    iapply HQ
    isplitl [HM]; · iexact HM
    isplitl [HB]; · iexact HB
    isplitl [HR]; · iexact HR
    isplitl [HT]; · iexact HT
    isplitl [HX]; · iexact HX
    isplitl [HO HbD HbS]
    · iapply (of_eq (outA_lo (by omega)).symm)
      isplitl [HO]
      · iexists f'
        isplitr
        rotate_left
        · iexact HO
        ipureintro
        intro T hT i hi
        by_cases h : T.val < 32 * k.val
        · rw [hf'.2 i (by omega)]; exact hf T h i hi
        · exact hf'.1 T (by omega) (by omega) i hi
      isplitl [HbD] <;> iassumption
    isplitl [HOB]
    · icases HOB with ⟨%g, %hg, HOB⟩
      iexists g
      isplitr
      · ipureintro; intro T h1 h2; omega
      iexact HOB
    isplitl [HW]; · iexact HW
    isplitl [Hr1]; · iexact Hr1
    isplitl [Hr2]; · iexact Hr2
    isplitl [Hr3] <;> iassumption
  · iapply (bulk_spec D lane k (by omega)) $$ HA
    iintro HA
    icases HOB with ⟨%f, %hf, HO⟩
    iapply (tripRest_spec D lane k (S := setB) (fun i h1 h2 => (mem_setB i).mpr (by omega))) $$ [HM HB HR HT HX HO HY Hw Hv]
    · isplitl [HM]; · iexact HM
      isplitl [HB]; · iexact HB
      isplitl [HR]; · iexact HR
      isplitl [HT]; · iexact HT
      isplitl [HX]; · iexact HX
      isplitl [HO]; · iexact HO
      isplitl [HY]; · iexact HY
      isplitl [Hw] <;> iassumption
    iintro ⟨HM, HB, HR, HT, HX, ⟨%f', %hf', HO⟩, Hr4⟩
    iapply HQ
    isplitl [HM]; · iexact HM
    isplitl [HB]; · iexact HB
    isplitl [HR]; · iexact HR
    isplitl [HT]; · iexact HT
    isplitl [HX]; · iexact HX
    isplitl [HA]; · iapply (of_eq (outA_hi (by omega)).symm) $$ HA
    isplitl [HO]
    · iexists f'
      isplitr
      rotate_left
      · iexact HO
      ipureintro
      intro T hT1 hT2 i hi
      by_cases h : T.val < 32 * k.val
      · rw [hf'.2 i (by omega)]; exact hf T hT1 h i hi
      · exact hf'.1 T (by omega) (by omega) i hi
    isplitl [HW]; · iexact HW
    isplitl [Hr1]; · iexact Hr1
    isplitl [Hr2]; · iexact Hr2
    isplitl [Hr3] <;> iassumption

end Cert.Kernel.Hand

end
-- ==== Proof.Head.lean ====
/- The kernel around its chunk loop, in pieces: the copies in, the quantiser, the candidates, the mask's words, the
   last three tiles, the statistics and the copies out. -/
module

public import proofs.«01_k».proof.Proof.Body

@[expose] public section

set_option maxRecDepth 65536

noncomputable section

namespace Cert.Kernel.Hand

open Cert.Kernel Cert.Kernel.Gen
open Idealize.ShloMosaic Idealize.ShloMosaic.TcCoe
open Idealize.SL.Sem

variable {F : FTy → Type} [FloatOps F] [Facts]

/-! ## Copies in -/

abbrev mMaskMain : Memref sig .tc .vmem S48x4736 .i32 := mMask.slice (Rect.unit (s := S48x4864) ![0, 0] S48x4736.size inb_S48x4864_S48x4736_0_0) (fun _ => rfl)
abbrev hMaskMain : Memref sig .tc .hbm S48x4736 .i32 := hMask.slice (Rect.unit (s := S48x4748) ![0, 0] S48x4736.size inb_S48x4748_S48x4736_0_0) (fun _ => rfl)
abbrev hMaskTail : Memref sig .tc .hbm S48x12 .i32 := hMask.slice (Rect.unit (s := S48x4748) ![0, 4736] S48x12.size inb_S48x4748_S48x12_0_4736) (fun _ => rfl)
abbrev hWtail : Memref sig .tc .hbm S1024x384 .fp8e4m3 := hW.slice (Rect.unit (s := S1024x151936) ![0, 151552] S1024x384.size inb_S1024x151936_S1024x384_0_151552) (fun _ => rfl)
abbrev tailSrc : Memref sig .tc .vmem S48x67x1x128 .f32 := mOut.slice (Rect.unit (s := S48x1187x1x128) ![0, 1120, 0, 0] S48x67x1x128.size inb_S48x1187x1x128_S48x67x1x128_0_1120_0_0) (fun _ => rfl)
abbrev tailDst : Memref sig .tc .hbm S48x67x1x128 .f32 := hOut.slice (Rect.unit (s := S48x1187x1x128) ![0, 1120, 0, 0] S48x67x1x128.size inb_S48x1187x1x128_S48x67x1x128_0_1120_0_0) (fun _ => rfl)

/-- The copies of the tokens, the candidates, the mask (its last twelve words apart), the column scales, the first
    four chunks of weight codes and the last 384 columns of them. -/
def copiesIn : P F PUnit := do
  Prog.lift (.enqueueDma hX (.here mX) (.dma (inCell ![0] inb_S5_S1_0).sem) (Memref.isWhole_whole _).wordExact (Memref.isWhole_whole _).wordExact ⟨Or.inl rfl, trivial⟩)
  Prog.lift (.enqueueDma hCand (.here mCand) (.dma (inCell ![1] inb_S5_S1_1).sem) (Memref.isWhole_whole _).wordExact (Memref.isWhole_whole _).wordExact ⟨Or.inl rfl, trivial⟩)
  Prog.lift (.enqueueDma hMaskMain (.here mMaskMain) (.dma (inCell ![2] inb_S5_S1_2).sem) (View.wordExact_bits rfl) (View.wordExact_bits rfl) ⟨Or.inl rfl, trivial⟩)
  Prog.lift (.enqueueDma hMaskTail (.here mMtail) (.dma (inCell ![3] inb_S5_S1_3).sem) (View.wordExact_bits rfl) (Memref.isWhole_whole _).wordExact ⟨Or.inl rfl, trivial⟩)
  Prog.lift (.enqueueDma hWs (.here mWs) (.dma (inCell ![4] inb_S5_S1_4).sem) (Memref.isWhole_whole _).wordExact (Memref.isWhole_whole _).wordExact ⟨Or.inl rfl, trivial⟩)
  Prog.lift (.enqueueDma (colsAt ![0, 0] inb_S1024x151936_S1024x4096_0_0) (.here (slotAt ![0, 0, 0] inb_S4x1024x4096_S1x1024x4096_0_0_0)) (.dma (wCell ![0] inb_S5_S1_0).sem)
    ((Memref.isWhole_whole _).wordExact_slice rfl _ wordsfp8e4m3_S1024x151936_S1024x4096_0_0) (((Memref.isWhole_whole _).wordExact_slice rfl _ wordsfp8e4m3_S4x1024x4096_S1x1024x4096_0_0_0).reshape _ _) ⟨Or.inl rfl, trivial⟩)
  Prog.lift (.enqueueDma (colsAt ![0, 4096] inb_S1024x151936_S1024x4096_0_4096) (.here (slotAt ![1, 0, 0] inb_S4x1024x4096_S1x1024x4096_1_0_0)) (.dma (wCell ![1] inb_S5_S1_1).sem)
    ((Memref.isWhole_whole _).wordExact_slice rfl _ wordsfp8e4m3_S1024x151936_S1024x4096_0_4096) (((Memref.isWhole_whole _).wordExact_slice rfl _ wordsfp8e4m3_S4x1024x4096_S1x1024x4096_1_0_0).reshape _ _) ⟨Or.inl rfl, trivial⟩)
  Prog.lift (.enqueueDma (colsAt ![0, 8192] inb_S1024x151936_S1024x4096_0_8192) (.here (slotAt ![2, 0, 0] inb_S4x1024x4096_S1x1024x4096_2_0_0)) (.dma (wCell ![2] inb_S5_S1_2).sem)
    ((Memref.isWhole_whole _).wordExact_slice rfl _ wordsfp8e4m3_S1024x151936_S1024x4096_0_8192) (((Memref.isWhole_whole _).wordExact_slice rfl _ wordsfp8e4m3_S4x1024x4096_S1x1024x4096_2_0_0).reshape _ _) ⟨Or.inl rfl, trivial⟩)
  Prog.lift (.enqueueDma (colsAt ![0, 12288] inb_S1024x151936_S1024x4096_0_12288) (.here (slotAt ![3, 0, 0] inb_S4x1024x4096_S1x1024x4096_3_0_0)) (.dma (wCell ![3] inb_S5_S1_3).sem)
    ((Memref.isWhole_whole _).wordExact_slice rfl _ wordsfp8e4m3_S1024x151936_S1024x4096_0_12288) (((Memref.isWhole_whole _).wordExact_slice rfl _ wordsfp8e4m3_S4x1024x4096_S1x1024x4096_3_0_0).reshape _ _) ⟨Or.inl rfl, trivial⟩)
  Prog.lift (.enqueueDma hWtail (.here mWtail) (.dma (wCell ![4] inb_S5_S1_4).sem) ((Memref.isWhole_whole _).wordExact_slice rfl _ wordsfp8e4m3_S1024x151936_S1024x384_0_151552) (Memref.isWhole_whole _).wordExact ⟨Or.inl rfl, trivial⟩)

/-! ## The quantiser -/

/-- One trial of the search for a value's exponent field: bit `d` set if the value is not below the power of two. -/
def fieldStep (v : V48 F) (d : BitVec 32) (e : I48) : I48 :=
  select (cmpf .olt v (bitcastToFloat .f32 (shli (ori e (broadcast S48x128 d)) (broadcast S48x128 23#32)))) e (ori e (broadcast S48x128 d))
/-- A value's exponent field. -/
def fieldOf (v : V48 F) : I48 :=
  fieldStep v 1#32 (fieldStep v 2#32 (fieldStep v 4#32 (fieldStep v 8#32 (fieldStep v 16#32 (fieldStep v 32#32 (fieldStep v 64#32 (fieldStep v 128#32 (broadcast S48x128 0#32))))))))
/-- The tokens' largest magnitudes, on every lane. -/
def amaxOf (x : FVec F S48x1024 .f32) : V48 F :=
  broadcastTo S48x128 (shapeCast S48x1 (shapeCast S48x1 (multiReduction .maximumf [1] S48 (absf x) 0xFF800000#32 reduces_S48x1024_S48 (.inl rfl) rfl) shapeCasts_S48_S48x1) shapeCasts_S48x1_S48x1) broadcasts_S48x1_S48x128
/-- The exponent of a token's scale from its largest magnitude. -/
def expOf (a : V48 F) : I48 :=
  let e := fieldOf (mulf a (broadcast S48x128 (Scalar.ofBits .f32 0x3B124925#32)))
  select (ori (cmpf .oeq a (broadcast S48x128 (Scalar.ofBits .f32 0x00000000#32))) (cmpi .eq e (broadcast S48x128 0#32))) (broadcast S48x128 0#32) (subi e (broadcast S48x128 126#32))
/-- The tokens' scales. -/
def scaleOf (x : FVec F S48x1024 .f32) : V48 F :=
  bitcastToFloat .f32 (shli (addi (broadcast S48x128 127#32) (expOf (amaxOf x))) (broadcast S48x128 23#32))
/-- The reciprocals of the tokens' scales. -/
def invOf (x : FVec F S48x1024 .f32) : V48 F :=
  bitcastToFloat .f32 (shli (subi (broadcast S48x128 127#32) (expOf (amaxOf x))) (broadcast S48x128 23#32))
/-- A block scaled and clipped to the codes' range. -/
def clipOf (y inv : V48 F) : V48 F :=
  minimumf (broadcast S48x128 (Scalar.ofBits .f32 0x43E00000#32)) (maximumf (broadcast S48x128 (Scalar.ofBits .f32 0xC3E00000#32)) (mulf y inv))
/-- The tokens' codes. -/
def codesOf (x : FVec F S48x1024 .f32) : FVec F S48x1024 .fp8e4m3 :=
  truncf .fp8e4m3 (concatenate S48x1024 1 [
    ⟨S48x128, clipOf (extractStridedSlice S48x128 ![0, 0] x slices_S48x1024_o0_0_S48x128) (invOf x)⟩,
    ⟨S48x128, clipOf (extractStridedSlice S48x128 ![0, 128] x slices_S48x1024_o0_128_S48x128) (invOf x)⟩,
    ⟨S48x128, clipOf (extractStridedSlice S48x128 ![0, 256] x slices_S48x1024_o0_256_S48x128) (invOf x)⟩,
    ⟨S48x128, clipOf (extractStridedSlice S48x128 ![0, 384] x slices_S48x1024_o0_384_S48x128) (invOf x)⟩,
    ⟨S48x128, clipOf (extractStridedSlice S48x128 ![0, 512] x slices_S48x1024_o0_512_S48x128) (invOf x)⟩,
    ⟨S48x128, clipOf (extractStridedSlice S48x128 ![0, 640] x slices_S48x1024_o0_640_S48x128) (invOf x)⟩,
    ⟨S48x128, clipOf (extractStridedSlice S48x128 ![0, 768] x slices_S48x1024_o0_768_S48x128) (invOf x)⟩,
    ⟨S48x128, clipOf (extractStridedSlice S48x128 ![0, 896] x slices_S48x1024_o0_896_S48x128) (invOf x)⟩] concatenates_S48x128_S48x128_S48x128_S48x128_S48x128_S48x128_S48x128_S48x128_S48x1024_d1) bitsLt_fp8e4m3_f32

/-- The tokens quantised: their codes kept twice (sixteen zero rows below the second), their scales, the codes' copy out. -/
def quantise : P F PUnit := do
  Prog.lift (.waitDma2 (inCell ![0] inb_S5_S1_0).sem hX mX (Memref.isWhole_whole _).wordExact (Memref.isWhole_whole _).wordExact)
  let x : Vec F S48x1024 .bf16 ← Prog.lift (.load mX (Rect.unit (s := S48x1024) ![0, 0] S48x1024.size inb_S48x1024_S48x1024_0_0).toLoadRect (View.loadsAt_vmem h_S48x1024))
  let _v : Vec F S48x1024 .fp8e4m3 ← Prog.lift (.load mCodes (Rect.unit (s := S48x1024) ![0, 0] S48x1024.size inb_S48x1024_S48x1024_0_0).toLoadRect (View.loadsAt_vmem h_S48x1024))
  Prog.lift (.store mCodes (Rect.unit (s := S48x1024) ![0, 0] S48x1024.size inb_S48x1024_S48x1024_0_0) (shapeCast S48x1024 (codesOf (extf .f32 x bitsLt_bf16_f32)) shapeCasts_S48x1024_S48x1024) Finset.univ (View.stores_vmem h_S48x1024 ((Memref.isWhole_whole _).storeExact_slice rfl _ packedfp8e4m3_S48x1024_S48x1024_0_0) (fun _ => rfl)) (.inl rfl))
  let _v : Vec F S64x1024 .fp8e4m3 ← Prog.lift (.load mLhs (Rect.unit (s := S64x1024) ![0, 0] S64x1024.size inb_S64x1024_S64x1024_0_0).toLoadRect (View.loadsAt_vmem h_S64x1024))
  Prog.lift (.store mLhs (Rect.unit (s := S64x1024) ![0, 0] S64x1024.size inb_S64x1024_S64x1024_0_0) (shapeCast S64x1024 (broadcast S64x1024 (Scalar.ofBits .fp8e4m3 0x00#8) : FVec F S64x1024 .fp8e4m3) shapeCasts_S64x1024_S64x1024) Finset.univ (View.stores_vmem h_S64x1024 ((Memref.isWhole_whole _).storeExact_slice rfl _ packedfp8e4m3_S64x1024_S64x1024_0_0) (fun _ => rfl)) (.inl rfl))
  let _v : Vec F S48x1024 .fp8e4m3 ← Prog.lift (.load mLhs (Rect.unit (s := S64x1024) ![0, 0] S48x1024.size inb_S64x1024_S48x1024_0_0).toLoadRect (View.loadsAt_vmem h_S48x1024))
  Prog.lift (.store mLhs (Rect.unit (s := S64x1024) ![0, 0] S48x1024.size inb_S64x1024_S48x1024_0_0) (shapeCast S48x1024 (codesOf (extf .f32 x bitsLt_bf16_f32)) shapeCasts_S48x1024_S48x1024) Finset.univ (View.stores_vmem h_S48x1024 ((Memref.isWhole_whole _).storeExact_slice rfl _ packedfp8e4m3_S64x1024_S48x1024_0_0) (fun _ => rfl)) (.inl rfl))
  let _v ← ld48 mXs
  st48f mXs (scaleOf (extf .f32 x bitsLt_bf16_f32))
  Prog.lift (.enqueueDma mCodes (.here hCodes) (.dma (sCell ![0] inb_S6_S1_0).sem) (Memref.isWhole_whole _).wordExact (Memref.isWhole_whole _).wordExact ⟨Or.inl rfl, trivial⟩)

/-! ## The candidates and the mask's words -/

abbrev ldSq : P F (Vec F S128x128 .f32) :=
  Prog.lift (.load mSq (Rect.unit (s := S128x128) ![0, 0] S128x128.size inb_S128x128_S128x128_0_0).toLoadRect (View.loadsAt_vmem h_S128x128))
/-- A block into the first 48 rows of the square block, which is returned transposed. -/
def turn (v : V48 F) : P F (FVec F S128x128 .f32) := do
  let _v : Vec F S48x128 .f32 ← Prog.lift (.load mSq (Rect.unit (s := S128x128) ![0, 0] S48x128.size inb_S128x128_S48x128_0_0).toLoadRect (View.loadsAt_vmem h_S48x128))
  Prog.lift (.store mSq (Rect.unit (s := S128x128) ![0, 0] S48x128.size inb_S128x128_S48x128_0_0) (shapeCast S48x128 v shapeCasts_S48x128_S48x128) Finset.univ (View.stores_vmem_bits_univ h_S48x128 rfl) (.inl rfl))
  let q ← ldSq
  pure (transpose S128x128 [1, 0] q transposes_S128x128_p1_0_S128x128)

/-- The candidates' columns, split into lane and tile; the candidates' logits and words, and the statistics, at their start. -/
def candidates : P F PUnit := do
  let _v ← ldSq
  Prog.lift (.store mSq (Rect.unit (s := S128x128) ![0, 0] S128x128.size inb_S128x128_S128x128_0_0) (shapeCast S128x128 (broadcast S128x128 (Scalar.ofBits .f32 0x00000000#32) : FVec F S128x128 .f32) shapeCasts_S128x128_S128x128) Finset.univ (View.stores_vmem_bits_univ h_S128x128 rfl) (.inl rfl))
  Prog.lift (.waitDma2 (inCell ![1] inb_S5_S1_1).sem hCand mCand (Memref.isWhole_whole _).wordExact (Memref.isWhole_whole _).wordExact)
  let cand : Vec F S32x48 .i32 ← Prog.lift (.load mCand (Rect.unit (s := S32x48) ![0, 0] S32x48.size inb_S32x48_S32x48_0_0).toLoadRect (View.loadsAt_vmem h_S32x48))
  let _v : Vec F S32x48 .f32 ← Prog.lift (.load mSq (Rect.unit (s := S128x128) ![0, 0] S32x48.size inb_S128x128_S32x48_0_0).toLoadRect (View.loadsAt_vmem h_S32x48))
  Prog.lift (.store mSq (Rect.unit (s := S128x128) ![0, 0] S32x48.size inb_S128x128_S32x48_0_0) (shapeCast S32x48 (sitofp .f32 cand : FVec F S32x48 .f32) shapeCasts_S32x48_S32x48) Finset.univ (View.stores_vmem_bits_univ h_S32x48 rfl) (.inl rfl))
  let q ← ldSq
  let ids : I48 := fptosi 32 (extractStridedSlice S48x128 ![0, 0] (transpose S128x128 [1, 0] q transposes_S128x128_p1_0_S128x128) slices_S128x128_o0_0_S48x128)
  let _v ← ld48 mCidx
  st48i mCidx (andi ids (broadcast S48x128 127#32))
  let _v ← ld48 mCtile
  st48i mCtile (shrsi ids (broadcast S48x128 7#32))
  let _v ← ld48 mCacc
  st48f mCacc (broadcast S48x128 (Scalar.ofBits .f32 0x00000000#32))
  let _v ← ld48 mCword
  st48i mCword (broadcast S48x128 0#32)
  let _v ← ld48 mMst
  st48f mMst (broadcast S48x128 (Scalar.ofBits .f32 0xFF800000#32))
  let _v ← ld48 mSst
  st48f mSst (broadcast S48x128 (Scalar.ofBits .f32 0x00000000#32))

/-- The mask's words in one block, its last twelve followed by zeros. -/
def maskWords : P F PUnit := do
  Prog.lift (.waitDma2 (inCell ![2] inb_S5_S1_2).sem hMaskMain mMaskMain (View.wordExact_bits rfl) (View.wordExact_bits rfl))
  Prog.lift (.waitDma2 (inCell ![3] inb_S5_S1_3).sem hMaskTail mMtail (View.wordExact_bits rfl) (Memref.isWhole_whole _).wordExact)
  let last : Vec F S48x12 .i32 ← Prog.lift (.load mMtail (Rect.unit (s := S48x12) ![0, 0] S48x12.size inb_S48x12_S48x12_0_0).toLoadRect (View.loadsAt_vmem h_S48x12))
  let _v : Vec F S48x128 .i32 ← Prog.lift (.load mMask (Rect.unit (s := S48x4864) ![0, 4736] S48x128.size inb_S48x4864_S48x128_0_4736).toLoadRect (View.loadsAt_vmem h_S48x128))
  Prog.lift (.store mMask (Rect.unit (s := S48x4864) ![0, 4736] S48x128.size inb_S48x4864_S48x128_0_4736) (shapeCast S48x128 (concatenate S48x128 1 [⟨S48x12, last⟩, ⟨S48x116, (broadcast S48x116 0#32 : IVec S48x116 32)⟩] concatenates_S48x12_S48x116_S48x128_d1) shapeCasts_S48x128_S48x128) Finset.univ (View.stores_vmem_bits_univ h_S48x128 rfl) (.inl rfl))

/-- The first chunk's mask words to bits, and the candidates' words in them. -/
def firstWords (lane : I48) : P F PUnit := do
  let words : Vec F S48x128 .i32 ← Prog.lift (.load mMask (Rect.unit (s := S48x4864) ![0, 0] S48x128.size inb_S48x4864_S48x128_0_0).toLoadRect (View.loadsAt_vmem h_S48x128))
  let _v : Vec F S1x48x128 .i32 ← Prog.lift (.load mBits (Rect.unit (s := S2x48x128) ![0, 0, 0] S1x48x128.size inb_S2x48x128_S1x48x128_0_0_0).toLoadRect (View.loadsAt_vmem h_S1x48x128))
  Prog.lift (.store mBits (Rect.unit (s := S2x48x128) ![0, 0, 0] S1x48x128.size inb_S2x48x128_S1x48x128_0_0_0) (shapeCast S1x48x128 (unpack (F := F) lane words) shapeCasts_S48x128_S1x48x128) Finset.univ (View.stores_vmem_bits_univ h_S1x48x128 rfl) (.inl rfl))
  let ctile ← ld48 mCtile
  let cidx ← ld48 mCidx
  let old ← ld48 mCword
  let _v ← ld48 mCword
  st48i mCword (cwordOf words 0#32 ctile cidx old)

/-! ## The last three tiles -/

theorem off12_in (j : ℕ) (hj : j < 3) : ∀ a, k0_off12 (BitVec.ofNat 32 j) a + S1x128.size a ≤ S1187x128.size a := by
  match j, hj with
  | 0, _ => exact k0_off12_inb 0
  | 1, _ => exact k0_off12_inb 1
  | 2, _ => exact k0_off12_inb 2

theorem tailSlab_in (j : ℕ) (hj : j < 3) (r : Fin 6) :
    ∀ a, S8x128.size a = 0 ∨ (![1184 + j + 9496 * r.val, 0] : Fin 2 → ℕ) a + (![1187, 1] : Fin 2 → ℕ) a * (S8x128.size a - 1) < S56976x128.size a := by
  intro a; right; fin_cases a
  · show 1184 + j + 9496 * r.val + 1187 * (8 - 1) < 56976; omega
  · show 0 + 1 * (128 - 1) < 128; omega

/-- Tile `1184 + j`. -/
def tailTile (j : ℕ) (hj : j < 3) (raw xs : V48 F) (t cidx ctile : I48) (s : V48 F × V48 F) : P F (V48 F × V48 F) :=
  tile (k0_off12 (BitVec.ofNat 32 j)) (off12_in j hj) ![0, 128 * j] (neg_in j (by omega))
    (fun r => ![1184 + j + 9496 * r.val, 0]) (tailSlab_in j hj)
    (BitVec.ofNat 32 (2 ^ j)) (BitVec.ofNat 32 j) raw xs t cidx ctile s

/-- The last three tiles and the last chunk's statistics. -/
def tailTiles (lane : I48) : P F PUnit := do
  Prog.lift (.waitDma2 (wCell ![4] inb_S5_S1_4).sem hWtail mWtail ((Memref.isWhole_whole _).wordExact_slice rfl _ wordsfp8e4m3_S1024x151936_S1024x384_0_151552) (Memref.isWhole_whole _).wordExact)
  let xs ← ld48 mXs
  let t : Vec F S1x48x128 .i32 ← Prog.lift (.load mBits (Rect.unit (s := S2x48x128) ![1, 0, 0] S1x48x128.size inb_S2x48x128_S1x48x128_1_0_0).toLoadRect (View.loadsAt_vmem h_S1x48x128))
  let cidx ← ld48 mCidx
  let ctile ← ld48 mCtile
  let cacc ← ld48 mCacc
  let l : Vec F S64x1024 .fp8e4m3 ← Prog.lift (.load mLhs (Rect.unit (s := S64x1024) ![0, 0] S64x1024.size inb_S64x1024_S64x1024_0_0).toLoadRect (View.loadsAt_vmem h_S64x1024))
  let w : Vec F S1024x256 .fp8e4m3 ← Prog.lift (.load mWtail (Rect.unit (s := S1024x384) ![0, 0] S1024x256.size inb_S1024x384_S1024x256_0_0).toLoadRect (View.loadsAt_vmem h_S1024x256))
  let s₀ ← tailTile 0 (by omega) (extractStridedSlice S48x128 ![0, 0] (matmul dot_S64x1024_S1024x256_S64x256_1_0_0_1_n_n none l w (constant S64x256 .f32 0x00000000#32)) slices_S64x256_o0_0_S48x128) xs
    (shapeCast S48x128 t shapeCasts_S1x48x128_S48x128) cidx (subi ctile (broadcast S48x128 1184#32)) (broadcast S48x128 (Scalar.ofBits .f32 0xFF800000#32), cacc)
  let s₁ ← tailTile 1 (by omega) (extractStridedSlice S48x128 ![0, 128] (matmul dot_S64x1024_S1024x256_S64x256_1_0_0_1_n_n none l w (constant S64x256 .f32 0x00000000#32)) slices_S64x256_o0_128_S48x128) xs
    (shapeCast S48x128 t shapeCasts_S1x48x128_S48x128) cidx (subi ctile (broadcast S48x128 1184#32)) s₀
  let l' : Vec F S64x1024 .fp8e4m3 ← Prog.lift (.load mLhs (Rect.unit (s := S64x1024) ![0, 0] S64x1024.size inb_S64x1024_S64x1024_0_0).toLoadRect (View.loadsAt_vmem h_S64x1024))
  let w' : Vec F S1024x128 .fp8e4m3 ← Prog.lift (.load mWtail (Rect.unit (s := S1024x384) ![0, 256] S1024x128.size inb_S1024x384_S1024x128_0_256).toLoadRect (View.loadsAt_vmem h_S1024x128))
  let s₂ ← tailTile 2 (by omega) (extractStridedSlice S48x128 ![0, 0] (matmul dot_S64x1024_S1024x128_S64x128_1_0_0_1_n_n none l' w' (constant S64x128 .f32 0x00000000#32)) slices_S64x128_o0_0_S48x128) xs
    (shapeCast S48x128 t shapeCasts_S1x48x128_S48x128) cidx (subi ctile (broadcast S48x128 1184#32)) s₁
  stats 3 (by omega) lane 37#32 s₂
  Prog.lift (.enqueueDma tailSrc (.here tailDst) (.dma (oCell ![1] inb_S2_S1_1).sem) (View.wordExact_bits rfl) (View.wordExact_bits rfl) ⟨Or.inl rfl, trivial⟩)

/-! ## The statistics and the copies out -/

/-- The log of the sum of exponentials over all chunks, from the chunks' maxima and sums. -/
def lseOf (m s : V48 F) : V48 F :=
  addf (log (rowSum (select (cmpf .oeq m (broadcast S48x128 (Scalar.ofBits .f32 0xFF800000#32))) (broadcast S48x128 (Scalar.ofBits .f32 0x00000000#32))
    (mulf s (exp (subf m (finiteOf (rowMax m)))))))) (finiteOf (rowMax m))

/-- The remaining results, each turned to rows of tokens, and their copies out. -/
def results (lane : I48) : P F PUnit := do
  let m ← ld48 mMst
  let s ← ld48 mSst
  let cidx ← ld48 mCidx
  let cword ← ld48 mCword
  let cacc ← ld48 mCacc
  let q₁ ← turn (select (cmpi .eq (andi (shrui cword (andi cidx (broadcast S48x128 31#32))) (broadcast S48x128 1#32)) (broadcast S48x128 1#32)) (subf cacc (lseOf m s)) (broadcast S48x128 (Scalar.ofBits .f32 0x00000000#32)))
  let _v : Vec F S32x48 .f32 ← Prog.lift (.load mCandO (Rect.unit (s := S32x48) ![0, 0] S32x48.size inb_S32x48_S32x48_0_0).toLoadRect (View.loadsAt_vmem h_S32x48))
  Prog.lift (.store mCandO (Rect.unit (s := S32x48) ![0, 0] S32x48.size inb_S32x48_S32x48_0_0) (shapeCast S32x48 (extractStridedSlice S32x48 ![0, 0] q₁ slices_S128x128_o0_0_S32x48) shapeCasts_S32x48_S32x48) Finset.univ (View.stores_vmem_bits_univ h_S32x48 rfl) (.inl rfl))
  let q₂ ← turn (select (cmpi .eq lane (broadcast S48x128 38#32)) (lseOf m s) (finiteOf m))
  let _v : Vec F S38x1x48 .f32 ← Prog.lift (.load mCmaxO (Rect.unit (s := S38x1x48) ![0, 0, 0] S38x1x48.size inb_S38x1x48_S38x1x48_0_0_0).toLoadRect (View.loadsAt_vmem h_S38x1x48))
  Prog.lift (.store mCmaxO (Rect.unit (s := S38x1x48) ![0, 0, 0] S38x1x48.size inb_S38x1x48_S38x1x48_0_0_0) (shapeCast S38x1x48 (shapeCast S38x1x48 (extractStridedSlice S38x48 ![0, 0] q₂ slices_S128x128_o0_0_S38x48) shapeCasts_S38x48_S38x1x48) shapeCasts_S38x1x48_S38x1x48) Finset.univ (View.stores_vmem_bits_univ h_S38x1x48 rfl) (.inl rfl))
  let _v : Vec F S1x48 .f32 ← Prog.lift (.load mLse (Rect.unit (s := S1x48) ![0, 0] S1x48.size inb_S1x48_S1x48_0_0).toLoadRect (View.loadsAt_vmem h_S1x48))
  Prog.lift (.store mLse (Rect.unit (s := S1x48) ![0, 0] S1x48.size inb_S1x48_S1x48_0_0) (shapeCast S1x48 (extractStridedSlice S1x48 ![38, 0] q₂ slices_S128x128_o38_0_S1x48) shapeCasts_S1x48_S1x48) Finset.univ (View.stores_vmem_bits_univ h_S1x48 rfl) (.inl rfl))
  let xs ← ld48 mXs
  let q₃ ← turn (select (cmpi .eq lane (broadcast S48x128 38#32)) xs s)
  let _v : Vec F S38x1x48 .f32 ← Prog.lift (.load mCsumO (Rect.unit (s := S38x1x48) ![0, 0, 0] S38x1x48.size inb_S38x1x48_S38x1x48_0_0_0).toLoadRect (View.loadsAt_vmem h_S38x1x48))
  Prog.lift (.store mCsumO (Rect.unit (s := S38x1x48) ![0, 0, 0] S38x1x48.size inb_S38x1x48_S38x1x48_0_0_0) (shapeCast S38x1x48 (shapeCast S38x1x48 (extractStridedSlice S38x48 ![0, 0] q₃ slices_S128x128_o0_0_S38x48) shapeCasts_S38x48_S38x1x48) shapeCasts_S38x1x48_S38x1x48) Finset.univ (View.stores_vmem_bits_univ h_S38x1x48 rfl) (.inl rfl))
  let _v : Vec F S1x48 .f32 ← Prog.lift (.load mXsO (Rect.unit (s := S1x48) ![0, 0] S1x48.size inb_S1x48_S1x48_0_0).toLoadRect (View.loadsAt_vmem h_S1x48))
  Prog.lift (.store mXsO (Rect.unit (s := S1x48) ![0, 0] S1x48.size inb_S1x48_S1x48_0_0) (shapeCast S1x48 (extractStridedSlice S1x48 ![38, 0] q₃ slices_S128x128_o38_0_S1x48) shapeCasts_S1x48_S1x48) Finset.univ (View.stores_vmem_bits_univ h_S1x48 rfl) (.inl rfl))

/-- The copies of the small results out, and the waits for every copy out. -/
def copiesOut : P F PUnit := do
  Prog.lift (.enqueueDma mCandO (.here hCandOut) (.dma (sCell ![1] inb_S6_S1_1).sem) (Memref.isWhole_whole _).wordExact (Memref.isWhole_whole _).wordExact ⟨Or.inl rfl, trivial⟩)
  Prog.lift (.enqueueDma mCmaxO (.here hCmax) (.dma (sCell ![2] inb_S6_S1_2).sem) (Memref.isWhole_whole _).wordExact (Memref.isWhole_whole _).wordExact ⟨Or.inl rfl, trivial⟩)
  Prog.lift (.enqueueDma mLse (.here hLse) (.dma (sCell ![3] inb_S6_S1_3).sem) (Memref.isWhole_whole _).wordExact (Memref.isWhole_whole _).wordExact ⟨Or.inl rfl, trivial⟩)
  Prog.lift (.enqueueDma mCsumO (.here hCsum) (.dma (sCell ![4] inb_S6_S1_4).sem) (Memref.isWhole_whole _).wordExact (Memref.isWhole_whole _).wordExact ⟨Or.inl rfl, trivial⟩)
  Prog.lift (.enqueueDma mXsO (.here hXs) (.dma (sCell ![5] inb_S6_S1_5).sem) (Memref.isWhole_whole _).wordExact (Memref.isWhole_whole _).wordExact ⟨Or.inl rfl, trivial⟩)
  Prog.lift (.waitDma2 (oCell ![0] inb_S2_S1_0).sem bulkSrc bulkDst (View.wordExact_bits rfl) (View.wordExact_bits rfl))
  Prog.lift (.waitDma2 (oCell ![1] inb_S2_S1_1).sem tailSrc tailDst (View.wordExact_bits rfl) (View.wordExact_bits rfl))
  Prog.lift (.waitDma2 (sCell ![0] inb_S6_S1_0).sem mCodes hCodes (Memref.isWhole_whole _).wordExact (Memref.isWhole_whole _).wordExact)
  Prog.lift (.waitDma2 (sCell ![1] inb_S6_S1_1).sem mCandO hCandOut (Memref.isWhole_whole _).wordExact (Memref.isWhole_whole _).wordExact)
  Prog.lift (.waitDma2 (sCell ![2] inb_S6_S1_2).sem mCmaxO hCmax (Memref.isWhole_whole _).wordExact (Memref.isWhole_whole _).wordExact)
  Prog.lift (.waitDma2 (sCell ![3] inb_S6_S1_3).sem mLse hLse (Memref.isWhole_whole _).wordExact (Memref.isWhole_whole _).wordExact)
  Prog.lift (.waitDma2 (sCell ![4] inb_S6_S1_4).sem mCsumO hCsum (Memref.isWhole_whole _).wordExact (Memref.isWhole_whole _).wordExact)
  Prog.lift (.waitDma2 (sCell ![5] inb_S6_S1_5).sem mXsO hXs (Memref.isWhole_whole _).wordExact (Memref.isWhole_whole _).wordExact)

/-! ## The kernel -/

/-- The lanes' numbers. -/
abbrev lanes : I48 := iota .tc S48x128 32 [1] iota_S48x128_d1_w32

/-- Everything before the chunk loop. -/
def before : P F PUnit := do
  copiesIn
  quantise
  candidates
  maskWords
  firstWords lanes
  Prog.lift (.waitDma2 (inCell ![4] inb_S5_S1_4).sem hWs mWs (Memref.isWhole_whole _).wordExact (Memref.isWhole_whole _).wordExact)

/-- Everything after it. -/
def after : P F PUnit := do
  tailTiles lanes
  results lanes
  copiesOut

/-- The kernel. -/
def whole : P F PUnit := do
  before
  Scf.Loop.for k0_t1_loop k0_t1_ok ⟨⟩ (fun k _ => trip lanes k)
  after

end Cert.Kernel.Hand

end
-- ==== Proof.Before.lean ====
/- Everything before the chunk loop: what the copies in bring, the tokens' codes and scales, the mask's words. -/
module

public import proofs.«01_k».proof.Proof.Ring
public import proofs.«01_k».proof.Proof.Head

@[expose] public section

set_option maxRecDepth 65536

noncomputable section

namespace Cert.Kernel.Hand

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (Pipeline.UD sig nD τ) ℕ

variable {c : Dev nD}

/-! ## What the kernel is called with -/

/-- The kernel's operands: the tokens, the weight codes, the column scales, the mask and the candidates. -/
structure Ins (F : FTy → Type) [FloatOps F] where
  x : S48x1024.Idx → Elt F .bf16
  wc : S1024x151936.Idx → Elt F .fp8e4m3
  ws : S1187x128.Idx → Elt F .f32
  mask : S48x4748.Idx → Elt F .i32
  cd : S32x48.Idx → Elt F .i32

variable (I : Ins F)

/-- The tokens' codes. -/
def Ins.codes : S48x1024.Idx → Elt F .fp8e4m3 := codesOf (extf .f32 (I.x : FVec F S48x1024 .bf16) bitsLt_bf16_f32)
/-- The tokens' scales. -/
def Ins.scales : V48 F := scaleOf (extf .f32 (I.x : FVec F S48x1024 .bf16) bitsLt_bf16_f32)
/-- The mask's words but for the last twelve, and the last twelve. -/
def Ins.maskMain : S48x4736.Idx → Elt F .i32 := fun x => I.mask ((Rect.unit (s := S48x4748) ![0, 0] S48x4736.size inb_S48x4748_S48x4736_0_0).emb x)
def Ins.maskTail : S48x12.Idx → Elt F .i32 := fun x => I.mask ((Rect.unit (s := S48x4748) ![0, 4736] S48x12.size inb_S48x4748_S48x12_0_4736).emb x)
/-- The last twelve words of the mask, followed by zeros. -/
def Ins.lastWords : Vec F S48x128 .i32 :=
  concatenate S48x128 1 [⟨S48x12, (I.maskTail : Vec F S48x12 .i32)⟩, ⟨S48x116, (broadcast S48x116 0#32 : IVec S48x116 32)⟩] concatenates_S48x12_S48x116_S48x128_d1
/-- What the output block is a function of. -/
def Ins.data : Data F where
  L := upd (broadcast S64x1024 (Scalar.ofBits .fp8e4m3 0x00#8) : FVec F S64x1024 .fp8e4m3) (Rect.unit (s := S64x1024) ![0, 0] S48x1024.size inb_S64x1024_S48x1024_0_0) I.codes
  xs := I.scales
  ws := I.ws
  wc := I.wc
  mw := upd (fun i => I.mask (ix2 (⟨(i 0).val, (i 0).isLt⟩ : Fin 48) (⟨(i 1).val % 4748, Nat.mod_lt _ (by decide)⟩ : Fin 4748)))
    (Rect.unit (s := S48x4864) ![0, 4736] S48x128.size inb_S48x4864_S48x128_0_4736) I.lastWords

theorem stat_intro {M S : V48 F} : iprop(any c mCacc ∗ own c mMst M ∗ own c mSst S ∗ any c mCidx ∗ any c mCtile ∗ any c mCword) ⊢ (statRes c M S : sProp 𝕄) := .rfl

/-- Before any chunk the maxima are all at their start and the sums are zero. -/
theorem stat_zero {D : Data F} {lane : I48} : iprop(any c mCacc ∗ own c mMst (broadcast S48x128 (FloatOps.ofBits FTy.f32 4286578688#32))
    ∗ own c mSst (broadcast S48x128 (FloatOps.ofBits FTy.f32 0#32)) ∗ any c mCidx ∗ any c mCtile ∗ any c mCword) ⊢ (statAt c D lane 0 : sProp 𝕄) := .rfl

/-- What the statistics and the candidates are kept in, at any contents. -/
abbrev statAny (c : Dev nD) : sProp 𝕄 := iprop(any c mCacc ∗ any c mMst ∗ any c mSst ∗ any c mCidx ∗ any c mCtile ∗ any c mCword)

/-! ## Copies in -/

abbrev cIn (off : Fin 1 → ℕ) (h : ∀ a, off a + S1.size a ≤ S5.size a) : SemLoc sig := .dma (inCell off h).sem
abbrev cS (off : Fin 1 → ℕ) (h : ∀ a, off a + S1.size a ≤ S6.size a) : SemLoc sig := .dma (sCell off h).sem
abbrev cT : SemLoc sig := .dma (wCell ![4] inb_S5_S1_4).sem
/-- A cell's counter at zero. -/
abbrev idle (c : Dev nD) (sm : SemLoc sig) : sProp 𝕄 := semVal ((c : Thread nD τ), sm) 0

/-- The two shares of the mask, one for each of its two copies. -/
abbrev qM : PosShare TreeShare := Transfers.shareDrop fullShare 1
abbrev qT : PosShare TreeShare := Transfers.shareTok fullShare 1 (0 : Fin 1)
/-- The share of the weight codes that the last 384 columns' copy reads. -/
abbrev qW : PosShare TreeShare := Transfers.shareDrop fullShare 4

abbrev flX (c : Dev nD) (I : Ins F) : sProp 𝕄 := flight c (cIn ![0] inb_S5_S1_0) (mX.view.amount (cIn ![0] inb_S5_S1_0)) iprop(own c mX I.x ∗ own c hX I.x)
abbrev flCand (c : Dev nD) (I : Ins F) : sProp 𝕄 := flight c (cIn ![1] inb_S5_S1_1) (mCand.view.amount (cIn ![1] inb_S5_S1_1)) iprop(own c mCand I.cd ∗ own c hCand I.cd)
abbrev flMain (c : Dev nD) (I : Ins F) : sProp 𝕄 := flight c (cIn ![2] inb_S5_S1_2) (mMaskMain.view.amount (cIn ![2] inb_S5_S1_2))
  iprop((∃ X, own c mMask ((Rect.unit (s := S48x4864) ![0, 0] S48x4736.size inb_S48x4864_S48x4736_0_0).overlay X I.maskMain)) ∗ owns (c : Thread nD τ) hMask qM I.mask)
abbrev flTail (c : Dev nD) (I : Ins F) : sProp 𝕄 := flight c (cIn ![3] inb_S5_S1_3) (mMtail.view.amount (cIn ![3] inb_S5_S1_3)) iprop(own c mMtail I.maskTail ∗ owns (c : Thread nD τ) hMask qT I.mask)
abbrev flWs (c : Dev nD) (I : Ins F) : sProp 𝕄 := flight c (cIn ![4] inb_S5_S1_4) (mWs.view.amount (cIn ![4] inb_S5_S1_4)) iprop(own c mWs I.ws ∗ own c hWs I.ws)
abbrev flWtail (c : Dev nD) (I : Ins F) : sProp 𝕄 := flight c cT (mWtail.view.amount cT)
  iprop(own c mWtail (I.data.cols 151552 384 : S1024x384.Idx → Elt F .fp8e4m3) ∗ owns (c : Thread nD τ) hW qW I.data.wc)

/-- A part of a memref given up to whatever will be written there. -/
theorem lendAny {sp : Space} {s : Shape} {e : EltTy} (m : Memref sig .tc sp s e) (r : Rect s) (hr : ∀ a, r.stride a = 1) :
    (any c m : sProp 𝕄) ⊢ iprop(any c (m.slice r hr) ∗ (∃ X : s.Idx → Elt F e, ∀ G, own c (m.slice r hr) G -∗ own c m (r.overlay X G))) := by
  iintro ⟨%X, H⟩
  ihave H' := (lend m r hr fullShare X) $$ H
  icases H' with ⟨H, Hb⟩
  isplitl [H]
  · iexists _; iexact H
  · iexists X; iexact Hb

theorem tail_slice : (fun x => I.data.wc ((Rect.unit (s := S1024x151936) ![0, 151552] S1024x384.size inb_S1024x151936_S1024x384_0_151552).emb x)) = (I.data.cols 151552 384 : S1024x384.Idx → Elt F .fp8e4m3) := by
  funext x
  refine congrArg I.data.wc (funext fun d => Fin.ext ?_)
  have hx : (x 1).val < 384 := (x 1).isLt
  match d with
  | ⟨0, _⟩ => show 0 + 1 * (x 0).val = (x 0).val; omega
  | ⟨1, _⟩ => show 151552 + 1 * (x 1).val = (151552 + (x 1).val) % 151936; rw [Nat.mod_eq_of_lt (by omega)]; omega

theorem copiesIn_spec {Q : PUnit → sProp 𝕄} :
    iprop((own c hX I.x ∗ any c mX ∗ idle c (cIn ![0] inb_S5_S1_0)) ∗ (own c hCand I.cd ∗ any c mCand ∗ idle c (cIn ![1] inb_S5_S1_1))
        ∗ (owns (c : Thread nD τ) hMask qM I.mask ∗ any c mMask ∗ idle c (cIn ![2] inb_S5_S1_2)) ∗ (owns (c : Thread nD τ) hMask qT I.mask ∗ any c mMtail ∗ idle c (cIn ![3] inb_S5_S1_3))
        ∗ (own c hWs I.ws ∗ any c mWs ∗ idle c (cIn ![4] inb_S5_S1_4))
        ∗ (owns (c : Thread nD τ) hW (shareN 0) I.data.wc ∗ any c (slotN 0) ∗ idle c (cellN 0)) ∗ (owns (c : Thread nD τ) hW (shareN 1) I.data.wc ∗ any c (slotN 1) ∗ idle c (cellN 1))
        ∗ (owns (c : Thread nD τ) hW (shareN 2) I.data.wc ∗ any c (slotN 2) ∗ idle c (cellN 2)) ∗ (owns (c : Thread nD τ) hW (shareN 3) I.data.wc ∗ any c (slotN 3) ∗ idle c (cellN 3))
        ∗ (owns (c : Thread nD τ) hW qW I.data.wc ∗ any c mWtail ∗ idle c cT))
      ⊢ iprop((iprop(flX c I ∗ flCand c I ∗ flMain c I ∗ flTail c I ∗ flWs c I ∗ ringAt c I.data 0 ∗ ringAt c I.data 1 ∗ ringAt c I.data 2 ∗ ringAt c I.data 3 ∗ flWtail c I) -∗ Q ⟨⟩)
        -∗ wpk c copiesIn Q) := by
  unfold copiesIn
  simp only [wpk_bind]
  iintro ⟨Hx, Hcd, ⟨Hm1, Hm2, Hm3⟩, Hmt, Hws, H0, H1, H2, H3, Ht⟩ HQ
  iapply (copyOf (src := hX) (dst := mX) (X := I.x) (by decide)) $$ Hx
  iintro Hx
  iapply (copyOf (src := hCand) (dst := mCand) (X := I.cd) (by decide)) $$ Hcd
  iintro Hcd
  ihave Hm2 := (lendAny mMask (Rect.unit (s := S48x4864) ![0, 0] S48x4736.size inb_S48x4864_S48x4736_0_0) (fun _ => rfl)) $$ Hm2
  icases Hm2 with ⟨Hm2, %X, Hm2b⟩
  iapply (copySlice (m := hMask) (r := Rect.unit (s := S48x4748) ![0, 0] S48x4736.size inb_S48x4748_S48x4736_0_0) (dst := mMaskMain) (X := I.mask) (q := qM) (by show 0 < S48x4736.numel; decide)) $$ [Hm1 Hm2 Hm3]
  · isplitl [Hm1]; · iexact Hm1
    isplitl [Hm2]; · iexact Hm2
    iexact Hm3
  iintro Hm
  ihave Hm : flMain c I $$ [Hm Hm2b]
  · iapply (flight_mono (D := iprop((own c mMaskMain I.maskMain ∗ owns (c : Thread nD τ) hMask qM I.mask)
      ∗ (∀ G, own c mMaskMain G -∗ own c mMask ((Rect.unit (s := S48x4864) ![0, 0] S48x4736.size inb_S48x4864_S48x4736_0_0).overlay X G)))) ?_)
    rotate_left
    · iapply flight_frame
      isplitl [Hm]; · iexact Hm
      iexact Hm2b
    iintro ⟨⟨Hd, Hs⟩, Hb⟩
    isplitl [Hd Hb]
    · iexists X
      iapply Hb $$ %_ Hd
    · iexact Hs
  iapply (copySlice (m := hMask) (r := Rect.unit (s := S48x4748) ![0, 4736] S48x12.size inb_S48x4748_S48x12_0_4736) (dst := mMtail) (X := I.mask) (q := qT) (by show 0 < S48x12.numel; decide)) $$ [Hmt]
  · icases Hmt with ⟨Ha, Hb, Hc⟩
    isplitl [Ha]; · iexact Ha
    isplitl [Hb]; · iexact Hb
    iexact Hc
  iintro Hmt
  iapply (copyOf (src := hWs) (dst := mWs) (X := I.ws) (by decide)) $$ Hws
  iintro Hws
  iapply (ring_copy I.data (c := c) (n := 0) (by omega) rfl rfl rfl) $$ H0
  iintro H0
  iapply (ring_copy I.data (c := c) (n := 1) (by omega) rfl rfl rfl) $$ H1
  iintro H1
  iapply (ring_copy I.data (c := c) (n := 2) (by omega) rfl rfl rfl) $$ H2
  iintro H2
  iapply (ring_copy I.data (c := c) (n := 3) (by omega) rfl rfl rfl) $$ H3
  iintro H3
  iapply (copySlice (m := hW) (r := Rect.unit (s := S1024x151936) ![0, 151552] S1024x384.size inb_S1024x151936_S1024x384_0_151552) (dst := mWtail) (X := I.data.wc) (q := qW) (by show 0 < S1024x384.numel; decide)) $$ [Ht]
  · icases Ht with ⟨Ha, Hb, Hc⟩
    isplitl [Ha]; · iexact Ha
    isplitl [Hb]; · iexact Hb
    iexact Hc
  rw [tail_slice]
  iintro Ht
  iapply HQ
  iframe
  isplitl [Hmt]; · iexact Hmt
  iexact Ht

/-! ## The quantiser -/

abbrev flCodes (c : Dev nD) (I : Ins F) : sProp 𝕄 := flight c (cS ![0] inb_S6_S1_0) (hCodes.view.amount (cS ![0] inb_S6_S1_0)) iprop(own c hCodes I.codes ∗ own c mCodes I.codes)

theorem lhs_eq : upd (shapeCast S64x1024 (broadcast S64x1024 (Scalar.ofBits .fp8e4m3 0x00#8) : FVec F S64x1024 .fp8e4m3) shapeCasts_S64x1024_S64x1024)
    (Rect.unit (s := S64x1024) ![0, 0] S48x1024.size inb_S64x1024_S48x1024_0_0) (shapeCast S48x1024 (codesOf (extf .f32 (I.x : FVec F S48x1024 .bf16) bitsLt_bf16_f32)) shapeCasts_S48x1024_S48x1024) = I.data.L := by
  rw [shapeCast_self, shapeCast_self]; rfl

theorem quantise_spec {Q : PUnit → sProp 𝕄} :
    iprop(flX c I ∗ due c ∗ any c mCodes ∗ any c mLhs ∗ any c mXs ∗ any c hCodes ∗ idle c (cS ![0] inb_S6_S1_0))
      ⊢ iprop((iprop(own c mX I.x ∗ own c hX I.x ∗ idle c (cIn ![0] inb_S5_S1_0) ∗ due c ∗ own c mLhs I.data.L ∗ own c mXs I.scales ∗ flCodes c I) -∗ Q ⟨⟩)
        -∗ wpk c quantise Q) := by
  unfold quantise
  simp only [wpk_bind]
  iintro ⟨Hx, HW, HC, HL, HX, Ho, Hv⟩ HQ
  iapply (wait rfl) $$ [Hx HW]
  · iframe
  iintro ⟨⟨Hx, Hx'⟩, Hs, HW⟩
  iapply ldF $$ Hx
  iintro Hx
  iapply ldAny $$ HC
  iintro %v1 HC
  iapply stF $$ HC
  iintro HC
  iapply ldAny $$ HL
  iintro %v2 HL
  iapply stF $$ HL
  iintro HL
  iapply ld $$ HL
  iintro HL
  iapply st $$ HL
  iintro HL
  iapply ldAny $$ HX
  iintro %v3 HX
  iapply stF $$ HX
  iintro HX
  ihave HC := (of_eq (congrArg (own c mCodes) (shapeCast_self _ _))) $$ HC
  ihave HX := (of_eq (congrArg (own c mXs) (shapeCast_self _ _))) $$ HX
  ihave HL := (of_eq (congrArg (own c mLhs) (lhs_eq I))) $$ HL
  iapply (copyOf (src := mCodes) (dst := hCodes) (X := I.codes) (q := fullShare) (by decide)) $$ [HC Ho Hv]
  · isplitl [HC]; · iexact HC
    isplitl [Ho] <;> iassumption
  iintro Hf
  iapply HQ
  isplitl [Hx]; · iexact Hx
  isplitl [Hx']; · iexact Hx'
  isplitl [Hs]; · iexact Hs
  isplitl [HW]; · iexact HW
  isplitl [HL]; · iexact HL
  isplitl [HX]; · iexact HX
  iexact Hf

/-! ## The candidates and the mask's words -/

theorem candidates_spec (lane : I48) {Q : PUnit → sProp 𝕄} :
    iprop(any c mSq ∗ flCand c I ∗ due c ∗ statAny c)
      ⊢ iprop((iprop(any c mSq ∗ own c mCand I.cd ∗ own c hCand I.cd ∗ idle c (cIn ![1] inb_S5_S1_1) ∗ due c ∗ statAt c I.data lane 0) -∗ Q ⟨⟩)
        -∗ wpk c candidates Q) := by
  unfold candidates
  simp only [wpk_bind]
  iintro ⟨HS, Hc, HW, HA, HMst, HSst, HI, HT, HC⟩ HQ
  iapply ldAny $$ HS
  iintro %v1 HS
  iapply stAny $$ HS
  iintro HS
  iapply (wait rfl) $$ [Hc HW]
  · iframe
  iintro ⟨⟨Hc, Hc'⟩, Hs, HW⟩
  iapply ldF $$ Hc
  iintro Hc
  iapply ldAny $$ HS
  iintro %v2 HS
  iapply stAny $$ HS
  iintro HS
  iapply ldAny $$ HS
  iintro %v3 HS
  iapply ldAny $$ HI
  iintro %v4 HI
  iapply stAny $$ HI
  iintro HI
  iapply ldAny $$ HT
  iintro %v5 HT
  iapply stAny $$ HT
  iintro HT
  iapply ldAny $$ HA
  iintro %v6 HA
  iapply stAny $$ HA
  iintro HA
  iapply ldAny $$ HC
  iintro %v7 HC
  iapply stAny $$ HC
  iintro HC
  iapply ldAny $$ HMst
  iintro %v8 HMst
  iapply stF $$ HMst
  iintro HMst
  iapply ldAny $$ HSst
  iintro %v9 HSst
  iapply stF $$ HSst
  iintro HSst
  rw [shapeCast_self, shapeCast_self]
  iapply HQ
  ihave HR := (stat_zero (D := I.data) (lane := lane)) $$ [HA HMst HSst HI HT HC]
  · iframe
  isplitl [HS]; · iexact HS
  iframe

theorem upd_congr {s : Shape} {α : Type} {X X' : s.Idx → α} {r : Rect s} {w : r.shape.Idx → α} (h : ∀ i, (∀ x, r.emb x ≠ i) → X i = X' i) : upd X r w = upd X' r w := by
  funext y
  by_cases hy : ∃ x, r.emb x = y
  · obtain ⟨x, rfl⟩ := hy; rw [upd_emb, upd_emb]
  · have hy' : ∀ x, r.emb x ≠ y := fun x hx => hy ⟨x, hx⟩
    rw [upd_off _ _ _ _ hy', upd_off _ _ _ _ hy', h y hy']

theorem maskPad_eq (X : S48x4864.Idx → Elt F .i32) :
    upd ((Rect.unit (s := S48x4864) ![0, 0] S48x4736.size inb_S48x4864_S48x4736_0_0).overlay X I.maskMain)
      (Rect.unit (s := S48x4864) ![0, 4736] S48x128.size inb_S48x4864_S48x128_0_4736)
      (shapeCast S48x128 (concatenate S48x128 1 [⟨S48x12, (I.maskTail : Vec F S48x12 .i32)⟩, ⟨S48x116, (broadcast S48x116 0#32 : IVec S48x116 32)⟩] concatenates_S48x12_S48x116_S48x128_d1) shapeCasts_S48x128_S48x128) = I.data.mw := by
  rw [shapeCast_self]
  refine upd_congr fun i hi => ?_
  have h1 : (i 1).val < 4736 := by
    by_contra hge
    have hlt : (i 1).val < 4864 := (i 1).isLt
    refine hi (ix2 (⟨(i 0).val, (i 0).isLt⟩ : Fin 48) (⟨(i 1).val - 4736, by omega⟩ : Fin 128)) (funext fun a => Fin.ext ?_)
    match a with
    | ⟨0, _⟩ => show 0 + 1 * (i 0).val = (i 0).val; omega
    | ⟨1, _⟩ => show 4736 + 1 * ((i 1).val - 4736) = (i 1).val; omega
  have hi' : i = (Rect.unit (s := S48x4864) ![0, 0] S48x4736.size inb_S48x4864_S48x4736_0_0).emb (ix2 (⟨(i 0).val, (i 0).isLt⟩ : Fin 48) (⟨(i 1).val, h1⟩ : Fin 4736)) := by
    funext a; apply Fin.ext
    match a with
    | ⟨0, _⟩ => show (i 0).val = 0 + 1 * (i 0).val; omega
    | ⟨1, _⟩ => show (i 1).val = 0 + 1 * (i 1).val; omega
  conv_lhs => rw [hi', Rect.overlay_emb]
  refine congrArg I.mask (funext fun a => Fin.ext ?_)
  match a with
  | ⟨0, _⟩ => show 0 + 1 * (i 0).val = (i 0).val; omega
  | ⟨1, _⟩ => show 0 + 1 * (i 1).val = (i 1).val % 4748; rw [Nat.mod_eq_of_lt (by omega)]; omega

theorem maskWords_spec {Q : PUnit → sProp 𝕄} :
    iprop(flMain c I ∗ flTail c I ∗ due c)
      ⊢ iprop((iprop(own c mMask I.data.mw ∗ owns (c : Thread nD τ) hMask qM I.mask ∗ own c mMtail I.maskTail ∗ owns (c : Thread nD τ) hMask qT I.mask
            ∗ idle c (cIn ![2] inb_S5_S1_2) ∗ idle c (cIn ![3] inb_S5_S1_3) ∗ due c) -∗ Q ⟨⟩)
        -∗ wpk c maskWords Q) := by
  unfold maskWords
  simp only [wpk_bind]
  iintro ⟨Hm, Ht, HW⟩ HQ
  iapply (wait rfl) $$ [Hm HW]
  · iframe
  iintro ⟨⟨⟨%X, Hm⟩, Hm'⟩, Hs1, HW⟩
  iapply (wait rfl) $$ [Ht HW]
  · iframe
  iintro ⟨⟨Ht, Ht'⟩, Hs2, HW⟩
  iapply ldF $$ Ht
  iintro Ht
  iapply ld $$ Hm
  iintro Hm
  iapply st $$ Hm
  iintro Hm
  ihave Hm := (of_eq (congrArg (own c mMask) (maskPad_eq I X))) $$ Hm
  iapply HQ
  iframe

theorem firstWords_spec {M S : V48 F} (lane : I48) (D : Data F) {Q : PUnit → sProp 𝕄} :
    iprop(own c mMask D.mw ∗ any c mBits ∗ statRes c M S)
      ⊢ iprop((iprop(own c mMask D.mw ∗ bitsRes c D lane 0 ∗ statRes c M S) -∗ Q ⟨⟩)
        -∗ wpk c (firstWords lane) Q) := by
  unfold firstWords
  simp only [wpk_bind]
  iintro ⟨HM, ⟨%B, HB⟩, HA, HMst, HSst, HI, HT, HC⟩ HQ
  iapply ld $$ HM
  iintro HM
  rw [words_load (n := 0) rfl]
  iapply ld $$ HB
  iintro HB
  iapply st $$ HB
  iintro HB
  iapply ldAny $$ HT
  iintro %v1 HT
  iapply ldAny $$ HI
  iintro %v2 HI
  iapply ldAny $$ HC
  iintro %v3 HC
  iapply ldAny $$ HC
  iintro %v4 HC
  iapply stAny $$ HC
  iintro HC
  iapply HQ
  isplitl [HM]; · iexact HM
  isplitl [HB]
  · iexists _
    isplitr
    rotate_left
    · iexact HB
    ipureintro
    exact bits_store rfl
  iapply stat_intro
  iframe

end Cert.Kernel.Hand

end
-- ==== Proof.After.lean ====
/- Everything after the chunk loop: the last three tiles, the statistics' results and the copies out. -/
module

public import proofs.«01_k».proof.Proof.Before
public import Idealize.ShloMosaic.Lib.ValueLayout

@[expose] public section

set_option maxRecDepth 65536

noncomputable section

namespace Cert.Kernel.Hand

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (Pipeline.UD sig nD τ) ℕ

variable {c : Dev nD}

/-! ## The last three tiles -/

theorem cols_sub' (D : Data F) (a b p w : ℕ) {off : Fin 2 → ℕ} (ho : off = ![0, p]) (h : ∀ x, off x + (⟨2, ![1024, w]⟩ : Shape).size x ≤ (⟨2, ![1024, b]⟩ : Shape).size x) :
    (fun x => D.cols a b ((Rect.unit (s := ⟨2, ![1024, b]⟩) off (⟨2, ![1024, w]⟩ : Shape).size h).toLoadRect.idx x)) = D.cols (a + p) w := by
  subst ho
  funext x
  refine congrArg D.wc (funext fun d => Fin.ext ?_)
  match d with
  | ⟨0, _⟩ => show 0 + 1 * (x 0).val = (x 0).val; omega
  | ⟨1, _⟩ => show (a + (p + 1 * (x 1).val)) % 151936 = (a + p + (x 1).val) % 151936; congr 1; omega

theorem tailTile_spec {D : Data F} (lane : I48) (j : ℕ) (hj : j < 3) {raw : V48 F} (hraw : raw = D.raw (1184 + j)) {t cidx ctile : I48}
    (ht : t = D.bits lane 37) {s : V48 F × V48 F} (hs : s.1 = D.top lane 37 j) {f : OBuf F} {Q : V48 F × V48 F → sProp 𝕄} :
    iprop(tileAt c D lane 37 j ∗ outPt c setB f)
      ⊢ iprop((∀ r, iprop(tileAt c D lane 37 (j + 1) ∗ (∃ f', ⌜Upto D lane f f' (1184 + j) (1184 + j + 1) ∧ r.1 = D.top lane 37 (j + 1)⌝ ∗ outPt c setB f')) -∗ Q r)
        -∗ wpk c (tailTile j hj raw D.xs t cidx ctile s) Q) := by
  have h1 : (1184 + j) / 32 = 37 := by omega
  have h2 : (1184 + j) % 32 = j := by omega
  have hT : tileN (32 * 37 + j) = (⟨1184 + j, by omega⟩ : Fin 1187) := Fin.ext (Nat.mod_eq_of_lt (by omega))
  have hneg : negOf (okOf t (BitVec.ofNat 32 (2 ^ j))) (lgOf raw D.xs (scalesRow D.ws (⟨1184 + j, by omega⟩ : Fin 1187))) = D.neg lane (tileN (32 * 37 + j)) := by
    subst hraw; subst ht
    rw [hT]
    unfold Data.neg
    rw [h1, h2]
  unfold tailTile
  iintro ⟨⟨HW, HL, %N, %hN, HN⟩, HO⟩ HQ
  iapply (tile_spec (⟨1184 + j, by omega⟩ : Fin 1187) (by
      match j, hj with
      | 0, _ => rfl
      | 1, _ => rfl
      | 2, _ => rfl)
    (fun r => by show ![1184 + j + 9496 * r.val, 0] = ![9496 * r.val + (1184 + j), 0]; congr 1; omega)
    (S := setB) (fun i hi => (mem_setB i).mpr (by rw [hi]; show _ ≤ 1184 + j; omega))) $$ [HW HN HO]
  · isplitl [HW]; · iexact HW
    isplitl [HN] <;> iassumption
  iintro %r ⟨HW, HN, %f', %hf, HO⟩
  iapply HQ
  isplitl [HW HL HN]
  · isplitl [HW]; · iexact HW
    isplitl [HL]; · iexact HL
    iexists _
    isplitr
    rotate_left
    · iexact HN
    ipureintro
    exact NegTo.step D hN rfl hneg
  iexists f'
  isplitr
  · ipureintro
    refine ⟨Upto.one hf.1 ?_, ?_⟩
    · subst hraw; subst ht
      unfold Data.want
      rw [h1, h2]
    · rw [hf.2, hneg, hs]; rfl
  · iexact HO

abbrev cellB : SemLoc sig := .dma (oCell ![1] inb_S2_S1_1).sem

/-- What the output's last 67 tiles are to hold. -/
def TailGood (D : Data F) (lane : I48) (Y : S48x67x1x128.Idx → Elt F .f32) : Prop :=
  ∀ x : S48x67x1x128.Idx, ∀ T : Fin 1187, 1120 + (x 1).val = T.val → Y x = D.want lane T (ix2 (⟨(x 0).val, (x 0).isLt⟩ : Fin 48) (⟨(x 3).val, (x 3).isLt⟩ : Fin 128))

/-- The copy of the last 67 tiles in flight. -/
abbrev tailFlight (c : Dev nD) (D : Data F) (lane : I48) : sProp 𝕄 :=
  flight c cellB (tailDst.view.amount cellB) iprop((∃ Y, ⌜TailGood D lane Y⌝ ∗ own c tailDst Y) ∗ (∃ f, outPt c setB f))

abbrev tailRect : Rect S48x1187x1x128 := Rect.unit (s := S48x1187x1x128) ![0, 1120, 0, 0] S48x67x1x128.size inb_S48x1187x1x128_S48x67x1x128_0_1120_0_0
abbrev bulkRect : Rect S48x1187x1x128 := Rect.unit (s := S48x1187x1x128) ![0, 0, 0, 0] S48x1120x1x128.size inb_S48x1187x1x128_S48x1120x1x128_0_0_0_0

theorem mem_tailRect (i : S48x1187x1x128.Idx) : i ∈ tailRect.set ↔ 1120 ≤ (i 1).val := by
  rw [← Rect.map_emb_univ, Finset.mem_map]
  constructor
  · rintro ⟨x, -, rfl⟩
    show 1120 ≤ 1120 + 1 * (x 1).val; omega
  · intro h
    have hlt : (i 1).val < 1187 := (i 1).isLt
    refine ⟨ix4 (⟨(i 0).val, (i 0).isLt⟩ : Fin 48) (⟨(i 1).val - 1120, by omega⟩ : Fin 67) (⟨(i 2).val, (i 2).isLt⟩ : Fin 1) (⟨(i 3).val, (i 3).isLt⟩ : Fin 128), Finset.mem_univ _, ?_⟩
    funext a; apply Fin.ext
    match a with
    | ⟨0, _⟩ => show 0 + 1 * (i 0).val = (i 0).val; omega
    | ⟨1, _⟩ => show 1120 + 1 * ((i 1).val - 1120) = (i 1).val; omega
    | ⟨2, _⟩ => show 0 + 1 * (i 2).val = (i 2).val; omega
    | ⟨3, _⟩ => show 0 + 1 * (i 3).val = (i 3).val; omega

theorem tailSet : tailSrc.view.set = setB := by
  have h : tailSrc.view.set = tailRect.set := by
    show (View.slice _ _).set = _
    rw [View.set_slice]; exact Finset.map_refl
  rw [h]
  ext i
  rw [mem_tailRect, mem_setB]

theorem tailTiles_spec {D : Data F} (lane : I48) {A : sProp 𝕄} {Q : PUnit → sProp 𝕄} :
    iprop(flight c cT (mWtail.view.amount cT) iprop(own c mWtail (D.cols 151552 384 : S1024x384.Idx → Elt F .fp8e4m3) ∗ A) ∗ due c ∗ own c mXs D.xs ∗ bitsRes c D lane 37 ∗ statAt c D lane 37 ∗ tileRes c D
        ∗ outB c D lane 37 ∗ any c tailDst ∗ idle c cellB)
      ⊢ iprop((iprop(any c mWtail ∗ A ∗ idle c cT ∗ due c ∗ own c mXs D.xs ∗ any c mBits ∗ statAt c D lane 38 ∗ tileRes c D ∗ tailFlight c D lane) -∗ Q ⟨⟩)
        -∗ wpk c (tailTiles lane) Q) := by
  unfold tailTiles
  simp only [wpk_bind]
  iintro ⟨Ht, HW, HX, ⟨%B, %hB, HB⟩, ⟨HA, HMst, HSst, HI, HCt, HC⟩, HT, ⟨%f, %hf, HO⟩, HD, HS⟩ HQ
  iapply (wait rfl) $$ [Ht HW]
  · isplitl [Ht] <;> iassumption
  iintro ⟨⟨Ht, HA'⟩, Hv, HW⟩
  ihave HT := (tileAt_zero lane 37) $$ HT
  icases HT with ⟨HWs, HL, HN⟩
  iapply ldF $$ HX
  iintro HX
  iapply ld $$ HB
  iintro HB
  iapply ldAny $$ HI
  iintro %v1 HI
  iapply ldAny $$ HCt
  iintro %v2 HCt
  iapply ldAny $$ HA
  iintro %v3 HA
  iapply ldF $$ HL
  iintro HL
  iapply ld $$ Ht
  iintro Ht
  iapply (tailTile_spec (D := D) lane 0 _ (by
    rw [cols_sub' D 151552 384 0 256 rfl]; rfl) (bits_load hB rfl) rfl) $$ [HWs HL HN HO]
  · isplitr [HO]
    · isplitl [HWs]; · iexact HWs
      isplitl [HL] <;> iassumption
    · iexact HO
  iintro %r0 ⟨HT, %f1, %h1, HO⟩
  iapply (tailTile_spec (D := D) lane 1 _ (by
    rw [cols_sub' D 151552 384 0 256 rfl]; rfl) (bits_load hB rfl) h1.2) $$ [HT HO]
  · isplitl [HT] <;> iassumption
  iintro %r1 ⟨⟨HWs, HL, HN⟩, %f2, %h2, HO⟩
  iapply ldF $$ HL
  iintro HL
  iapply ld $$ Ht
  iintro Ht
  iapply (tailTile_spec (D := D) lane 2 _ (by
    rw [cols_sub' D 151552 384 256 128 rfl]; rfl) (bits_load hB rfl) h2.2) $$ [HWs HL HN HO]
  · isplitr [HO]
    · isplitl [HWs]; · iexact HWs
      isplitl [HL] <;> iassumption
    · iexact HO
  iintro %r2 ⟨⟨HWs, HL, %N, %hN, HN⟩, %f3, %h3, HO⟩
  ihave HR := stat_intro $$ [HA HMst HSst HI HCt HC]
  · iframe
  iapply (stats_spec (D := D) (k := 37) rfl rfl h3.2 hN) $$ [HN HR]
  · isplitl [HN] <;> iassumption
  iintro ⟨HN, HR⟩
  have hall : Upto D lane f f3 1184 1187 := (h1.1.trans h2.1 (by omega) (by omega)).trans h3.1 (by omega) (by omega)
  iapply (copy (src := tailSrc) (dst := tailDst) (fs := f3) (q := fullShare) (by show 0 < S48x67x1x128.numel; decide)) $$ [HO HD HS]
  · isplitl [HO]
    · rw [tailSet]; iexact HO
    isplitl [HD] <;> iassumption
  iintro Hf
  iapply HQ
  isplitl [Ht]
  · iexists _; iexact Ht
  isplitl [HA']; · iexact HA'
  isplitl [Hv]; · iexact Hv
  isplitl [HW]; · iexact HW
  isplitl [HX]; · iexact HX
  isplitl [HB]
  · iexists B; iexact HB
  isplitl [HR]; · iexact HR
  isplitl [HWs HL HN]
  · isplitl [HWs]; · iexact HWs
    isplitl [HL] <;> iassumption
  iapply (flight_mono ?_) $$ Hf
  iintro ⟨Hd, Hs⟩
  isplitl [Hd]
  · iexists _
    isplitr
    rotate_left
    · iexact Hd
    ipureintro
    intro x T hT
    have hx : (x 1).val < 67 := (x 1).isLt
    have hF : Filled f3 T (D.want lane T) := by
      by_cases h : T.val < 1184
      · intro i hi
        rw [hall.2 i (by omega)]
        exact hf T (by omega) (by omega) i hi
      · exact hall.1 T (by omega) (by omega)
    refine (hF (tailRect.emb x) ?_).trans ?_
    · show 1120 + 1 * (x 1).val = T.val; omega
    · refine congrArg (D.want lane T) (funext fun a => Fin.ext ?_)
      match a with
      | ⟨0, _⟩ => show 0 + 1 * (x 0).val = (x 0).val; omega
      | ⟨1, _⟩ => show 0 + 1 * (x 3).val = (x 3).val; omega
  · iexists f3
    rw [← tailSet]
    iexact Hs

/-! ## The small results -/

theorem turn_spec {v : V48 F} {Q : FVec F S128x128 .f32 → sProp 𝕄} :
    any c mSq ⊢ iprop((∀ q : FVec F S128x128 .f32, ⌜∀ (i : Fin 128) (j : Fin 48), q (ix2 i (⟨j.val, by omega⟩ : Fin 128)) = v (ix2 j i)⌝ -∗ any c mSq -∗ Q q) -∗ wpk c (turn v) Q) := by
  unfold turn
  simp only [wpk_bind]
  iintro ⟨%X, H⟩ HQ
  iapply ld $$ H
  iintro H
  iapply st $$ H
  iintro H
  iapply ldF $$ H
  iintro H
  iapply wpk_pure
  iapply HQ $$ [] [H]
  · ipureintro
    intro i j
    rw [transpose_ix2_apply, shapeCast_self]
    have e : (ix2 (⟨j.val, by omega⟩ : Fin 128) i : S128x128.Idx) = (Rect.unit (s := S128x128) ![0, 0] S48x128.size inb_S128x128_S48x128_0_0).emb (ix2 j i) := by
      funext a; apply Fin.ext
      match a with
      | ⟨0, _⟩ => show j.val = 0 + 1 * j.val; omega
      | ⟨1, _⟩ => show i.val = 0 + 1 * i.val; omega
    refine (congrArg _ e).trans ?_
    exact upd_emb _ _ _ _
  · iexists _; iexact H

/-- The tokens' scales, as one row. -/
def Ins.scaleRow (I : Ins F) : S1x48.Idx → Elt F .f32 := fun x => I.scales (ix2 (⟨(x 1).val, (x 1).isLt⟩ : Fin 48) (38 : Fin 128))

/-- What the kernel leaves as the logs of the sums of exponentials, the chunks' maxima and their sums. -/
def Ins.lse (I : Ins F) : S1x48.Idx → Elt F .f32 := fun x =>
  lseOf (I.data.maxes lanes 38) (I.data.sums lanes 38) (ix2 (⟨(x 1).val, (x 1).isLt⟩ : Fin 48) (38 : Fin 128))
def Ins.cmax (I : Ins F) : S38x1x48.Idx → Elt F .f32 := fun x =>
  finiteOf (I.data.maxes lanes 38) (ix2 (⟨(x 2).val, (x 2).isLt⟩ : Fin 48) (⟨(x 0).val, (x 0).isLt.trans (by decide)⟩ : Fin 128))
def Ins.csum (I : Ins F) : S38x1x48.Idx → Elt F .f32 := fun x =>
  I.data.sums lanes 38 (ix2 (⟨(x 2).val, (x 2).isLt⟩ : Fin 48) (⟨(x 0).val, (x 0).isLt.trans (by decide)⟩ : Fin 128))

/-- The lanes before the last used one: not lane 38. -/
theorem lane_lt (j : Fin 48) (i : Fin 128) (h : i.val < 38) : cmpi .eq lanes (broadcast S48x128 38#32) (ix2 j i) = 0#1 := by
  revert j i; decide
theorem lane_38 (j : Fin 48) : cmpi .eq lanes (broadcast S48x128 38#32) (ix2 j (38 : Fin 128)) = 1#1 := by
  revert j; decide

theorem row38 {A B : V48 F} {q : FVec F S128x128 .f32}
    (h : ∀ (i : Fin 128) (j : Fin 48), q (ix2 i (⟨j.val, by omega⟩ : Fin 128)) = (select (cmpi .eq lanes (broadcast S48x128 38#32)) A B) (ix2 j i)) :
    (shapeCast S1x48 (extractStridedSlice S1x48 ![38, 0] q slices_S128x128_o38_0_S1x48) shapeCasts_S1x48_S1x48 : S1x48.Idx → Elt F .f32)
      = fun x => A (ix2 (⟨(x 1).val, (x 1).isLt⟩ : Fin 48) (38 : Fin 128)) := by
  rw [shapeCast_self]
  funext x
  have hx0 : (x 0).val < 1 := (x 0).isLt
  have hx1 : (x 1).val < 48 := (x 1).isLt
  rw [extractStridedSlice_apply ![38, 0] q slices_S128x128_o38_0_S1x48 x (ix2 (38 : Fin 128) (⟨(x 1).val, by omega⟩ : Fin 128)) (by
    intro a
    match a with
    | ⟨0, _⟩ => show 38 = 38 + (x 0).val; omega
    | ⟨1, _⟩ => show (x 1).val = 0 + (x 1).val; omega)]
  refine (h 38 ⟨(x 1).val, hx1⟩).trans ?_
  rfl

theorem rows38 {A B : V48 F} {q : FVec F S128x128 .f32}
    (h : ∀ (i : Fin 128) (j : Fin 48), q (ix2 i (⟨j.val, by omega⟩ : Fin 128)) = (select (cmpi .eq lanes (broadcast S48x128 38#32)) A B) (ix2 j i)) :
    (shapeCast S38x1x48 (shapeCast S38x1x48 (extractStridedSlice S38x48 ![0, 0] q slices_S128x128_o0_0_S38x48) shapeCasts_S38x48_S38x1x48) shapeCasts_S38x1x48_S38x1x48 : S38x1x48.Idx → Elt F .f32)
      = fun x => B (ix2 (⟨(x 2).val, (x 2).isLt⟩ : Fin 48) (⟨(x 0).val, (x 0).isLt.trans (by decide)⟩ : Fin 128)) := by
  rw [shapeCast_self]
  funext x
  have hx0 : (x 0).val < 38 := (x 0).isLt
  have hx1 : (x 1).val < 1 := (x 1).isLt
  have hx2 : (x 2).val < 48 := (x 2).isLt
  rw [shapeCast_apply (extractStridedSlice S38x48 ![0, 0] q slices_S128x128_o0_0_S38x48) _ x (ix2 (⟨(x 0).val, hx0⟩ : Fin 38) (⟨(x 2).val, hx2⟩ : Fin 48)) (by
    refine (Shape.rowMajor_val_two _).trans (Eq.trans ?_ (Shape.rowMajor_val_three _).symm)
    show (x 0).val * 48 + (x 2).val = ((x 0).val * 1 + (x 1).val) * 48 + (x 2).val
    omega)]
  rw [extractStridedSlice_apply ![0, 0] q slices_S128x128_o0_0_S38x48 _ (ix2 (⟨(x 0).val, by omega⟩ : Fin 128) (⟨(x 2).val, by omega⟩ : Fin 128)) (by
    intro a
    match a with
    | ⟨0, _⟩ => show (x 0).val = 0 + (x 0).val; omega
    | ⟨1, _⟩ => show (x 2).val = 0 + (x 2).val; omega)]
  refine (h ⟨(x 0).val, by omega⟩ ⟨(x 2).val, hx2⟩).trans ?_
  exact if_neg (by rw [lane_lt _ _ hx0]; decide)

theorem results_spec (I : Ins F) {Q : PUnit → sProp 𝕄} :
    iprop(statAt c I.data lanes 38 ∗ own c mXs I.scales ∗ any c mSq ∗ any c mCandO ∗ any c mCmaxO ∗ any c mLse ∗ any c mCsumO ∗ any c mXsO)
      ⊢ iprop((iprop(statAt c I.data lanes 38 ∗ own c mXs I.scales ∗ any c mSq ∗ any c mCandO ∗ own c mCmaxO I.cmax ∗ own c mLse I.lse ∗ own c mCsumO I.csum ∗ own c mXsO I.scaleRow) -∗ Q ⟨⟩)
        -∗ wpk c (results lanes) Q) := by
  unfold results
  simp only [wpk_bind]
  iintro ⟨⟨HA, HMst, HSst, HI, HCt, HC⟩, HX, HS, HO1, HO2, HO3, HO4, HO5⟩ HQ
  iapply ldF $$ HMst
  iintro HMst
  iapply ldF $$ HSst
  iintro HSst
  iapply ldAny $$ HI
  iintro %ci HI
  iapply ldAny $$ HC
  iintro %cw HC
  iapply ldAny $$ HA
  iintro %ca HA
  iapply turn_spec $$ HS
  iintro %q1 %h1 HS
  iapply ldAny $$ HO1
  iintro %v1 HO1
  iapply stAny $$ HO1
  iintro HO1
  iapply turn_spec $$ HS
  iintro %q2 %h2 HS
  iapply ldAny $$ HO2
  iintro %v2 HO2
  iapply stF $$ HO2
  iintro HO2
  iapply ldAny $$ HO3
  iintro %v3 HO3
  iapply stF $$ HO3
  iintro HO3
  iapply ldF $$ HX
  iintro HX
  iapply turn_spec $$ HS
  iintro %q3 %h3 HS
  iapply ldAny $$ HO4
  iintro %v4 HO4
  iapply stF $$ HO4
  iintro HO4
  iapply ldAny $$ HO5
  iintro %v5 HO5
  iapply stF $$ HO5
  iintro HO5
  iapply HQ
  isplitl [HA HMst HSst HI HCt HC]
  · iapply stat_intro; iframe
  isplitl [HX]; · iexact HX
  isplitl [HS]; · iexact HS
  isplitl [HO1]; · iexact HO1
  isplitl [HO2]; · iapply (of_eq (congrArg (own c mCmaxO) (rows38 h2))) $$ HO2
  isplitl [HO3]; · iapply (of_eq (congrArg (own c mLse) (row38 h2))) $$ HO3
  isplitl [HO4]; · iapply (of_eq (congrArg (own c mCsumO) (rows38 h3))) $$ HO4
  iapply (of_eq (congrArg (own c mXsO) (row38 h3))) $$ HO5

/-! ## Copies out -/

theorem copiesOut_spec (I : Ins F) {lane : I48} {Q : PUnit → sProp 𝕄} :
    iprop((any c mCandO ∗ any c hCandOut ∗ idle c (cS ![1] inb_S6_S1_1)) ∗ (own c mCmaxO I.cmax ∗ any c hCmax ∗ idle c (cS ![2] inb_S6_S1_2)) ∗ (own c mLse I.lse ∗ any c hLse ∗ idle c (cS ![3] inb_S6_S1_3))
        ∗ (own c mCsumO I.csum ∗ any c hCsum ∗ idle c (cS ![4] inb_S6_S1_4)) ∗ (own c mXsO I.scaleRow ∗ any c hXs ∗ idle c (cS ![5] inb_S6_S1_5)) ∗ bulkFlight c I.data lane ∗ tailFlight c I.data lane ∗ flCodes c I ∗ due c)
      ⊢ iprop((iprop((any c mCandO ∗ any c hCandOut ∗ idle c (cS ![1] inb_S6_S1_1)) ∗ (any c mCmaxO ∗ own c hCmax I.cmax ∗ idle c (cS ![2] inb_S6_S1_2)) ∗ (any c mLse ∗ own c hLse I.lse ∗ idle c (cS ![3] inb_S6_S1_3))
            ∗ (any c mCsumO ∗ own c hCsum I.csum ∗ idle c (cS ![4] inb_S6_S1_4)) ∗ (any c mXsO ∗ own c hXs I.scaleRow ∗ idle c (cS ![5] inb_S6_S1_5))
            ∗ (((∃ Y, ⌜BulkGood I.data lane Y⌝ ∗ own c bulkDst Y) ∗ (∃ f, outPt c setA f)) ∗ idle c cellA) ∗ (((∃ Y, ⌜TailGood I.data lane Y⌝ ∗ own c tailDst Y) ∗ (∃ f, outPt c setB f)) ∗ idle c cellB)
            ∗ ((own c hCodes I.codes ∗ own c mCodes I.codes) ∗ idle c (cS ![0] inb_S6_S1_0)) ∗ due c) -∗ Q ⟨⟩)
        -∗ wpk c copiesOut Q) := by
  unfold copiesOut
  simp only [wpk_bind]
  iintro ⟨⟨⟨%X1, A1⟩, B1, C1⟩, ⟨A2, B2, C2⟩, ⟨A3, B3, C3⟩, ⟨A4, B4, C4⟩, ⟨A5, B5, C5⟩, Hb, Ht, Hc, HW⟩ HQ
  iapply (copyOf (src := mCandO) (dst := hCandOut) (X := X1) (q := fullShare) (by decide)) $$ [A1 B1 C1]
  · isplitl [A1]; · iexact A1
    isplitl [B1] <;> iassumption
  iintro F1
  iapply (copyOf (src := mCmaxO) (dst := hCmax) (X := I.cmax) (q := fullShare) (by decide)) $$ [A2 B2 C2]
  · isplitl [A2]; · iexact A2
    isplitl [B2] <;> iassumption
  iintro F2
  iapply (copyOf (src := mLse) (dst := hLse) (X := I.lse) (q := fullShare) (by decide)) $$ [A3 B3 C3]
  · isplitl [A3]; · iexact A3
    isplitl [B3] <;> iassumption
  iintro F3
  iapply (copyOf (src := mCsumO) (dst := hCsum) (X := I.csum) (q := fullShare) (by decide)) $$ [A4 B4 C4]
  · isplitl [A4]; · iexact A4
    isplitl [B4] <;> iassumption
  iintro F4
  iapply (copyOf (src := mXsO) (dst := hXs) (X := I.scaleRow) (q := fullShare) (by decide)) $$ [A5 B5 C5]
  · isplitl [A5]; · iexact A5
    isplitl [B5] <;> iassumption
  iintro F5
  iapply (wait rfl) $$ [Hb HW]
  · isplitl [Hb] <;> iassumption
  iintro ⟨Hb, Cb, HW⟩
  iapply (wait rfl) $$ [Ht HW]
  · isplitl [Ht] <;> iassumption
  iintro ⟨Ht, Ct, HW⟩
  iapply (wait rfl) $$ [Hc HW]
  · isplitl [Hc] <;> iassumption
  iintro ⟨Hc, Cc, HW⟩
  iapply (wait rfl) $$ [F1 HW]
  · isplitl [F1] <;> iassumption
  iintro ⟨⟨B1, A1⟩, C1, HW⟩
  iapply (wait rfl) $$ [F2 HW]
  · isplitl [F2] <;> iassumption
  iintro ⟨⟨B2, A2⟩, C2, HW⟩
  iapply (wait rfl) $$ [F3 HW]
  · isplitl [F3] <;> iassumption
  iintro ⟨⟨B3, A3⟩, C3, HW⟩
  iapply (wait rfl) $$ [F4 HW]
  · isplitl [F4] <;> iassumption
  iintro ⟨⟨B4, A4⟩, C4, HW⟩
  iapply (wait rfl) $$ [F5 HW]
  · isplitl [F5] <;> iassumption
  iintro ⟨⟨B5, A5⟩, C5, HW⟩
  ihave A1 := (any_of _ _) $$ A1
  ihave B1 := (any_of _ _) $$ B1
  ihave A2 := (any_of _ _) $$ A2
  ihave A3 := (any_of _ _) $$ A3
  ihave A4 := (any_of _ _) $$ A4
  ihave A5 := (any_of _ _) $$ A5
  iapply HQ
  iframe

end Cert.Kernel.Hand

end
-- ==== Proof.Parts.lean ====
/- The kernel's arrays as the parts its copies take: the weight codes and the mask by shares, the ring by slots, the
   output block by its first 1120 tiles and the rest. -/
module

public import proofs.«01_k».proof.Proof.After

@[expose] public section

set_option maxRecDepth 65536

noncomputable section

namespace Cert.Kernel.Hand

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (Pipeline.UD sig nD τ) ℕ

variable {c : Dev nD}

/-! ## By shares -/

/-- The weight codes by the five shares their copies read. -/
theorem weights_eq (X : S1024x151936.Idx → Elt F .fp8e4m3) : (own c hW X : sProp 𝕄)
    ⊣⊢ iprop(owns (c : Thread nD τ) hW qW X ∗ owns (c : Thread nD τ) hW (shareN 0) X ∗ owns (c : Thread nD τ) hW (shareN 1) X
      ∗ owns (c : Thread nD τ) hW (shareN 2) X ∗ owns (c : Thread nD τ) hW (shareN 3) X) := by
  have h := Transfers.pointsTo_toks (Name := ℕ) (U := Pipeline.UD sig nD τ) (Lvl := ℕ) (Ix := Unit) (Val := Elt F) (ℓ := (c : Thread nD τ).loc main_arg1) (S := Finset.univ) (f := X) fullShare 4
  rw [BI.bigSep_univ_eq_bigSepL [0, 1, 2, 3] (by decide) (by decide)] at h
  simp only [owns_whole]
  exact h

/-- The mask by the two shares its copies read. -/
theorem mask_eq (X : S48x4748.Idx → Elt F .i32) : (own c hMask X : sProp 𝕄)
    ⊣⊢ iprop(owns (c : Thread nD τ) hMask qM X ∗ owns (c : Thread nD τ) hMask qT X) := by
  have h := Transfers.pointsTo_toks (Name := ℕ) (U := Pipeline.UD sig nD τ) (Lvl := ℕ) (Ix := Unit) (Val := Elt F) (ℓ := (c : Thread nD τ).loc main_arg3) (S := Finset.univ) (f := X) fullShare 1
  rw [BI.bigSep_univ_eq_bigSepL [0] (by decide) (by decide)] at h
  simp only [owns_whole]
  exact h

/-! ## The ring by slots -/

abbrev slotRect (t : Fin 4) : Rect S4x1024x4096 := Rect.unit (s := S4x1024x4096) ![t.val % 4, 0, 0] S1x1024x4096.size (slot_in t.val)

theorem mem_slotRect (t : Fin 4) (i : S4x1024x4096.Idx) : i ∈ (slotRect t).set ↔ (i 0).val = t.val := by
  rw [← Rect.map_emb_univ, Finset.mem_map]
  constructor
  · rintro ⟨x, -, rfl⟩
    have hx : (x 0).val < 1 := (x 0).isLt
    have := t.isLt
    show t.val % 4 + 1 * (x 0).val = t.val; omega
  · intro h
    have := t.isLt
    refine ⟨ix3 (0 : Fin 1) (⟨(i 1).val, (i 1).isLt⟩ : Fin 1024) (⟨(i 2).val, (i 2).isLt⟩ : Fin 4096), Finset.mem_univ _, ?_⟩
    funext a; apply Fin.ext
    match a with
    | ⟨0, _⟩ => show t.val % 4 + 1 * 0 = (i 0).val; omega
    | ⟨1, _⟩ => show 0 + 1 * (i 1).val = (i 1).val; omega
    | ⟨2, _⟩ => show 0 + 1 * (i 2).val = (i 2).val; omega

theorem slot_disjoint (t t' : Fin 4) (h : t ≠ t') : Disjoint (slotRect t).set (slotRect t').set := by
  rw [Finset.disjoint_left]
  intro i h1 h2
  rw [mem_slotRect] at h1 h2
  exact h (Fin.ext (h1.symm.trans h2))

theorem slot_cover : (Finset.univ : Finset (Fin 4)).biUnion (fun t => (slotRect t).set) = Finset.univ := by
  ext i
  simp only [Finset.mem_biUnion, Finset.mem_univ, true_and, iff_true]
  exact ⟨⟨(i 0).val, (i 0).isLt⟩, (mem_slotRect _ i).mpr rfl⟩

/-- A slot seen as a plane of the ring. -/
theorem slot_plane (t : Fin 4) (Y : S1x1024x4096.Idx → Elt F .fp8e4m3) : (own c (mW.slice (slotRect t) (fun _ => rfl)) Y : sProp 𝕄) ⊢ any c (slotN t.val) := by
  have h : (slotN t.val).view.set = (mW.slice (slotRect t) (fun _ => rfl)).view.set := View.set_reshape _ _
  unfold any own owns
  iintro ⟨%f, %hf, H⟩
  iexists (slotN t.val).view.read (Elt F) f
  iexists f
  isplitr
  · ipureintro; rfl
  rw [h]
  iexact H

theorem plane_slot (t : Fin 4) : (any c (slotN t.val) : sProp 𝕄) ⊢ any c (mW.slice (slotRect t) (fun _ => rfl)) := by
  have h : (slotN t.val).view.set = (mW.slice (slotRect t) (fun _ => rfl)).view.set := View.set_reshape _ _
  unfold any own owns
  iintro ⟨%X, %f, %hf, H⟩
  iexists (mW.slice (slotRect t) (fun _ => rfl)).view.read (Elt F) f
  iexists f
  isplitr
  · ipureintro; rfl
  rw [← h]
  iexact H

theorem planes (Φ : Fin 4 → sProp 𝕄) : BI.bigSep Finset.univ Φ ⊣⊢ iprop(Φ 0 ∗ Φ 1 ∗ Φ 2 ∗ Φ 3) := by
  rw [BI.bigSep_univ_eq_bigSepL [0, 1, 2, 3] (by decide) (by decide)]
  exact ⟨.rfl, .rfl⟩

theorem ring_split : (any c mW : sProp 𝕄) ⊢ iprop(any c (slotN 0) ∗ any c (slotN 1) ∗ any c (slotN 2) ∗ any c (slotN 3)) := by
  iintro ⟨%X, H⟩
  ihave H := (owns_rects (c : Thread nD τ) mW fullShare slotRect (fun _ _ => rfl) slot_disjoint slot_cover X) $$ H
  ihave H := (planes _).1 $$ H
  icases H with ⟨H0, H1, H2, H3⟩
  isplitl [H0]; · iapply (slot_plane 0 _) $$ H0
  isplitl [H1]; · iapply (slot_plane 1 _) $$ H1
  isplitl [H2]; · iapply (slot_plane 2 _) $$ H2
  iapply (slot_plane 3 _) $$ H3

theorem ring_join : iprop(any c (slotN 0) ∗ any c (slotN 1) ∗ any c (slotN 2) ∗ any c (slotN 3)) ⊢ (any c mW : sProp 𝕄) := by
  iintro ⟨H0, H1, H2, H3⟩
  ihave H0 := (show any c (slotN 0) ⊢ any c (mW.slice (slotRect 0) (fun _ => rfl)) from plane_slot 0) $$ H0
  ihave H1 := (show any c (slotN 1) ⊢ any c (mW.slice (slotRect 1) (fun _ => rfl)) from plane_slot 1) $$ H1
  ihave H2 := (show any c (slotN 2) ⊢ any c (mW.slice (slotRect 2) (fun _ => rfl)) from plane_slot 2) $$ H2
  ihave H3 := (show any c (slotN 3) ⊢ any c (mW.slice (slotRect 3) (fun _ => rfl)) from plane_slot 3) $$ H3
  icases H0 with ⟨%Y0, H0⟩
  icases H1 with ⟨%Y1, H1⟩
  icases H2 with ⟨%Y2, H2⟩
  icases H3 with ⟨%Y3, H3⟩
  let Y : Fin 4 → S1x1024x4096.Idx → Elt F .fp8e4m3 := ![Y0, Y1, Y2, Y3]
  let X : S4x1024x4096.Idx → Elt F .fp8e4m3 := fun i => Y ⟨(i 0).val, (i 0).isLt⟩ (ix3 (0 : Fin 1) (⟨(i 1).val, (i 1).isLt⟩ : Fin 1024) (⟨(i 2).val, (i 2).isLt⟩ : Fin 4096))
  have hX (t : Fin 4) : (fun j => X ((slotRect t).emb j)) = Y t := by
    funext j
    have hj : (j 0).val < 1 := (j 0).isLt
    have ht := t.isLt
    have e1 : (⟨((slotRect t).emb j 0).val, ((slotRect t).emb j 0).isLt⟩ : Fin 4) = t := Fin.ext (by show t.val % 4 + 1 * (j 0).val = t.val; omega)
    show Y (⟨((slotRect t).emb j 0).val, ((slotRect t).emb j 0).isLt⟩ : Fin 4) _ = _
    rw [e1]
    refine congrArg (Y t) (funext fun a => Fin.ext ?_)
    match a with
    | ⟨0, _⟩ => show 0 = (j 0).val; omega
    | ⟨1, _⟩ => show 0 + 1 * (j 1).val = (j 1).val; omega
    | ⟨2, _⟩ => show 0 + 1 * (j 2).val = (j 2).val; omega
  iexists X
  iapply (owns_of_rects (c : Thread nD τ) mW fullShare slotRect (fun _ _ => rfl) slot_disjoint slot_cover X)
  iapply (planes _).2
  isplitl [H0]; · iapply (show own c (mW.slice (slotRect 0) (fun _ => rfl)) Y0 ⊢ own c (mW.slice (slotRect 0) (fun _ => rfl)) (fun j => X ((slotRect 0).emb j)) from of_eq (congrArg (own c (mW.slice (slotRect 0) (fun _ => rfl))) (hX 0).symm)) $$ H0
  isplitl [H1]; · iapply (show own c (mW.slice (slotRect 1) (fun _ => rfl)) Y1 ⊢ own c (mW.slice (slotRect 1) (fun _ => rfl)) (fun j => X ((slotRect 1).emb j)) from of_eq (congrArg (own c (mW.slice (slotRect 1) (fun _ => rfl))) (hX 1).symm)) $$ H1
  isplitl [H2]; · iapply (show own c (mW.slice (slotRect 2) (fun _ => rfl)) Y2 ⊢ own c (mW.slice (slotRect 2) (fun _ => rfl)) (fun j => X ((slotRect 2).emb j)) from of_eq (congrArg (own c (mW.slice (slotRect 2) (fun _ => rfl))) (hX 2).symm)) $$ H2
  iapply (show own c (mW.slice (slotRect 3) (fun _ => rfl)) Y3 ⊢ own c (mW.slice (slotRect 3) (fun _ => rfl)) (fun j => X ((slotRect 3).emb j)) from of_eq (congrArg (own c (mW.slice (slotRect 3) (fun _ => rfl))) (hX 3).symm)) $$ H3

/-! ## The output block and its destination -/

theorem block_split : (any c mOut : sProp 𝕄) ⊢ iprop(∃ f, outPt c setA f ∗ outPt c setB f) := by
  iintro ⟨%f, H⟩
  ihave H := (of_eq (owns_whole (c : Thread nD τ) cc0_scratch12 fullShare f)) $$ H
  iexists f
  iapply (pointsTo_split_subset (Finset.subset_univ setA)).1 $$ H

theorem block_join : iprop((∃ f, outPt c setA f) ∗ (∃ f, outPt c setB f)) ⊢ (any c mOut : sProp 𝕄) := by
  iintro ⟨⟨%f, H⟩, ⟨%g, H'⟩⟩
  iexists (setA.piecewise f g)
  iapply (of_eq (owns_whole (c : Thread nD τ) cc0_scratch12 fullShare _).symm)
  iapply (pointsTo_join_subset (Finset.subset_univ setA))
  isplitl [H]; · iexact H
  iexact H'

theorem mem_bulkRect (i : S48x1187x1x128.Idx) : i ∈ bulkRect.set ↔ (i 1).val < 1120 := by
  have h : setA = bulkRect.set := by
    show (View.slice _ _).set = _
    rw [View.set_slice]; exact Finset.map_refl
  rw [← h]; exact mem_setA i

theorem tailSet' : hOut.view.set \ bulkDst.view.set = tailDst.view.set := by
  have h1 : bulkDst.view.set = bulkRect.set := by
    show (View.slice _ _).set = _
    rw [View.set_slice]; exact Finset.map_refl
  have h2 : tailDst.view.set = tailRect.set := by
    show (View.slice _ _).set = _
    rw [View.set_slice]; exact Finset.map_refl
  rw [h1, h2]
  ext i
  rw [Finset.mem_sdiff, mem_bulkRect, mem_tailRect]
  constructor
  · rintro ⟨-, h⟩; omega
  · intro h; exact ⟨by rw [show hOut.view.set = Finset.univ from View.set_whole _]; exact Finset.mem_univ _, by omega⟩

theorem dst_split : (any c hOut : sProp 𝕄) ⊢ iprop(any c bulkDst ∗ any c tailDst) := by
  iintro ⟨%X, H⟩
  ihave H := (owns_slice_split (c : Thread nD τ) hOut fullShare bulkRect (fun _ => rfl) X) $$ H
  icases H with ⟨H, %f, %hf, H'⟩
  isplitl [H]
  · iexists _; iexact H
  iexists tailDst.view.read (Elt F) f
  iapply (owns_intro (c : Thread nD τ) tailDst fullShare f)
  rw [← tailSet']
  iexact H'

/-- What the kernel leaves in its first result: for each token and tile the masked logits of the tile. -/
def Ins.out (I : Ins F) : S48x1187x1x128.Idx → Elt F .f32 := fun i => I.data.want lanes ⟨(i 1).val, (i 1).isLt⟩ (inTile i)

theorem dst_join (I : Ins F) {Y Z} (hY : BulkGood I.data lanes Y) (hZ : TailGood I.data lanes Z) :
    iprop(own c bulkDst Y ∗ own c tailDst Z) ⊢ (own c hOut I.out : sProp 𝕄) := by
  iintro ⟨HY, HZ⟩
  ihave HZ' := (show own c tailDst Z ⊢ iprop(∃ g, ⌜tailDst.view.read (Elt F) g = Z⌝ ∗ tailDst.view.loc (c : Thread nD τ) ↦[tailDst.view.set]{fullShare} g) from .rfl) $$ HZ
  icases HZ' with ⟨%g, %hg, HZ⟩
  have e : bulkRect.overlay (hOut.view.read (Elt F) g) Y = I.out := by
    funext i
    by_cases hi : i ∈ bulkRect.set
    · rw [← Rect.map_emb_univ] at hi
      obtain ⟨x, -, rfl⟩ := Finset.mem_map.mp hi
      have hx : (x 1).val < 1120 := (x 1).isLt
      rw [Rect.overlay_emb]
      rw [hY x ⟨((bulkRect.emb x) 1).val, ((bulkRect.emb x) 1).isLt⟩ (by show (x 1).val = 0 + 1 * (x 1).val; omega)]
      refine congrArg (I.data.want lanes _) (funext fun a => Fin.ext ?_)
      match a with
      | ⟨0, _⟩ => show (x 0).val = 0 + 1 * (x 0).val; omega
      | ⟨1, _⟩ => show (x 3).val = 0 + 1 * (x 3).val; omega
    · rw [Rect.overlay_of_not_mem _ _ _ hi]
      have hi' : i ∈ tailRect.set := by rw [mem_tailRect]; rw [mem_bulkRect] at hi; omega
      rw [← Rect.map_emb_univ] at hi'
      obtain ⟨x, -, rfl⟩ := Finset.mem_map.mp hi'
      have := hZ x ⟨((tailRect.emb x) 1).val, ((tailRect.emb x) 1).isLt⟩ (by show 1120 + (x 1).val = 1120 + 1 * (x 1).val; omega)
      rw [← hg] at this
      refine Eq.trans this ?_
      refine congrArg (I.data.want lanes _) (funext fun a => Fin.ext ?_)
      match a with
      | ⟨0, _⟩ => show (x 0).val = 0 + 1 * (x 0).val; omega
      | ⟨1, _⟩ => show (x 3).val = 0 + 1 * (x 3).val; omega
  rw [← e]
  iapply (owns_slice_join (c : Thread nD τ) hOut fullShare bulkRect (fun _ => rfl) Y g)
  isplitl [HY]; · iexact HY
  ihave HZ := (of_eq (congrArg (fun S => (tailDst.view.loc (c : Thread nD τ) ↦[S]{fullShare} g : sProp 𝕄)) tailSet'.symm)) $$ HZ
  iexact HZ

end Cert.Kernel.Hand

end
-- ==== Proof.Whole.lean ====
/- The whole kernel: from its operands to its results. -/
module

public import proofs.«01_k».proof.Proof.Parts

@[expose] public section

set_option maxRecDepth 65536

noncomputable section

namespace Cert.Kernel.Hand

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (Pipeline.UD sig nD τ) ℕ

variable {c : Dev nD}

/-- The kernel's operands, unchanged by it. -/
def operands (c : Dev nD) (I : Ins F) : sProp 𝕄 :=
  iprop(own c hX I.x ∗ own c hW I.wc ∗ own c hWs I.ws ∗ own c hMask I.mask ∗ own c hCand I.cd)
/-- Its scratch arrays at any contents. -/
def scratch (c : Dev nD) : sProp 𝕄 :=
  iprop(any c mX ∗ any c mWs ∗ any c mMask ∗ any c mMtail ∗ any c mCand ∗ any c mW ∗ any c mWtail ∗ any c mLhs ∗ any c mCodes ∗ any c mXs
    ∗ any c mBits ∗ any c mNeg ∗ any c mOut ∗ any c mSq ∗ any c mCidx ∗ any c mCtile ∗ any c mCacc ∗ any c mCword ∗ any c mMst ∗ any c mSst
    ∗ any c mLse ∗ any c mCandO ∗ any c mCmaxO ∗ any c mCsumO ∗ any c mXsO)
/-- Its semaphore cells at zero. -/
def cells (c : Dev nD) : sProp 𝕄 :=
  iprop((idle c (cIn ![0] inb_S5_S1_0) ∗ idle c (cIn ![1] inb_S5_S1_1) ∗ idle c (cIn ![2] inb_S5_S1_2) ∗ idle c (cIn ![3] inb_S5_S1_3) ∗ idle c (cIn ![4] inb_S5_S1_4))
    ∗ (idle c (cellN 0) ∗ idle c (cellN 1) ∗ idle c (cellN 2) ∗ idle c (cellN 3) ∗ idle c cT)
    ∗ (idle c cellA ∗ idle c cellB)
    ∗ (idle c (cS ![0] inb_S6_S1_0) ∗ idle c (cS ![1] inb_S6_S1_1) ∗ idle c (cS ![2] inb_S6_S1_2) ∗ idle c (cS ![3] inb_S6_S1_3) ∗ idle c (cS ![4] inb_S6_S1_4) ∗ idle c (cS ![5] inb_S6_S1_5)))
/-- Its results before it. -/
def resultsAny (c : Dev nD) : sProp 𝕄 :=
  iprop(any c hOut ∗ any c hLse ∗ any c hCandOut ∗ any c hCmax ∗ any c hCsum ∗ any c hCodes ∗ any c hXs)
/-- Its results after it. -/
def resultsAt (c : Dev nD) (I : Ins F) : sProp 𝕄 :=
  iprop(own c hOut I.out ∗ own c hLse I.lse ∗ any c hCandOut ∗ own c hCmax I.cmax ∗ own c hCsum I.csum ∗ own c hCodes I.codes ∗ own c hXs I.scaleRow)

/-- The ring once no chunk is left. -/
theorem ring_rest (D : Data F) : iprop(ringAt c D 37 ∗ ringAt c D 38 ∗ ringAt c D 39 ∗ ringAt c D 40)
    ⊢ (iprop((any c (slotN 1) ∗ owns (c : Thread nD τ) hW (shareN 1) D.wc ∗ idle c (cellN 1)) ∗ (any c (slotN 2) ∗ owns (c : Thread nD τ) hW (shareN 2) D.wc ∗ idle c (cellN 2))
      ∗ (any c (slotN 3) ∗ owns (c : Thread nD τ) hW (shareN 3) D.wc ∗ idle c (cellN 3)) ∗ (any c (slotN 0) ∗ owns (c : Thread nD τ) hW (shareN 0) D.wc ∗ idle c (cellN 0))) : sProp 𝕄) := by
  unfold ringAt
  rw [if_neg (by decide), if_neg (by decide), if_neg (by decide), if_neg (by decide)]

/-- What the chunk loop starts from, from what the copies in and the first words leave. -/
theorem before_spec (I : Ins F) {Q : PUnit → sProp 𝕄} :
    iprop(operands c I ∗ scratch c ∗ cells c ∗ resultsAny c ∗ due c)
      ⊢ iprop((iprop(inv c I.data lanes 0
          ∗ (own c mX I.x ∗ own c hX I.x ∗ idle c (cIn ![0] inb_S5_S1_0))
          ∗ (own c mCand I.cd ∗ own c hCand I.cd ∗ idle c (cIn ![1] inb_S5_S1_1))
          ∗ (own c hMask I.mask ∗ own c mMtail I.maskTail ∗ idle c (cIn ![2] inb_S5_S1_2) ∗ idle c (cIn ![3] inb_S5_S1_3))
          ∗ (own c hWs I.ws ∗ idle c (cIn ![4] inb_S5_S1_4))
          ∗ flWtail c I ∗ flCodes c I ∗ any c tailDst ∗ idle c cellB
          ∗ (any c mSq ∗ any c mLse ∗ any c mCandO ∗ any c mCmaxO ∗ any c mCsumO ∗ any c mXsO)
          ∗ (idle c (cS ![1] inb_S6_S1_1) ∗ idle c (cS ![2] inb_S6_S1_2) ∗ idle c (cS ![3] inb_S6_S1_3) ∗ idle c (cS ![4] inb_S6_S1_4) ∗ idle c (cS ![5] inb_S6_S1_5))
          ∗ (any c hLse ∗ any c hCandOut ∗ any c hCmax ∗ any c hCsum ∗ any c hXs)) -∗ Q ⟨⟩)
        -∗ wpk c before Q) := by
  unfold before
  simp only [wpk_bind]
  unfold operands scratch cells resultsAny
  iintro ⟨⟨ox, ow, ows, om, oc⟩, ⟨s0, s1, s2, s3, s4, s5, s6, s7, s8, s9, s10, s11, s12, s13, s14, s15, s16, s17, s18, s19, s20, s21, s22, s23, s24⟩,
    ⟨⟨i0, i1, i2, i3, i4⟩, ⟨w0, w1, w2, w3, w4⟩, ⟨a, b⟩, ⟨z0, z1, z2, z3, z4, z5⟩⟩, ⟨r0, r1, r2, r3, r4, r5, r6⟩, HW⟩ HQ
  ihave ow := (show own c hW I.wc ⊢ own c hW I.data.wc from .rfl) $$ ow
  ihave ow := (weights_eq I.data.wc).1 $$ ow
  icases ow with ⟨owT, ow0, ow1, ow2, ow3⟩
  ihave om := (mask_eq I.mask).1 $$ om
  icases om with ⟨omM, omT⟩
  ihave s5 := ring_split $$ s5
  icases s5 with ⟨p0, p1, p2, p3⟩
  ihave s12 := block_split $$ s12
  icases s12 with ⟨%f, fA, fB⟩
  ihave r0 := dst_split $$ r0
  icases r0 with ⟨dA, dB⟩
  iapply (copiesIn_spec I) $$ [ox s0 i0 oc s4 i1 omM s2 i2 omT s3 i3 ows s1 i4 ow0 p0 w0 ow1 p1 w1 ow2 p2 w2 ow3 p3 w3 owT s6 w4]
  · iframe
  iintro ⟨fx, fc, fm, ft, fw, g0, g1, g2, g3, fwt⟩
  iapply (quantise_spec I) $$ [fx HW s8 s7 s9 r5 z0]
  · iframe
  iintro ⟨kx, ox, i0, HW, kL, kxs, fco⟩
  ihave HS := (show iprop(any c mCacc ∗ any c mMst ∗ any c mSst ∗ any c mCidx ∗ any c mCtile ∗ any c mCword) ⊢ statAny c from .rfl) $$ [s16 s18 s19 s14 s15 s17]
  · iframe
  iapply (candidates_spec I lanes) $$ [s13 fc HW HS]
  · iframe
  iintro ⟨s13, kc, oc, i1, HW, HS⟩
  iapply (maskWords_spec I) $$ [fm ft HW]
  · iframe
  iintro ⟨kM, omM, kMt, omT, i2, i3, HW⟩
  iapply (firstWords_spec lanes I.data) $$ [kM s10 HS]
  · iframe
  iintro ⟨kM, kB, HS⟩
  iapply (wait rfl) $$ [fw HW]
  · iframe
  iintro ⟨⟨kw, ows⟩, i4, HW⟩
  iapply HQ
  ihave om := (mask_eq I.mask).2 $$ [omM omT]
  · isplitl [omM] <;> iassumption
  isplitl [kM kB HS kw kL s11 kxs fA dA a fB HW g0 g1 g2 g3]
  · unfold inv tileRes outB
    rw [outA_lo (show 0 ≤ 35 by decide)]
    isplitl [kM]; · iexact kM
    isplitl [kB]; · iexact kB
    isplitl [HS]; · iexact HS
    isplitl [kw kL s11]
    · isplitl [kw]; · iexact kw
      isplitl [kL] <;> iassumption
    isplitl [kxs]; · iexact kxs
    isplitl [fA dA a]
    · isplitl [fA]
      · iexists f
        isplitr
        · ipureintro; intro T hT; omega
        iexact fA
      isplitl [dA] <;> iassumption
    isplitl [fB]
    · iexists f
      isplitr
      · ipureintro; intro T _ hT; omega
      iexact fB
    isplitl [HW]; · iexact HW
    isplitl [g0]; · iexact g0
    isplitl [g1]; · iexact g1
    isplitl [g2] <;> iassumption
  iframe

/-- Everything after the loop. -/
theorem after_spec (I : Ins F) {Q : PUnit → sProp 𝕄} :
    iprop(inv c I.data lanes 37
          ∗ (own c mX I.x ∗ own c hX I.x ∗ idle c (cIn ![0] inb_S5_S1_0))
          ∗ (own c mCand I.cd ∗ own c hCand I.cd ∗ idle c (cIn ![1] inb_S5_S1_1))
          ∗ (own c hMask I.mask ∗ own c mMtail I.maskTail ∗ idle c (cIn ![2] inb_S5_S1_2) ∗ idle c (cIn ![3] inb_S5_S1_3))
          ∗ (own c hWs I.ws ∗ idle c (cIn ![4] inb_S5_S1_4))
          ∗ flWtail c I ∗ flCodes c I ∗ any c tailDst ∗ idle c cellB
          ∗ (any c mSq ∗ any c mLse ∗ any c mCandO ∗ any c mCmaxO ∗ any c mCsumO ∗ any c mXsO)
          ∗ (idle c (cS ![1] inb_S6_S1_1) ∗ idle c (cS ![2] inb_S6_S1_2) ∗ idle c (cS ![3] inb_S6_S1_3) ∗ idle c (cS ![4] inb_S6_S1_4) ∗ idle c (cS ![5] inb_S6_S1_5))
          ∗ (any c hLse ∗ any c hCandOut ∗ any c hCmax ∗ any c hCsum ∗ any c hXs))
      ⊢ iprop((iprop(operands c I ∗ scratch c ∗ cells c ∗ resultsAt c I ∗ due c) -∗ Q ⟨⟩)
        -∗ wpk c after Q) := by
  unfold after
  simp only [wpk_bind]
  unfold inv
  rw [outA_hi (show 36 ≤ 37 by decide)]
  iintro ⟨⟨kM, kB, HS, HT, kxs, HA, HB, HW, g1, g2, g3, g0⟩, ⟨kx, ox, i0⟩, ⟨kc, oc, i1⟩, ⟨om, kMt, i2, i3⟩, ⟨ows, i4⟩, fwt, fco, dB, b,
    ⟨s13, s20, s21, s22, s23, s24⟩, ⟨z1, z2, z3, z4, z5⟩, ⟨r1, r2, r3, r4, r6⟩⟩ HQ
  ihave g := (ring_rest I.data) $$ [g1 g2 g3 g0]
  · isplitl [g1]; · iexact g1
    isplitl [g2]; · iexact g2
    isplitl [g3] <;> iassumption
  icases g with ⟨⟨p1, ow1, w1⟩, ⟨p2, ow2, w2⟩, ⟨p3, ow3, w3⟩, ⟨p0, ow0, w0⟩⟩
  iapply (tailTiles_spec (D := I.data) lanes) $$ [fwt HW kxs kB HS HT HB dB b]
  · isplitl [fwt]; · iexact fwt
    isplitl [HW]; · iexact HW
    isplitl [kxs]; · iexact kxs
    isplitl [kB]; · iexact kB
    isplitl [HS]; · iexact HS
    isplitl [HT]; · iexact HT
    isplitl [HB]; · iexact HB
    isplitl [dB] <;> iassumption
  iintro ⟨kwt, owT, w4, HW, kxs, kB, HS, HT, fB⟩
  iapply (results_spec I) $$ [HS kxs s13 s21 s22 s20 s23 s24]
  · isplitl [HS]; · iexact HS
    isplitl [kxs]; · iexact kxs
    iframe
  iintro ⟨HS, kxs, s13, s21, s22, s20, s23, s24⟩
  iapply (copiesOut_spec I (lane := lanes)) $$ [s21 r2 z1 s22 r3 z2 s20 r1 z3 s23 r4 z4 s24 r6 z5 HA fB fco HW]
  · iframe
  iintro ⟨⟨s21, r2, z1⟩, ⟨s22, r3, z2⟩, ⟨s20, r1, z3⟩, ⟨s23, r4, z4⟩, ⟨s24, r6, z5⟩, ⟨⟨⟨%Y, %hY, dA⟩, fA⟩, a⟩, ⟨⟨⟨%Z, %hZ, dB⟩, fB⟩, b⟩, ⟨⟨r5, kco⟩, z0⟩, HW⟩
  ihave r0 := (dst_join I hY hZ) $$ [dA dB]
  · isplitl [dA] <;> iassumption
  ihave s12 := block_join $$ [fA fB]
  · isplitl [fA] <;> iassumption
  ihave s5 := ring_join $$ [p0 p1 p2 p3]
  · iframe
  ihave ow := (weights_eq I.data.wc).2 $$ [owT ow0 ow1 ow2 ow3]
  · iframe
  ihave ow := (show own c hW I.data.wc ⊢ own c hW I.wc from .rfl) $$ ow
  ihave s0 := (any_of _ _) $$ kx
  ihave s4 := (any_of _ _) $$ kc
  ihave s2 := (any_of _ _) $$ kM
  ihave s3 := (any_of _ _) $$ kMt
  ihave s8 := (any_of _ _) $$ kco
  ihave s9 := (any_of _ _) $$ kxs
  icases HS with ⟨s16, s18, s19, s14, s15, s17⟩
  ihave s18 := (any_of _ _) $$ s18
  ihave s19 := (any_of _ _) $$ s19
  ihave HT := (show tileRes c I.data ⊢ iprop(own c mWs I.data.ws ∗ own c mLhs I.data.L ∗ any c mNeg) from .rfl) $$ HT
  icases HT with ⟨kw, kL, s11⟩
  ihave s1 := (any_of _ _) $$ kw
  ihave s7 := (any_of _ _) $$ kL
  iapply HQ
  unfold operands scratch cells resultsAt
  iframe

/-- The whole kernel. -/
theorem whole_spec (I : Ins F) {Q : PUnit → sProp 𝕄} :
    iprop(operands c I ∗ scratch c ∗ cells c ∗ resultsAny c ∗ due c)
      ⊢ iprop((iprop(operands c I ∗ scratch c ∗ cells c ∗ resultsAt c I ∗ due c) -∗ Q ⟨⟩)
        -∗ wpk c whole Q) := by
  unfold whole
  simp only [wpk_bind]
  iintro H HQ
  iapply (before_spec I) $$ H
  iintro ⟨HI, H⟩
  have loop {R : PUnit → sProp 𝕄} : iprop(inv c I.data lanes 0 ∗ (inv c I.data lanes 37 -∗ R ⟨⟩)) ⊢ wpk c (Scf.Loop.for k0_t1_loop k0_t1_ok ⟨⟩ (fun k _ => trip lanes k)) R := by
    refine .trans ?_ (Scf.wp_for _ _ _ _ _ _ _ _ _ (fun k _ => inv c I.data lanes k) ?_)
    · iintro ⟨HI, HR⟩
      isplitl [HI]; · iexact HI
      iintro %acc HI
      iapply HR
      iexact HI
    · intro k acc
      iintro HI
      iapply (trip_spec I.data lanes k) $$ HI
      iintro HI
      iexact HI
  iapply loop
  isplitl [HI]; · iexact HI
  iintro HI
  iapply (after_spec I) $$ [HI H]
  · isplitl [HI] <;> iassumption
  iexact HQ

end Cert.Kernel.Hand

end
-- ==== Proof.BodyEq.lean ====
/- The printed trip of the chunk loop is `trip`. -/
module

public import proofs.«01_k».proof.Proof.Body

@[expose] public section

set_option maxRecDepth 65536

noncomputable section

namespace Cert.Kernel.Hand

open Cert.Kernel Cert.Kernel.Gen
open Idealize.ShloMosaic Idealize.ShloMosaic.TcCoe
open Idealize.SL.Sem

variable {F : FTy → Type} [FloatOps F] [Facts]

/-- Programs that ask the same first and go on alike are equal. -/
theorem op_congr.{v} {E : Type → Type v} {α β : Type} {e : E β} {c c' : β → Prog E α} (h : ∀ x, c x = c' x) :
    Prog.op e c = Prog.op e c' := congrArg (Prog.op e) (funext h)

/-- A conditional request before a program's rest, whatever the rest is continued with. -/
theorem ite_step.{v} {E : Type → Type v} {α β γ : Type} {p : Prop} [Decidable p] {e : E PUnit} {R : Prog E α} {K : α → Prog E β} {K' : β → Prog E γ} {R' : Prog E γ}
    (h : (R >>= K) >>= K' = R') :
    ((if _h : p then Prog.op e fun _ => R else R) >>= K) >>= K' = if _h : p then Prog.op e fun _ => R' else R' := by
  by_cases hp : p
  · rw [dif_pos hp, dif_pos hp]; exact congrArg (Prog.op e) (funext fun _ => h)
  · rw [dif_neg hp, dif_neg hp]; exact h

set_option maxHeartbeats 0 in
/-- The printed trip, at the buffers the kernel is called with, is `trip`. -/
theorem trip_eq (lane v420 : I48) (k : Fin k0_t1_loop.trips) (u : Unit) :
    k0_t1_body (F := F) (Memref.whole main_v0) (Memref.isWhole_whole _) (Memref.whole main_arg1) (Memref.isWhole_whole _) (Memref.whole main_v1) (Memref.isWhole_whole _) (Memref.whole main_arg3) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole main_v4_5) (Memref.isWhole_whole _) (Memref.whole main_v4_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 lane v420 k u = trip lane k := by
  refine op_congr fun _ => ?_
  refine ite_step ?_
  repeat (refine op_congr fun _ => ?_)
  by_cases h₂ : k0_cond2 k = 1#1
  · simp only [dif_pos h₂]
    exact rfl
  · simp only [dif_neg h₂]
    exact rfl

end Cert.Kernel.Hand

end
-- ==== Proof.HeadEq.lean ====
/- The printed kernel is `whole`. -/
module

public import proofs.«01_k».proof.Proof.Head
public import proofs.«01_k».proof.Proof.BodyEq

@[expose] public section

set_option maxRecDepth 65536

noncomputable section

namespace Cert.Kernel.Hand

open Cert.Kernel Cert.Kernel.Gen
open Idealize.ShloMosaic Idealize.ShloMosaic.TcCoe
open Idealize.SL.Sem

variable {F : FTy → Type} [FloatOps F] [Facts]

/-- Loops with equal bodies, continued alike, are equal. -/
theorem for_step {α β : Type} {body body' : (k : Fin k0_t1_loop.trips) → Unit → P F Unit} {K : Unit → P F α} {K₂ : α → P F β} {K' : Unit → P F β}
    (hb : ∀ k u, body k u = body' k u) (hK : ∀ x, K x >>= K₂ = K' x) :
    ((Scf.Loop.for k0_t1_loop k0_t1_ok ⟨⟩ body) >>= K) >>= K₂ = (Scf.Loop.for k0_t1_loop k0_t1_ok ⟨⟩ body') >>= K' := by
  obtain rfl : body = body' := funext fun k => funext fun u => hb k u
  rw [bind_assoc]
  exact congrArg _ (funext hK)

set_option maxHeartbeats 0 in
/-- The printed kernel, at the buffers it is called with, is `whole`. -/
theorem head_eq : cc0_constrained_head (F := F) (Memref.whole main_v0) (Memref.isWhole_whole _) (Memref.whole main_arg1) (Memref.isWhole_whole _) (Memref.whole main_v1) (Memref.isWhole_whole _) (Memref.whole main_arg3) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole main_v4_5) (Memref.isWhole_whole _) (Memref.whole main_v4_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 = whole := by
  iterate 54 (refine op_congr fun _ => ?_)
  refine (?_ : _ = (Scf.Loop.for k0_t1_loop k0_t1_ok ⟨⟩ (fun k _ => trip (F := F) lanes k)) >>= fun _ => after (F := F))
  change (Scf.Loop.for k0_t1_loop k0_t1_ok PUnit.unit _ >>= _) >>= _ = _
  refine for_step (fun k u => trip_eq (F := F) lanes lanes k u) fun _ => ?_
  repeat (refine op_congr fun _ => ?_)
  exact rfl

end Cert.Kernel.Hand

end
-- ==== Proof.Frame.lean ====
/- The launch: the whole program ends with its arguments unchanged, its counters at zero and its results as computed. -/
module

public import proofs.«01_k».proof.Proof.Whole
public import proofs.«01_k».proof.Proof.HeadEq
public import proofs.«01_k».proof.Proof.Gen.Kernel.Frame
public import Idealize.ShloMosaic.Lib.Pipeline.FrameValue

@[expose] public section

set_option maxRecDepth 65536

noncomputable section

namespace Cert.Kernel.Hand

open Cert.Kernel Cert.Kernel.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's operands as the region finds them. -/
def insAt (c : Dev nD) : Ins F where
  x := V m c main_v0
  wc := V m c main_arg1
  ws := V m c main_v1
  mask := V m c main_arg3
  cd := V m c main_v3

/-- The buffers the kernel reads. -/
def H0 : Finset (Ref sig .tc) := {main_v0, main_arg1, main_v1, main_arg3, main_v3}
/-- The buffers the kernel writes. -/
def R0 : Finset (Ref sig .tc) := {main_v4_0, main_v4_1, main_v4_2, main_v4_3, main_v4_4, main_v4_5, main_v4_6}
theorem H0_sub : H0 ⊆ Pipeline.restRefs sig cfg0.spec := by decide
theorem R0_sub : R0 ⊆ Pipeline.restRefs sig cfg0.spec \ H0 := by decide

/-- The kernel's eighteen semaphore cells. -/
abbrev osem0 : Fin 18 → SemLoc sig := fun j => SemLoc.dma j
theorem ownSemFacts0 : Pipeline.OwnSemFacts cfg0.spec osem0 := by decide

/-- The host lines up to the region. -/
theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

theorem ownSems_eq (c : Dev nD) :
    (Pipeline.ownSems0 (Ix := Unit) (Name := ℕ) (U := Pipeline.UD sig nD τ) (Lvl := ℕ) (Val := Elt F) (τ := τ) osem0 c : sProp 𝕄) ⊣⊢ cells c := by
  rw [Pipeline.ownSems0_eq_of_list c osem0 [0, 1, 2, 3, 4, 5, 6, 7, 8, 9, 10, 11, 12, 13, 14, 15, 16, 17] (by decide) (by decide)]
  refine ⟨?_, ?_⟩
  · refine (show _ ⊢ iprop(idle c (cIn ![0] inb_S5_S1_0) ∗ idle c (cIn ![1] inb_S5_S1_1) ∗ idle c (cIn ![2] inb_S5_S1_2) ∗ idle c (cIn ![3] inb_S5_S1_3) ∗ idle c (cIn ![4] inb_S5_S1_4)
      ∗ idle c (cellN 0) ∗ idle c (cellN 1) ∗ idle c (cellN 2) ∗ idle c (cellN 3) ∗ idle c cT ∗ idle c cellA ∗ idle c cellB
      ∗ idle c (cS ![0] inb_S6_S1_0) ∗ idle c (cS ![1] inb_S6_S1_1) ∗ idle c (cS ![2] inb_S6_S1_2) ∗ idle c (cS ![3] inb_S6_S1_3) ∗ idle c (cS ![4] inb_S6_S1_4) ∗ idle c (cS ![5] inb_S6_S1_5)) from .rfl).trans ?_
    unfold cells
    iintro H
    icases H with ⟨H0, H1, H2, H3, H4, H5, H6, H7, H8, H9, H10, H11, H12, H13, H14, H15, H16, H17⟩
    iframe
  · refine (?_ : _ ⊢ iprop(idle c (cIn ![0] inb_S5_S1_0) ∗ idle c (cIn ![1] inb_S5_S1_1) ∗ idle c (cIn ![2] inb_S5_S1_2) ∗ idle c (cIn ![3] inb_S5_S1_3) ∗ idle c (cIn ![4] inb_S5_S1_4)
      ∗ idle c (cellN 0) ∗ idle c (cellN 1) ∗ idle c (cellN 2) ∗ idle c (cellN 3) ∗ idle c cT ∗ idle c cellA ∗ idle c cellB
      ∗ idle c (cS ![0] inb_S6_S1_0) ∗ idle c (cS ![1] inb_S6_S1_1) ∗ idle c (cS ![2] inb_S6_S1_2) ∗ idle c (cS ![3] inb_S6_S1_3) ∗ idle c (cS ![4] inb_S6_S1_4) ∗ idle c (cS ![5] inb_S6_S1_5))).trans (show _ ⊢ _ from .rfl)
    unfold cells
    iintro H
    icases H with ⟨⟨H0, H1, H2, H3, H4⟩, ⟨H5, H6, H7, H8, H9⟩, ⟨H10, H11⟩, ⟨H12, H13, H14, H15, H16, H17⟩⟩
    iframe

theorem reads_eq (c : Dev nD) :
    (bigSep H0 (fun b => ((c.tc : Thread nD τ).loc b) ↦{fullShare} V m c b) : sProp 𝕄) = operands c (insAt m c) := by
  rw [BI.bigSep_eq_bigSepL_of_eq [main_v0, main_arg1, main_v1, main_arg3, main_v3] (by decide) (by decide)]
  unfold operands
  simp only [own, owns_whole]
  rfl

theorem scratch_eq (c : Dev nD) :
    (Pipeline.scopedRest (Ix := Unit) (Name := ℕ) (U := Pipeline.UD sig nD τ) (Lvl := ℕ) (Val := Elt F) cfg0.spec c : sProp 𝕄) = scratch c := by
  rw [scopedRest0_eq]
  unfold scratch
  simp only [any, own, owns_whole]
  rfl

/-- The results held at the contents `W`. -/
theorem routed_eq (c : Dev nD) (W : (b : Ref sig .tc) → Buf (Elt F) ((c.tc : Thread nD τ).loc b)) :
    (Pipeline.routed R0 c W : sProp 𝕄)
      = iprop(own c hOut (W main_v4_0) ∗ own c hLse (W main_v4_1) ∗ own c hCandOut (W main_v4_2) ∗ own c hCmax (W main_v4_3)
        ∗ own c hCsum (W main_v4_4) ∗ own c hCodes (W main_v4_5) ∗ own c hXs (W main_v4_6)) := by
  unfold Pipeline.routed
  rw [BI.bigSep_eq_bigSepL_of_eq [main_v4_0, main_v4_1, main_v4_2, main_v4_3, main_v4_4, main_v4_5, main_v4_6] (by decide) (by decide)]
  simp only [own, owns_whole]
  rfl

/-- What is claimed of the results' contents. -/
def Good (c : Dev nD) (W : (b : Ref sig .tc) → Buf (Elt F) ((c.tc : Thread nD τ).loc b)) : Prop :=
  (W main_v4_0 : S48x1187x1x128.Idx → Elt F .f32) = (insAt m c).out
    ∧ (W main_v4_1 : S1x48.Idx → Elt F .f32) = (insAt m c).lse ∧ (W main_v4_3 : S38x1x48.Idx → Elt F .f32) = (insAt m c).cmax
    ∧ (W main_v4_4 : S38x1x48.Idx → Elt F .f32) = (insAt m c).csum
    ∧ (W main_v4_5 : S48x1024.Idx → Elt F .fp8e4m3) = (insAt m c).codes ∧ (W main_v4_6 : S1x48.Idx → Elt F .f32) = (insAt m c).scaleRow

theorem routed_good (c : Dev nD) : resultsAt c (insAt m c) ⊢ (Pipeline.routedSat R0 c (Good m c) : sProp 𝕄) := by
  unfold resultsAt Pipeline.routedSat
  iintro ⟨O0, O1, ⟨%f2, O2⟩, O3, O4, O5, O6⟩
  let W : (b : Ref sig .tc) → Buf (Elt F) ((c.tc : Thread nD τ).loc b) :=
    Function.update (Function.update (Function.update (Function.update (Function.update (Function.update (Function.update (V m c)
      main_v4_0 (insAt m c).out) main_v4_1 (insAt m c).lse) main_v4_2 f2) main_v4_3 (insAt m c).cmax) main_v4_4 (insAt m c).csum) main_v4_5 (insAt m c).codes) main_v4_6 (insAt m c).scaleRow
  have w0 : W main_v4_0 = (insAt m c).out := by
    simp (disch := decide) only [W, Function.update_of_ne, Function.update_self]
  have w1 : W main_v4_1 = (insAt m c).lse := by simp (disch := decide) only [W, Function.update_of_ne, Function.update_self]
  have w2 : W main_v4_2 = f2 := by simp (disch := decide) only [W, Function.update_of_ne, Function.update_self]
  have w3 : W main_v4_3 = (insAt m c).cmax := by simp (disch := decide) only [W, Function.update_of_ne, Function.update_self]
  have w4 : W main_v4_4 = (insAt m c).csum := by simp (disch := decide) only [W, Function.update_of_ne, Function.update_self]
  have w5 : W main_v4_5 = (insAt m c).codes := by simp (disch := decide) only [W, Function.update_of_ne, Function.update_self]
  have w6 : W main_v4_6 = (insAt m c).scaleRow := by simp (disch := decide) only [W, Function.update_self]
  iexists W
  isplitr
  · ipureintro
    exact ⟨w0, w1, w3, w4, w5, w6⟩
  iapply (show iprop(own c hOut (W main_v4_0) ∗ own c hLse (W main_v4_1) ∗ own c hCandOut (W main_v4_2) ∗ own c hCmax (W main_v4_3)
        ∗ own c hCsum (W main_v4_4) ∗ own c hCodes (W main_v4_5) ∗ own c hXs (W main_v4_6)) ⊢ (Pipeline.routed R0 c W : sProp 𝕄) from Entails.of_eq (routed_eq c W).symm)
  rw [w0, w1, w2, w3, w4, w5, w6]
  iframe

theorem results_any (c : Dev nD) (W : (b : Ref sig .tc) → Buf (Elt F) ((c.tc : Thread nD τ).loc b)) :
    (Pipeline.routed R0 c W : sProp 𝕄) ⊢ resultsAny c := by
  rw [routed_eq]
  unfold resultsAny
  iintro ⟨O0, O1, O2, O3, O4, O5, O6⟩
  isplitl [O0]; · iexists _; iexact O0
  isplitl [O1]; · iexists _; iexact O1
  isplitl [O2]; · iexists _; iexact O2
  isplitl [O3]; · iexists _; iexact O3
  isplitl [O4]; · iexists _; iexact O4
  isplitl [O5]; · iexists _; iexact O5
  iexists _; iexact O6

/-- What the body finds. -/
def first (c : Dev nD) : sProp 𝕄 := Pipeline.ΦDRG osem0 cfg0.spec H0 R0 (V m) (V m) c
/-- What the body leaves. -/
def last (c : Dev nD) : sProp 𝕄 := iprop(Pipeline.ΦD osem0 cfg0.spec H0 (V m) c ∗ Pipeline.routedSat R0 c (Good m c))

theorem first_open (c : Dev nD) :
    first m c ⊢ iprop(operands c (insAt m c) ∗ scratch c ∗ cells c ∗ resultsAny c ∗ ∃ r, prngReg c r) := by
  unfold first
  rw [Pipeline.ΦDRG_eq, reads_eq, scratch_eq]
  iintro ⟨S, P, C, H, R⟩
  ihave C := (ownSems_eq c).1 $$ C
  ihave R := (results_any c (V m c)) $$ R
  iframe

theorem last_close (c : Dev nD) :
    iprop(operands c (insAt m c) ∗ scratch c ∗ cells c ∗ resultsAt c (insAt m c) ∗ ∃ r, prngReg c r) ⊢ last m c := by
  unfold last
  rw [Pipeline.ΦD_eq, reads_eq, scratch_eq]
  iintro ⟨H, S, C, R, P⟩
  ihave C := (ownSems_eq c).2 $$ C
  ihave R := (routed_good m c) $$ R
  iframe

/-- What holds before point `n`: what the body finds, then what it leaves. -/
def phi (c : Dev nD) : ℕ → sProp 𝕄
  | 0 => first m c
  | _ + 1 => last m c

/-- The proof data of the one pipeline, which has no window. -/
def dats (_ : Fin 1) (c : Dev nD) : Dat τ (Elt F) Unit ℕ (Pipeline.UD sig nD τ) ℕ cfg0 c where
  A w := w.elim0
  after w t := w.elim0
  Φ t := phi m c t.val
  q w := w.elim0
  owed _ := 0

theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t) (fun _ => iprop((dats m 0 c).Φ t.succ ∗ (dats m 0 c).owesAt () t.succ ∗ emp)) := by
  have ht : t.val = 0 := by have := t.isLt; have : cfg0.N = 1 := by decide
                            omega
  rw [show bodyAt0 (F := F) t = (whole : P F PUnit) from head_eq]
  rw [show (dats m 0 c).Φ t.castSucc = first m c from (congrArg (phi m c) ht : phi m c t.val = phi m c 0), show (dats m 0 c).Φ t.succ = last m c from rfl]
  unfold Dat.owesAt Pipeline.owesWithin
  rw [show (dats m 0 c).owed t.castSucc = 0 from rfl, show (dats m 0 c).owed t.succ = 0 from rfl]
  iintro ⟨H, ⟨%W, -, HW⟩, -⟩
  ihave H := (first_open m c) $$ H
  icases H with ⟨H, S, C, R, P⟩
  iapply (whole_spec (insAt m c)) $$ [H S C R HW]
  · isplitl [H]; · iexact H
    isplitl [S]; · iexact S
    isplitl [C]; · iexact C
    isplitl [R]; · iexact R
    iexists W; iexact HW
  iintro ⟨H, S, C, R, ⟨%W', HW'⟩⟩
  isplitl [H S C R P]
  · iapply (last_close m c)
    iframe
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have none (f : Fin cfg0.W → sProp 𝕄) : bigSep Finset.univ f = iprop(emp) := by
    rw [show (Finset.univ : Finset (Fin cfg0.W)) = ∅ from Finset.univ_eq_empty (α := Fin 0)]; exact BI.bigSep_empty
  rw [none, none, defs₀_row]
  exact triple_restated (sound_body m c t) rfl .rfl fun _ => .rfl

theorem first_eq (c : Dev nD) : (dats m 0 c).toR.Φ 0 = first m c := rfl
theorem last_eq (c : Dev nD) : (dats m 0 c).toR.Φ (Fin.last cfg0.N) = last m c :=
  (congrArg (phi m c) (show (Fin.last cfg0.N).val = 1 by decide) : phi m c (Fin.last cfg0.N).val = phi m c 1)

set_option backward.isDefEq.respectTransparency.types false in
/-- The run: every buffer outside the results as the region finds it, the results as computed, every counter at zero. -/
theorem run_main : θ_run defs (onTc (τ := τ) (main (F := F))) (s₀ m ρ) (fun r => (Pipeline.RDat.FramePostR cfg0 (fun c => (dats m 0 c).toR) R0 (V m) r
      ∧ ∀ c : Dev nD, ∃ W : (b : Ref sig .tc) → Buf (Elt F) ((c.tc : Thread nD τ).loc b),
          Good m c W ∧ ∀ b ∈ R0, r.2.mem ((c.tc : Thread nD τ).loc b) = W b) ∧ r.2.sem = fun _ => 0) :=
  have hrest : Pipeline.restRefs sig cfg0.spec ⊆ Pipeline.restRefsP sig Pipeline.Prefetch.none cfg0.spec :=
    fun b hb => Finset.mem_sdiff.mpr ⟨hb, fun h => ((Finset.mem_image.mp h).elim fun k _ => k.elim0)⟩
  Pipeline.RDat.θ_run_frameP_dmaRSat_shared (Q' := _) (fun q => (cfgs q).toPCfg (Val := Elt F)) (fun q => (cfgs q).toPCfg_adm) (0 : Fin 1)
    launch0.toP.to₀ osem0 defs₀ Variants.none (fun c => (dats m 0 c).toR) ownSemFacts0 H0 R0
    (H0_sub.trans hrest) (R0_sub.trans (Finset.sdiff_subset_sdiff hrest subset_rfl)) m ρ main
    (hbody := fun c => (body_obligation m c).loose.toR) (hq := fun _ w => w.elim0)
    (howed := fun _ _ => rfl) (V := V m) (hmain := hmain m) (hA := fun _ w => w.elim0) (hpf := fun _ k => k.elim0) (PG := Good m)
    (hin := fun c => by
      refine .trans ?_ (Entails.of_eq (first_eq m c).symm)
      unfold first
      iintro ⟨H, -⟩; iexact H)
    (hout := fun c => Entails.of_eq (last_eq m c))
    (hQ' := fun _ h => h)

/-- The whole program: its arguments unchanged, its results as computed, every counter at zero. -/
theorem run : θ_run defs (onTc (τ := τ) (main (F := F))) ⟨m, fun _ => 0, ρ⟩ (fun r => (∀ c : Dev nD,
      (r.2.mem ((c.tc : Thread nD τ).loc main_v4_0) = (insAt m c).out
        ∧ r.2.mem ((c.tc : Thread nD τ).loc main_v4_1) = (insAt m c).lse
        ∧ r.2.mem ((c.tc : Thread nD τ).loc main_v4_3) = (insAt m c).cmax
        ∧ r.2.mem ((c.tc : Thread nD τ).loc main_v4_4) = (insAt m c).csum
        ∧ r.2.mem ((c.tc : Thread nD τ).loc main_v4_5) = (insAt m c).codes
        ∧ r.2.mem ((c.tc : Thread nD τ).loc main_v4_6) = (insAt m c).scaleRow)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    obtain ⟨W, ⟨w0, w1, w3, w4, w5, w6⟩, hW⟩ := h.1.2 c
    have rest (b : Ref sig .tc) (h1 : b ∈ Pipeline.restRefs sig cfg0.spec \ R0) := (h.1.1 c).2 b h1
    exact ⟨⟨(hW main_v4_0 (by decide)).trans w0, (hW main_v4_1 (by decide)).trans w1, (hW main_v4_3 (by decide)).trans w3, (hW main_v4_4 (by decide)).trans w4,
        (hW main_v4_5 (by decide)).trans w5, (hW main_v4_6 (by decide)).trans w6⟩,
      (rest main_arg0 (by decide)).trans (V_main_arg0 m c), (rest main_arg1 (by decide)).trans (V_main_arg1 m c),
      (rest main_arg2 (by decide)).trans (V_main_arg2 m c), (rest main_arg3 (by decide)).trans (V_main_arg3 m c),
      (rest main_arg4 (by decide)).trans (V_main_arg4 m c)⟩, h.2⟩) (run_main m ρ)

end Cert.Kernel.Hand

end
-- ==== Proof.Field.lean ====
/- The exponent field of a value by threshold search, over the extended reals: each field is a threshold, the power of
   two whose word carries that field, and the search finds the last threshold that the value reaches. -/
module

public import proofs.«01_k».proof.Proof.Head
public import Idealize.ShloMosaic.PureOps.Ideal.Laws
public import Mathlib.Data.BitVec

@[expose] public section

noncomputable section

namespace Cert.Kernel.Hand

open Idealize.ShloMosaic

/-- The threshold of an exponent field: zero for field zero, `+∞` from 255 on, a power of two between. -/
def thr (f : ℕ) : EReal := if f = 0 then 0 else if 255 ≤ f then ⊤ else (((2 : ℝ) ^ ((f : ℤ) - 127) : ℝ) : EReal)

theorem thr_zero : thr 0 = 0 := rfl

theorem thr_mid {f : ℕ} (h : 1 ≤ f) (h' : f ≤ 254) : thr f = (((2 : ℝ) ^ ((f : ℤ) - 127) : ℝ) : EReal) := by
  unfold thr; rw [if_neg (by omega), if_neg (by omega)]

theorem thr_top {f : ℕ} (h : 255 ≤ f) : thr f = ⊤ := by
  unfold thr; rw [if_neg (by omega), if_pos h]

/-- The word with exponent field `f` and nothing else, read as a float, is the threshold of `f`. -/
theorem ofBits_field {f : ℕ} (h : 1 ≤ f) (h' : f ≤ 255) : Ideal.ofBits .f32 (BitVec.ofNat 32 f <<< (23 : ℕ)) = thr f := by
  have e1 : (BitVec.extractLsb' 31 1 (BitVec.ofNat 32 f <<< (23 : ℕ))) = 0#1 := by
    apply BitVec.eq_of_toNat_eq
    simp [BitVec.extractLsb'_toNat, Nat.shiftRight_eq_div_pow, Nat.shiftLeft_eq]; omega
  have e2 : (BitVec.extractLsb' 23 8 (BitVec.ofNat 32 f <<< (23 : ℕ))).toNat = f := by
    simp [BitVec.extractLsb'_toNat, Nat.shiftRight_eq_div_pow, Nat.shiftLeft_eq]; omega
  have e3 : (BitVec.extractLsb' 0 23 (BitVec.ofNat 32 f <<< (23 : ℕ))).toNat = 0 := by
    simp [BitVec.extractLsb'_toNat, Nat.shiftRight_eq_div_pow, Nat.shiftLeft_eq]
  show Ideal.ieee 8 23 _ = _
  unfold Ideal.ieee
  simp only [Nat.reduceAdd, e1, e2, e3]
  by_cases h2 : f = 255
  · subst h2; rw [thr_top (le_refl _)]; simp
  · rw [thr_mid h (by omega), if_neg (by norm_num; omega), if_neg (by omega)]
    have h2 : (f : ℤ) - 127 = 23 + ((f : ℤ) - 150) := by ring
    have h3 : (2 : ℝ) ^ ((f : ℤ) - 127) = 1 * ((2 ^ 23 + 0 : ℕ) : ℝ) * 2 ^ ((f : ℤ) - 150) := by
      rw [h2, zpow_add₀ (by norm_num)]; norm_num
    rw [h3]
    have h4 : (f : ℤ) - (2 ^ (8 - 1) - 1) - ((23 : ℕ) : ℤ) = (f : ℤ) - 150 := by norm_num; ring
    rw [h4]
    rfl

theorem thr_mono {f g : ℕ} (h : f ≤ g) : thr f ≤ thr g := by
  rcases Nat.eq_zero_or_pos f with rfl | hf
  · rw [thr_zero]
    rcases Nat.eq_zero_or_pos g with rfl | hg
    · exact le_refl _
    by_cases hg' : 255 ≤ g
    · rw [thr_top hg']; exact le_top
    · rw [thr_mid hg (by omega)]; exact EReal.coe_nonneg.mpr (zpow_pos (by norm_num : (0 : ℝ) < 2) _).le
  · by_cases hg' : 255 ≤ g
    · rw [thr_top hg']; exact le_top
    · rw [thr_mid hf (by omega), thr_mid (by omega) (by omega)]
      exact EReal.coe_le_coe_iff.mpr (zpow_le_zpow_right₀ (by norm_num : (1 : ℝ) ≤ 2) (by omega))

/-- One trial of the search, at one element. -/
def trial (v : EReal) (d e : BitVec 32) : BitVec 32 :=
  Scalar.select (Ideal.cmp .olt v (Ideal.ofBits .f32 (IntOp.shli .vector (IntOp.ori e d) 23#32))) e (IntOp.ori e d)

/-- The search has fixed the field's bits from bit `k` on: the value lies between the thresholds of what is found and of
    what is found with one more at bit `k`. -/
def Found (v : EReal) (k : ℕ) (w : BitVec 32) : Prop :=
  ∃ f : ℕ, w = BitVec.ofNat 32 f ∧ f % 2 ^ k = 0 ∧ f + 2 ^ k ≤ 256 ∧ thr f ≤ v ∧ v < thr (f + 2 ^ k)

theorem ori_bit (k : Fin 8) (f : Fin 256) (h : f.val % 2 ^ (k.val + 1) = 0) :
    BitVec.ofNat 32 f.val ||| BitVec.ofNat 32 (2 ^ k.val) = BitVec.ofNat 32 (f.val + 2 ^ k.val) := by
  revert k f; decide +kernel

theorem trial_found {v : EReal} {k : ℕ} {w : BitVec 32} (hk : k < 8) (h : Found v (k + 1) w) :
    Found v k (trial v (BitVec.ofNat 32 (2 ^ k)) w) := by
  obtain ⟨f, rfl, hm, hl, h1, h2⟩ := h
  have hp : 2 ^ (k + 1) = 2 ^ k + 2 ^ k := by rw [pow_succ]; ring
  have hpos : 0 < 2 ^ k := Nat.pos_of_ne_zero (by positivity)
  have ho : IntOp.ori (BitVec.ofNat 32 f) (BitVec.ofNat 32 (2 ^ k)) = BitVec.ofNat 32 (f + 2 ^ k) :=
    ori_bit ⟨k, hk⟩ ⟨f, by omega⟩ hm
  have hmk : f % 2 ^ k = 0 := Nat.mod_eq_zero_of_dvd (dvd_trans (pow_dvd_pow 2 (Nat.le_succ k)) (Nat.dvd_of_mod_eq_zero hm))
  have hs : IntOp.shli .vector (BitVec.ofNat 32 (f + 2 ^ k)) 23#32 = BitVec.ofNat 32 (f + 2 ^ k) <<< (23 : ℕ) := rfl
  unfold trial
  rw [ho, hs, ofBits_field (by omega) (by omega)]
  by_cases hc : v < thr (f + 2 ^ k)
  · have : Ideal.cmp .olt v (thr (f + 2 ^ k)) = 1#1 := by simp [Ideal.cmp, hc]
    rw [this]
    exact ⟨f, rfl, hmk, by omega, h1, hc⟩
  · have : Ideal.cmp .olt v (thr (f + 2 ^ k)) = 0#1 := by simp [Ideal.cmp, hc]
    rw [this]
    exact ⟨f + 2 ^ k, rfl, by rw [Nat.add_mod_right]; exact hmk, by omega, not_lt.mp hc, by rw [add_assoc, ← hp]; exact h2⟩

/-- The whole search, at one element. -/
def search (v : EReal) : BitVec 32 :=
  trial v 1#32 (trial v 2#32 (trial v 4#32 (trial v 8#32 (trial v 16#32 (trial v 32#32 (trial v 64#32 (trial v 128#32 0#32)))))))

/-- The search of a nonnegative value below `+∞` finds the last field whose threshold the value reaches. -/
theorem search_found {v : EReal} (h0 : 0 ≤ v) (h1 : v < ⊤) : Found v 0 (search v) := by
  have h : Found v 8 0#32 := ⟨0, rfl, rfl, by norm_num, h0, by rw [thr_top (by norm_num)]; exact h1⟩
  exact trial_found (k := 0) (by norm_num) (trial_found (k := 1) (by norm_num) (trial_found (k := 2) (by norm_num)
    (trial_found (k := 3) (by norm_num) (trial_found (k := 4) (by norm_num) (trial_found (k := 5) (by norm_num)
    (trial_found (k := 6) (by norm_num) (trial_found (k := 7) (by norm_num) h)))))))

/-- The number of thresholds `2^(i - 126)`, `i < 253`, that a value reaches. -/
theorem count_found {v : EReal} {f : ℕ} (hf : f ≤ 253) (h1 : thr f ≤ v) (h2 : v < thr (f + 1)) :
    ∑ i : Fin 253, (if thr (i.val + 1) ≤ v then 1 else 0) = f := by
  have : ∀ i : Fin 253, thr (i.val + 1) ≤ v ↔ i.val < f := fun i =>
    ⟨fun h => by
      by_contra hge
      exact absurd (lt_of_lt_of_le h2 (le_trans (thr_mono (by omega)) h)) (lt_irrefl _), fun h => le_trans (thr_mono (by omega)) h1⟩
  simp only [this]
  rw [Finset.sum_boole]
  have : (Finset.univ.filter fun i : Fin 253 => i.val < f).card = f := by
    have := Fin.card_filter_val_lt (n := 253) (m := f)
    simpa [Nat.min_eq_right hf] using this
  simpa using this

end Cert.Kernel.Hand

end
-- ==== Proof.Quant.lean ====
/- The quantiser at one token, over the extended reals: from the token's largest magnitude, the exponent that the kernel's
   search finds, and the scale and its reciprocal that the kernel writes down bit by bit. -/
module

public import proofs.«01_k».proof.Proof.Field
public import Idealize.ShloMosaic.Lib.ValueIdx
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe Idealize.ShloMosaic.ValueIdx

/-- The word nearest 1 / 448. -/
abbrev recip448 : EReal := Ideal.ofBits .f32 0x3B124925#32

/-- The exponent of the scale from the largest magnitude and the field of its quotient by 448. -/
def expFrom (a : EReal) (e : BitVec 32) : BitVec 32 :=
  Scalar.select (IntOp.ori (Ideal.cmp .oeq a (Ideal.ofBits .f32 0x00000000#32)) (IntOp.cmpi .eq e 0#32)) 0#32 (IntOp.subi e 126#32)

theorem recip448_eq : recip448 = (((9586981 : ℝ) * 2 ^ (-32 : ℤ) : ℝ) : EReal) := by
  simp [recip448, Ideal.ofBits, Ideal.ieee]

theorem largest_eq : Ideal.ofBits .bf16 0x7F7F#16 = (((255 : ℝ) * 2 ^ (120 : ℤ) : ℝ) : EReal) := by
  simp [Ideal.ofBits, Ideal.ieee]

/-- A magnitude that a finite bfloat16 can have, over 448: nonnegative and below `2^120`, the threshold of field 247. -/
theorem quotient_bounds {a : EReal} (h0 : 0 ≤ a) (h1 : a ≤ Ideal.ofBits .bf16 0x7F7F#16) : 0 ≤ a * recip448 ∧ a * recip448 < thr 247 := by
  rw [largest_eq] at h1
  rw [recip448_eq, thr_mid (by norm_num) (by norm_num)]
  lift a to ℝ using ⟨ne_of_lt (lt_of_le_of_lt h1 (EReal.coe_lt_top _)), ne_of_gt (lt_of_lt_of_le (EReal.bot_lt_coe 0) h0)⟩
  have h0' : 0 ≤ a := EReal.coe_nonneg.mp h0
  have h1' : a ≤ 255 * 2 ^ (120 : ℤ) := EReal.coe_le_coe_iff.mp h1
  rw [← EReal.coe_mul]
  refine ⟨EReal.coe_nonneg.mpr (by positivity), EReal.coe_lt_coe_iff.mpr ?_⟩
  calc a * (9586981 * 2 ^ (-32 : ℤ)) ≤ (255 * 2 ^ (120 : ℤ)) * (9586981 * 2 ^ (-32 : ℤ)) := by gcongr
    _ < 2 ^ (((247 : ℕ) : ℤ) - 127) := by norm_num

/-- The field found for a finite token: below 247, between its threshold and the next. -/
theorem field_of {a : EReal} (h0 : 0 ≤ a) (h1 : a ≤ Ideal.ofBits .bf16 0x7F7F#16) :
    ∃ f : ℕ, f < 247 ∧ search (a * recip448) = BitVec.ofNat 32 f ∧ thr f ≤ a * recip448 ∧ a * recip448 < thr (f + 1) := by
  obtain ⟨hv, hv'⟩ := quotient_bounds h0 h1
  obtain ⟨f, hf, -, -, h2, h3⟩ := search_found hv (lt_of_lt_of_le hv' le_top)
  refine ⟨f, ?_, hf, h2, h3⟩
  by_contra hge
  exact absurd (lt_of_lt_of_le (lt_of_le_of_lt h2 hv') (thr_mono (by omega))) (lt_irrefl _)

theorem exp_cases {a : EReal} {f : ℕ} (hf : f < 247) :
    expFrom a (BitVec.ofNat 32 f) = 0#32 ∨ (1 ≤ f ∧ expFrom a (BitVec.ofNat 32 f) = BitVec.ofNat 32 f - 126#32) := by
  unfold expFrom
  rcases Nat.eq_zero_or_pos f with rfl | hp
  · left
    have : IntOp.cmpi .eq (BitVec.ofNat 32 0) 0#32 = 1#1 := rfl
    rw [this]
    have h : ∀ b : BitVec 1, IntOp.ori b 1#1 = 1#1 := by decide
    rw [h]; rfl
  · generalize IntOp.ori _ _ = b
    rcases (by decide : ∀ b : BitVec 1, b = 0#1 ∨ b = 1#1) b with rfl | rfl
    · right; exact ⟨hp, rfl⟩
    · left; rfl

theorem words (f : Fin 247) (h : 1 ≤ f.val) : 127#32 + (BitVec.ofNat 32 f.val - 126#32) = BitVec.ofNat 32 (f.val + 1)
    ∧ 127#32 - (BitVec.ofNat 32 f.val - 126#32) = BitVec.ofNat 32 (253 - f.val) ∧ (BitVec.ofNat 32 f.val - 126#32).toInt = (f.val : ℤ) - 126 := by
  revert f; decide +kernel

theorem rpow_int (n : ℤ) : Real.rpow 2 ((n : ℤ) : ℝ) = (2 : ℝ) ^ n := Real.rpow_intCast 2 n

/-- The scale written down bit by bit is two to the exponent. -/
theorem scale_word {a : EReal} {f : ℕ} (hf : f < 247) :
    Ideal.ofBits .f32 (IntOp.shli .vector (IntOp.addi 127#32 (expFrom a (BitVec.ofNat 32 f))) 23#32)
      = Ideal.exp2 (((expFrom a (BitVec.ofNat 32 f)).toInt : ℝ) : EReal) := by
  rw [Ideal.exp2_coe, rpow_int]
  rcases exp_cases (a := a) hf with h | ⟨hp, h⟩
  · rw [h]
    refine (ofBits_field (f := 127) (by norm_num) (by norm_num)).trans ?_
    rw [thr_mid (by norm_num) (by norm_num)]; norm_num
  · obtain ⟨h1, -, h3⟩ := words ⟨f, hf⟩ hp
    rw [h, h3]
    have : IntOp.shli .vector (IntOp.addi 127#32 (BitVec.ofNat 32 f - 126#32)) 23#32 = BitVec.ofNat 32 (f + 1) <<< (23 : ℕ) := by
      rw [← h1]; rfl
    rw [this, ofBits_field (by omega) (by omega), thr_mid (by omega) (by omega)]
    congr 2; push_cast; ring

/-- The reciprocal written down bit by bit is two to minus the exponent. -/
theorem inv_word {a : EReal} {f : ℕ} (hf : f < 247) :
    Ideal.ofBits .f32 (IntOp.shli .vector (IntOp.subi 127#32 (expFrom a (BitVec.ofNat 32 f))) 23#32)
      = Ideal.exp2 (Ideal.ofBits .f32 0x00000000#32 - (((expFrom a (BitVec.ofNat 32 f)).toInt : ℝ) : EReal)) := by
  have hz : Ideal.ofBits .f32 0x00000000#32 = ((0 : ℝ) : EReal) := Ideal.ofBits_zero_f32
  rw [hz, ← EReal.coe_sub, Ideal.exp2_coe, zero_sub, ← Int.cast_neg, rpow_int]
  rcases exp_cases (a := a) hf with h | ⟨hp, h⟩
  · rw [h]
    refine (ofBits_field (f := 127) (by norm_num) (by norm_num)).trans ?_
    rw [thr_mid (by norm_num) (by norm_num)]; norm_num
  · obtain ⟨-, h1, h3⟩ := words ⟨f, hf⟩ hp
    rw [h, h3]
    have : IntOp.shli .vector (IntOp.subi 127#32 (BitVec.ofNat 32 f - 126#32)) 23#32 = BitVec.ofNat 32 (253 - f) <<< (23 : ℕ) := by
      rw [← h1]; rfl
    rw [this, ofBits_field (by omega) (by omega), thr_mid (by omega) (by omega)]
    congr 2; rw [Nat.cast_sub (by omega)]; push_cast; ring

/-! ## The kernel's blocks read at an index -/

/-- The largest magnitude of a token. -/
def topOf (x : FVec Ideal S48x1024 .f32) (t : Fin 48) : EReal :=
  multiReduction .maximumf [1] S48 (absf x) 0xFF800000#32 reduces_S48x1024_S48 (.inl rfl) rfl (ix1 t)

theorem amaxOf_apply (x : FVec Ideal S48x1024 .f32) (i : S48x128.Idx) : amaxOf x i = topOf x ⟨(i 0).val, (i 0).isLt⟩ := by
  have h0 : (i 0).val < 48 := (i 0).isLt
  unfold amaxOf
  refine (broadcastTo_apply _ _ i (ix2 (⟨(i 0).val, h0⟩ : Fin 48) (0 : Fin 1)) (fun a => match a with | ⟨0, _⟩ => rfl | ⟨1, _⟩ => rfl)).trans ?_
  rw [shapeCast_self]
  exact shapeCast_apply _ _ _ (ix1 (⟨(i 0).val, h0⟩ : Fin 48)) (by
    rw [Shape.rowMajor_val_one, Shape.rowMajor_val_two]
    show (i 0).val = (i 0).val * 1 + 0; omega)

/-- The exponent the kernel finds for a token. -/
def tokenExp (x : FVec Ideal S48x1024 .f32) (t : Fin 48) : BitVec 32 := expFrom (topOf x t) (search (topOf x t * recip448))

theorem fieldStep_apply (v : V48 Ideal) (d : BitVec 32) (e : I48) (i : S48x128.Idx) : fieldStep v d e i = trial (v i) d (e i) := rfl

theorem fieldOf_apply (v : V48 Ideal) (i : S48x128.Idx) : fieldOf v i = search (v i) := by
  unfold fieldOf search
  simp only [fieldStep_apply]
  rfl

theorem expOf_eq (a : V48 Ideal) (i : S48x128.Idx) : expOf a i = expFrom (a i) (search (a i * recip448)) := by
  have h := fieldOf_apply (mulf a (broadcast S48x128 (Scalar.ofBits .f32 0x3B124925#32))) i
  have h' : (mulf a (broadcast S48x128 (Scalar.ofBits .f32 0x3B124925#32)) : V48 Ideal) i = a i * recip448 := rfl
  rw [h'] at h
  rw [← h]
  rfl

theorem expOf_apply (x : FVec Ideal S48x1024 .f32) (i : S48x128.Idx) : expOf (amaxOf x) i = tokenExp x ⟨(i 0).val, (i 0).isLt⟩ := by
  rw [expOf_eq, amaxOf_apply, tokenExp]

/-- Every element of the tokens is finite. -/
def Finite (x : FVec Ideal S48x1024 .f32) : Prop := ∀ i, max (x i) (-(x i)) ≤ Ideal.ofBits .bf16 0x7F7F#16

theorem topOf_bounds {x : FVec Ideal S48x1024 .f32} (hx : Finite x) (t : Fin 48) :
    0 ≤ topOf x t ∧ topOf x t ≤ Ideal.ofBits .bf16 0x7F7F#16 := by
  let g : Fin 1024 → EReal := fun k => max (x ((reduces_S48x1024_S48).lift (ix1 t) k)) (-(x ((reduces_S48x1024_S48).lift (ix1 t) k)))
  have e : topOf x t = (Finset.univ : Finset (Fin 1024)).fold max (Ideal.ofBits .f32 0xFF800000#32) g :=
    Ideal.multiReduction_maximumf_single _ _ _ _ _ _
  rw [e]
  constructor
  · refine (Finset.le_fold_max _).mpr (Or.inr ⟨0, Finset.mem_univ _, ?_⟩)
    rcases le_total 0 (x ((reduces_S48x1024_S48).lift (ix1 t) (0 : Fin 1024))) with h | h
    · exact le_max_of_le_left h
    · exact le_max_of_le_right (EReal.neg_nonneg.mpr h)
  · refine (Finset.fold_max_le _).mpr ⟨?_, fun k _ => hx _⟩
    have : Ideal.ofBits .f32 0xFF800000#32 = ⊥ := by
      simp [Ideal.ofBits, Ideal.ieee]
    rw [this]; exact bot_le

/-- The scale of a finite token, on every lane: two to its exponent. -/
theorem scaleOf_apply {x : FVec Ideal S48x1024 .f32} (hx : Finite x) (i : S48x128.Idx) :
    scaleOf x i = Ideal.exp2 (((tokenExp x ⟨(i 0).val, (i 0).isLt⟩).toInt : ℝ) : EReal) := by
  obtain ⟨h0, h1⟩ := topOf_bounds hx ⟨(i 0).val, (i 0).isLt⟩
  obtain ⟨f, hf, hs, -, -⟩ := field_of h0 h1
  show Ideal.ofBits .f32 (IntOp.shli .vector (IntOp.addi 127#32 (expOf (amaxOf x) i)) 23#32) = _
  rw [expOf_apply]
  unfold tokenExp
  rw [hs]
  exact scale_word hf

/-- The reciprocal of a finite token's scale, on every lane: two to minus its exponent. -/
theorem invOf_apply {x : FVec Ideal S48x1024 .f32} (hx : Finite x) (i : S48x128.Idx) :
    invOf x i = Ideal.exp2 (Ideal.ofBits .f32 0x00000000#32 - (((tokenExp x ⟨(i 0).val, (i 0).isLt⟩).toInt : ℝ) : EReal)) := by
  obtain ⟨h0, h1⟩ := topOf_bounds hx ⟨(i 0).val, (i 0).isLt⟩
  obtain ⟨f, hf, hs, -, -⟩ := field_of h0 h1
  show Ideal.ofBits .f32 (IntOp.shli .vector (IntOp.subi 127#32 (expOf (amaxOf x) i)) 23#32) = _
  rw [expOf_apply]
  unfold tokenExp
  rw [hs]
  exact inv_word hf

/-- One element's code: divided by the scale and clipped. -/
def codeOf (x : FVec Ideal S48x1024 .f32) (t : Fin 48) (k : Fin 1024) : EReal :=
  min (Ideal.ofBits .f32 0x43E00000#32) (max (Ideal.ofBits .f32 0xC3E00000#32)
    (x (ix2 t k) * Ideal.exp2 (Ideal.ofBits .f32 0x00000000#32 - (((tokenExp x t).toInt : ℝ) : EReal))))

theorem codesOf_apply {x : FVec Ideal S48x1024 .f32} (hx : Finite x) (t : Fin 48) (k : Fin 1024) : codesOf x (ix2 t k) = codeOf x t k := by
  have hk := k.isLt
  let f : Fin 8 → S48x128.Idx → EReal := fun n i => min (Ideal.ofBits .f32 0x43E00000#32) (max (Ideal.ofBits .f32 0xC3E00000#32)
    (x (ix2 (⟨(i 0).val, (i 0).isLt⟩ : Fin 48) (⟨128 * n.val + (i 1).val, by have h1 : (i 1).val < 128 := (i 1).isLt; have := n.isLt; omega⟩ : Fin 1024)) * invOf x i))
  have piece : ∀ (n : Fin 8) (hs : S48x1024.Slices ![0, 128 * n.val] S48x128),
      clipOf (extractStridedSlice S48x128 ![0, 128 * n.val] x hs) (invOf x) = f n := by
    intro n hs
    funext i
    show min _ (max _ (extractStridedSlice S48x128 ![0, 128 * n.val] x hs i * invOf x i)) = _
    rw [extractStridedSlice_apply _ x hs i (ix2 (⟨(i 0).val, (i 0).isLt⟩ : Fin 48) (⟨128 * n.val + (i 1).val, by have h1 : (i 1).val < 128 := (i 1).isLt; have := n.isLt; omega⟩ : Fin 1024))
      (fun a => match a with | ⟨0, _⟩ => (Nat.zero_add _).symm | ⟨1, _⟩ => rfl)]
    rfl
  have p0 : clipOf (extractStridedSlice S48x128 ![0, 0] x slices_S48x1024_o0_0_S48x128) (invOf x) = f 0 := piece 0 slices_S48x1024_o0_0_S48x128
  have p1 : clipOf (extractStridedSlice S48x128 ![0, 128] x slices_S48x1024_o0_128_S48x128) (invOf x) = f 1 := piece 1 slices_S48x1024_o0_128_S48x128
  have p2 : clipOf (extractStridedSlice S48x128 ![0, 256] x slices_S48x1024_o0_256_S48x128) (invOf x) = f 2 := piece 2 slices_S48x1024_o0_256_S48x128
  have p3 : clipOf (extractStridedSlice S48x128 ![0, 384] x slices_S48x1024_o0_384_S48x128) (invOf x) = f 3 := piece 3 slices_S48x1024_o0_384_S48x128
  have p4 : clipOf (extractStridedSlice S48x128 ![0, 512] x slices_S48x1024_o0_512_S48x128) (invOf x) = f 4 := piece 4 slices_S48x1024_o0_512_S48x128
  have p5 : clipOf (extractStridedSlice S48x128 ![0, 640] x slices_S48x1024_o0_640_S48x128) (invOf x) = f 5 := piece 5 slices_S48x1024_o0_640_S48x128
  have p6 : clipOf (extractStridedSlice S48x128 ![0, 768] x slices_S48x1024_o0_768_S48x128) (invOf x) = f 6 := piece 6 slices_S48x1024_o0_768_S48x128
  have p7 : clipOf (extractStridedSlice S48x128 ![0, 896] x slices_S48x1024_o0_896_S48x128) (invOf x) = f 7 := piece 7 slices_S48x1024_o0_896_S48x128
  have hc : Shape.Concatenates ((List.ofFn fun n : Fin 8 => (⟨S48x128, f n⟩ : (s : Shape) × (s.Idx → EReal))).map (·.1)) S48x1024 1 :=
    concatenates_S48x128_S48x128_S48x128_S48x128_S48x128_S48x128_S48x128_S48x128_S48x1024_d1
  have hl : codesOf x = concatenate S48x1024 1 (List.ofFn fun n : Fin 8 => (⟨S48x128, f n⟩ : (s : Shape) × (s.Idx → EReal))) hc := by
    unfold codesOf
    rw [p0, p1, p2, p3, p4, p5, p6, p7]
    rfl
  rw [hl]
  refine (concatenate_ofFn_apply (t := S48x1024) (s₁ := S48x128) 1 f hc rfl 128 rfl (ix2 t k) ⟨k.val / 128, by omega⟩ rfl
    (ix2 t (⟨k.val % 128, Nat.mod_lt _ (by norm_num)⟩ : Fin 128)) rfl (fun b hb => by
      match b, hb with
      | ⟨0, _⟩, _ => rfl
      | ⟨1, _⟩, hb => exact absurd rfl hb)).trans ?_
  show min _ (max _ (x _ * invOf x _)) = _
  rw [invOf_apply hx]
  unfold codeOf
  congr 4
  refine congrArg (ix2 t) (Fin.ext ?_)
  show 128 * (k.val / 128) + k.val % 128 = k.val
  omega

end Cert.Kernel.Hand

end
-- ==== Proof.Mask.lean ====
/- The kernel's mask bits: a chunk's 128 words, every 32 × 32 block of bits transposed, so that bit `j` of lane `l` is the
   mask's bit for column `l` of the chunk's tile `j`. -/
module

public import proofs.«01_k».proof.Proof.Head
public import Idealize.ShloMosaic.Lib.ValueIdx
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe Idealize.ShloMosaic.ValueIdx

/-! ## One exchange of bits -/

/-- The bits a lane keeps in the exchange at distance `2 ^ k`, for a lane whose own bit `k` is clear, and set. -/
def loW : Fin 5 → BitVec 32 := ![1431655765#32, 858993459#32, 252645135#32, 16711935#32, 65535#32]
def hiW : Fin 5 → BitVec 32 := ![2863311530#32, 3435973836#32, 4042322160#32, 4278255360#32, 4294901760#32]
/-- The distance. -/
def dW (k : Fin 5) : BitVec 32 := BitVec.ofNat 32 (2 ^ k.val)

/-- Whether a lane's own bit `k` is clear. -/
def clear (L : BitVec 32) (k : Fin 5) : BitVec 1 := IntOp.cmpi .eq (IntOp.andi (IntOp.andi L 31#32) (dW k)) 0#32
/-- What a lane holds after the exchange, from its word and the other lane's. -/
def mix (L : BitVec 32) (k : Fin 5) (v o : BitVec 32) : BitVec 32 :=
  IntOp.ori (IntOp.andi v (Scalar.select (clear L k) (loW k) (hiW k)))
    (IntOp.andi (Scalar.select (clear L k) (IntOp.shli .vector o (dW k)) (IntOp.shrui .vector o (dW k)))
      (IntOp.xori (Scalar.select (clear L k) (loW k) (hiW k)) 4294967295#32))

theorem clear_eq (l : Fin 128) (k : Fin 5) : clear (BitVec.ofNat 32 l.val) k = BitVec.ofBool (!l.val.testBit k.val) := by
  revert l k; decide +kernel
theorem loW_bit (k : Fin 5) (b : Fin 32) : (loW k).getLsbD b.val = !b.val.testBit k.val := by revert k b; decide +kernel
theorem hiW_bit (k : Fin 5) (b : Fin 32) : (hiW k).getLsbD b.val = b.val.testBit k.val := by revert k b; decide +kernel
theorem down (k : Fin 5) (b : Fin 32) (h : b.val.testBit k.val = true) : 2 ^ k.val ≤ b.val ∧ b.val - 2 ^ k.val = b.val ^^^ 2 ^ k.val := by
  revert k b; decide +kernel
theorem up (k : Fin 5) (b : Fin 32) (h : b.val.testBit k.val = false) : 2 ^ k.val + b.val = b.val ^^^ 2 ^ k.val := by
  revert k b; decide +kernel
theorem shl_eq (o : BitVec 32) (k : Fin 5) : IntOp.shli .vector o (dW k) = o <<< 2 ^ k.val := by fin_cases k <;> rfl
theorem shr_eq (o : BitVec 32) (k : Fin 5) : IntOp.shrui .vector o (dW k) = o >>> 2 ^ k.val := by fin_cases k <;> rfl
theorem ones_bit (b : Fin 32) : (4294967295#32).getLsbD b.val = true := by revert b; decide +kernel

/-- One bit after the exchange: the lane's own where the lane's and the bit's numbers agree in bit `k`, else the other
    lane's, at the bit whose number differs in bit `k`. -/
theorem mix_bit (l : Fin 128) (k : Fin 5) (b : Fin 32) (v o : BitVec 32) :
    (mix (BitVec.ofNat 32 l.val) k v o).getLsbD b.val
      = if l.val.testBit k.val = b.val.testBit k.val then v.getLsbD b.val else o.getLsbD (b.val ^^^ 2 ^ k.val) := by
  have hb := b.isLt
  unfold mix
  rw [clear_eq, shl_eq, shr_eq]
  simp only [IntOp.ori, IntOp.andi, IntOp.xori]
  rw [BitVec.getLsbD_or, BitVec.getLsbD_and, BitVec.getLsbD_and, BitVec.getLsbD_xor, ones_bit]
  cases hl : l.val.testBit k.val <;> cases hbk : b.val.testBit k.val
  · have e : Scalar.select (BitVec.ofBool (!false)) (loW k) (hiW k) = loW k := rfl
    rw [e, loW_bit, hbk]; simp
  · have e : Scalar.select (BitVec.ofBool (!false)) (loW k) (hiW k) = loW k := rfl
    have e' : Scalar.select (BitVec.ofBool (!false)) (o <<< 2 ^ k.val) (o >>> 2 ^ k.val) = o <<< 2 ^ k.val := rfl
    obtain ⟨h1, h2⟩ := down k b hbk
    rw [e, e', loW_bit, hbk, BitVec.getLsbD_shiftLeft, h2]
    simp [hb, h1]
  · have e : Scalar.select (BitVec.ofBool (!true)) (loW k) (hiW k) = hiW k := rfl
    have e' : Scalar.select (BitVec.ofBool (!true)) (o <<< 2 ^ k.val) (o >>> 2 ^ k.val) = o >>> 2 ^ k.val := rfl
    have h2 := up k b hbk
    rw [e, e', hiW_bit, hbk, BitVec.getLsbD_ushiftRight, h2]
    simp
  · have e : Scalar.select (BitVec.ofBool (!true)) (loW k) (hiW k) = hiW k := rfl
    rw [e, hiW_bit, hbk]; simp

/-! ## The five exchanges -/

theorem lanes_apply (r : Fin 48) (l : Fin 128) : lanes (ix2 r l) = BitVec.ofNat 32 l.val := iota_single_apply .tc S48x128 32 1 iota_S48x128_d1_w32 _

/-- A pick along the lanes reads the lane named. -/
theorem pick_apply (v : I48) (idx : I48) (r : Fin 48) (l n : Fin 128) (h : idx (ix2 r l) = BitVec.ofNat 32 n.val) :
    pick (F := Ideal) (α := .i32) v idx (ix2 r l) = v (ix2 r n) := by
  have hi : (shapeCast S48x128 (shapeCast S48x128x1 (select (cmpi .slt idx (broadcast S48x128 0#32)) (addi idx (broadcast S48x128 128#32)) idx) shapeCasts_S48x128_S48x128x1)
      shapeCasts_S48x128x1_S48x128 : I48) (ix2 r l) = BitVec.ofNat 32 n.val := by
    refine (shapeCast_apply _ _ _ (ix3 r l (0 : Fin 1)) (by
      rw [Shape.rowMajor_val_two, Shape.rowMajor_val_three]; show (r.val * 128 + l.val) * 1 + 0 = r.val * 128 + l.val; omega)).trans ?_
    refine (shapeCast_apply _ _ _ (ix2 r l) (by
      rw [Shape.rowMajor_val_two, Shape.rowMajor_val_three]; show r.val * 128 + l.val = (r.val * 128 + l.val) * 1 + 0; omega)).trans ?_
    show Scalar.select (IntOp.cmpi .slt (idx (ix2 r l)) 0#32) (IntOp.addi (idx (ix2 r l)) 128#32) (idx (ix2 r l)) = _
    rw [h]
    have : ∀ n : Fin 128, Scalar.select (IntOp.cmpi .slt (BitVec.ofNat 32 n.val) 0#32) (IntOp.addi (BitVec.ofNat 32 n.val) 128#32) (BitVec.ofNat 32 n.val) = BitVec.ofNat 32 n.val := by
      decide +kernel
    exact this n
  unfold pick
  refine congrArg v (funext fun a => Fin.ext ?_)
  match a with
  | ⟨0, _⟩ => rfl
  | ⟨1, _⟩ =>
    refine (congrArg (fun w : BitVec 32 => w.toNat % 128) hi).trans ?_
    show (BitVec.ofNat 32 n.val).toNat % 128 = n.val
    have := n.isLt
    rw [BitVec.toNat_ofNat]; omega

/-- One exchange, on every lane. -/
def exchange (k : Fin 5) (v : I48) : I48 := fun i => mix (lanes i) k (v i) (pick (F := Ideal) (α := .i32) v (xori lanes (broadcast S48x128 (dW k))) i)

/-- The words brought to the lanes where the exchanges find them. -/
def spread (words : I48) : I48 :=
  pick (F := Ideal) (α := .i32) words (addi (muli (andi lanes (broadcast S48x128 31#32)) (broadcast S48x128 4#32)) (shrsi lanes (broadcast S48x128 5#32)))

theorem unpack_eq (words : I48) : unpack (F := Ideal) lanes words = exchange 0 (exchange 1 (exchange 2 (exchange 3 (exchange 4 (spread words))))) := rfl

/-- A bit and a lane, exchanged at bit `k` of their numbers. -/
def swap (k : Fin 5) (p : Fin 128 × Fin 32) : Fin 128 × Fin 32 :=
  if p.1.val.testBit k.val = p.2.val.testBit k.val then p
  else (⟨(p.1.val ^^^ 2 ^ k.val) % 128, Nat.mod_lt _ (by norm_num)⟩, ⟨(p.2.val ^^^ 2 ^ k.val) % 32, Nat.mod_lt _ (by norm_num)⟩)

theorem xor_lane (k : Fin 5) (l : Fin 128) : IntOp.xori (BitVec.ofNat 32 l.val) (dW k) = BitVec.ofNat 32 ((l.val ^^^ 2 ^ k.val) % 128) := by
  revert k l; decide +kernel
theorem xor_small (k : Fin 5) (b : Fin 32) : (b.val ^^^ 2 ^ k.val) % 32 = b.val ^^^ 2 ^ k.val := by revert k b; decide +kernel

theorem exchange_bit (k : Fin 5) (v : I48) (r : Fin 48) (p : Fin 128 × Fin 32) :
    (exchange k v (ix2 r p.1)).getLsbD p.2.val = (v (ix2 r (swap k p).1)).getLsbD (swap k p).2.val := by
  unfold exchange
  rw [lanes_apply, mix_bit, pick_apply v _ r p.1 ⟨(p.1.val ^^^ 2 ^ k.val) % 128, Nat.mod_lt _ (by norm_num)⟩
    ((congrArg (fun w => IntOp.xori w (dW k)) (lanes_apply r p.1)).trans (xor_lane k p.1))]
  unfold swap
  split
  · rfl
  · exact congrArg (BitVec.getLsbD _) (xor_small k p.2).symm

theorem swaps (p : Fin 128 × Fin 32) :
    (swap 4 (swap 3 (swap 2 (swap 1 (swap 0 p))))) = (⟨p.1.val / 32 * 32 + p.2.val, by omega⟩, ⟨p.1.val % 32, Nat.mod_lt _ (by norm_num)⟩) := by
  obtain ⟨l, b⟩ := p
  revert l b; decide +kernel

theorem spread_lane (l : Fin 128) :
    IntOp.addi (IntOp.muli (IntOp.andi (BitVec.ofNat 32 l.val) 31#32) 4#32) (IntOp.shrsi .vector (BitVec.ofNat 32 l.val) 5#32)
      = BitVec.ofNat 32 (l.val % 32 * 4 + l.val / 32) := by
  revert l; decide +kernel

theorem spread_apply (words : I48) (r : Fin 48) (l : Fin 128) : spread words (ix2 r l) = words (ix2 r ⟨l.val % 32 * 4 + l.val / 32, by omega⟩) := by
  refine pick_apply words _ r l ⟨l.val % 32 * 4 + l.val / 32, by omega⟩ ?_
  refine Eq.trans ?_ (spread_lane l)
  rw [← lanes_apply r l]
  rfl

/-- Bit `j` of lane `l` is bit `l % 32` of word `4 j + l / 32`. -/
theorem unpack_bit (words : I48) (r : Fin 48) (l : Fin 128) (j : Fin 32) (g : Fin 128) (hg : g.val = 4 * j.val + l.val / 32) :
    (unpack (F := Ideal) lanes words (ix2 r l)).getLsbD j.val = (words (ix2 r g)).getLsbD (l.val % 32) := by
  have hl := l.isLt
  have hj := j.isLt
  rw [unpack_eq, exchange_bit 0 _ r (l, j), exchange_bit, exchange_bit, exchange_bit, exchange_bit, swaps]
  show (spread words (ix2 r ⟨l.val / 32 * 32 + j.val, _⟩)).getLsbD (l.val % 32) = _
  rw [spread_apply]
  congr 3
  apply Fin.ext
  show (l.val / 32 * 32 + j.val) % 32 * 4 + (l.val / 32 * 32 + j.val) / 32 = g.val
  omega

theorem ok_bit (w : BitVec 32) (j : Fin 32) : IntOp.cmpi .ne (IntOp.andi w (BitVec.ofNat 32 (2 ^ j.val))) 0#32 = BitVec.ofBool (w.getLsbD j.val) := by
  have e : BitVec.ofNat 32 (2 ^ j.val) = BitVec.twoPow 32 j.val := by
    apply BitVec.eq_of_toNat_eq; simp [BitVec.toNat_twoPow]
  show IntOp.cmpi .ne (w &&& BitVec.ofNat 32 (2 ^ j.val)) 0#32 = _
  rw [e, BitVec.and_twoPow]
  cases w.getLsbD j.val
  · rfl
  · have : ∀ j : Fin 32, IntOp.cmpi .ne (BitVec.twoPow 32 j.val) 0#32 = 1#1 := by decide +kernel
    exact this j

/-- Whether a tile's column is allowed, from its chunk's words. -/
theorem okOf_apply (words : I48) (r : Fin 48) (l : Fin 128) (j : Fin 32) (g : Fin 128) (hg : g.val = 4 * j.val + l.val / 32) :
    okOf (unpack (F := Ideal) lanes words) (BitVec.ofNat 32 (2 ^ j.val)) (ix2 r l) = BitVec.ofBool ((words (ix2 r g)).getLsbD (l.val % 32)) := by
  rw [← unpack_bit words r l j g hg]
  exact ok_bit _ j

end Cert.Kernel.Hand

end
-- ==== Proof.Logits.lean ====
/- The kernel's output block read at an index, over the extended reals: the contraction of a token's codes with a column
   of the weights, times the token's scale and the column's, where the mask's bit is set, else zero. -/
module

public import proofs.«01_k».proof.Proof.Quant
public import proofs.«01_k».proof.Proof.Mask
public import proofs.«01_k».proof.Proof.After
public import proofs.«01_k».proof.Proof.Parts
public import Idealize.ShloMosaic.Lib.MatmulPlain

@[expose] public section

set_option maxRecDepth 16384

noncomputable section

namespace Cert.Kernel.Hand

open Cert.Kernel Cert.Kernel.Gen
open Idealize.ShloMosaic Idealize.ShloMosaic.TcCoe Idealize.ShloMosaic.ValueIdx

/-! ## The contractions -/

section
variable (D : Data Ideal)

/-- A contraction of the codes' block with a stretch of columns, at an index. -/
theorem cols_apply (a w : ℕ) (k : Fin 1024) (c : Fin w) (d : Fin 151936) (hd : d.val = a + c.val) : D.cols a w (ix2 k c) = D.wc (ix2 k d) := by
  refine congrArg D.wc (congrArg (ix2 k) (Fin.ext ?_))
  have := d.isLt
  show (a + c.val) % 151936 = d.val
  rw [hd]; exact Nat.mod_eq_of_lt (by omega)

theorem pair_apply (P : ℕ) (r : Fin 64) (c : Fin 256) (d : Fin 151936) (hd : d.val = 256 * P + c.val) :
    D.pair P (ix2 r c) = (∑ k : Fin 1024, D.L (ix2 r k) * D.wc (ix2 k d) : EReal) := by
  refine (Ideal.matmul_plain_apply (M := 64) (K := 1024) (N := 256) (φ₁ := .fp8e4m3) (φ₂ := .fp8e4m3) none D.L (D.cols (256 * P) 256) (constant S64x256 .f32 0x00000000#32) r c).trans ?_
  have hz : (constant (F := Ideal) S64x256 .f32 0x00000000#32 (ix2 r c) : EReal) = 0 := Ideal.ofBits_zero_f32
  rw [hz, zero_add]
  exact Finset.sum_congr rfl fun k _ => congrArg ((D.L (ix2 r k) : EReal) * ·) (cols_apply D _ _ k c d hd)

theorem single_apply (r : Fin 64) (c : Fin 128) (d : Fin 151936) (hd : d.val = 151808 + c.val) :
    D.single (ix2 r c) = (∑ k : Fin 1024, D.L (ix2 r k) * D.wc (ix2 k d) : EReal) := by
  refine (Ideal.matmul_plain_apply (M := 64) (K := 1024) (N := 128) (φ₁ := .fp8e4m3) (φ₂ := .fp8e4m3) none D.L (D.cols 151808 128) (constant S64x128 .f32 0x00000000#32) r c).trans ?_
  have hz : (constant (F := Ideal) S64x128 .f32 0x00000000#32 (ix2 r c) : EReal) = 0 := Ideal.ofBits_zero_f32
  rw [hz, zero_add]
  exact Finset.sum_congr rfl fun k _ => congrArg ((D.L (ix2 r k) : EReal) * ·) (cols_apply D _ _ k c d hd)

theorem raw_apply (T : Fin 1187) (r : Fin 48) (l : Fin 128) (d : Fin 151936) (hd : d.val = 128 * T.val + l.val) :
    D.raw T.val (ix2 r l) = (∑ k : Fin 1024, D.L (ix2 (⟨r.val, by omega⟩ : Fin 64) k) * D.wc (ix2 k d) : EReal) := by
  have hl := l.isLt
  unfold Data.raw
  split
  · rename_i h
    rw [← single_apply D ⟨r.val, by omega⟩ l d (by omega)]
    exact extractStridedSlice_apply _ _ _ (ix2 r l) (ix2 (⟨r.val, by omega⟩ : Fin 64) l) (fun a => match a with | ⟨0, _⟩ => (Nat.zero_add _).symm | ⟨1, _⟩ => (Nat.zero_add _).symm)
  · split
    · rename_i h h2
      rw [← pair_apply D (T.val / 2) ⟨r.val, by omega⟩ ⟨l.val, by omega⟩ d (by show d.val = 256 * (T.val / 2) + l.val; omega)]
      exact extractStridedSlice_apply _ _ _ (ix2 r l) (ix2 (⟨r.val, by omega⟩ : Fin 64) (⟨l.val, by omega⟩ : Fin 256)) (fun a => match a with | ⟨0, _⟩ => (Nat.zero_add _).symm | ⟨1, _⟩ => (Nat.zero_add _).symm)
    · rename_i h h2
      rw [← pair_apply D (T.val / 2) ⟨r.val, by omega⟩ ⟨128 + l.val, by omega⟩ d (by show d.val = 256 * (T.val / 2) + (128 + l.val); omega)]
      exact extractStridedSlice_apply _ _ _ (ix2 r l) (ix2 (⟨r.val, by omega⟩ : Fin 64) (⟨128 + l.val, by omega⟩ : Fin 256)) (fun a => match a with | ⟨0, _⟩ => (Nat.zero_add _).symm | ⟨1, _⟩ => rfl)

end

/-! ## The operands -/

section
variable (I : Ins Ideal)

theorem L_apply (r : Fin 48) (k : Fin 1024) : I.data.L (ix2 (⟨r.val, by omega⟩ : Fin 64) k) = I.codes (ix2 r k) := by
  have e : (Rect.unit (s := S64x1024) ![0, 0] S48x1024.size inb_S64x1024_S48x1024_0_0).emb (ix2 r k : S48x1024.Idx) = (ix2 (⟨r.val, by omega⟩ : Fin 64) k : S64x1024.Idx) := by
    funext a; apply Fin.ext
    match a with
    | ⟨0, _⟩ => show 0 + 1 * r.val = r.val; omega
    | ⟨1, _⟩ => show 0 + 1 * k.val = k.val; omega
  show upd _ _ _ _ = _
  rw [← e]
  exact upd_emb _ _ _ _

/-- The mask's words, as the kernel lays them out, are the mask's. -/
theorem mw_apply (r : Fin 48) (g : Fin 4748) (g' : Fin 4864) (hg : g'.val = g.val) : I.data.mw (ix2 r g') = I.mask (ix2 r g) := by
  have hlt := g.isLt
  unfold Ins.data
  dsimp only
  by_cases h : g.val < 4736
  · rw [upd_off _ _ _ _ (fun x hx => by
      have h1 : (4736 + 1 * (x 1).val) = g'.val := congrArg (fun y : S48x4864.Idx => (y 1).val) hx
      omega)]
    refine congrArg I.mask (congrArg (ix2 r) (Fin.ext ?_))
    show g'.val % 4748 = g.val
    rw [hg]; exact Nat.mod_eq_of_lt hlt
  · have e : (Rect.unit (s := S48x4864) ![0, 4736] S48x128.size inb_S48x4864_S48x128_0_4736).emb (ix2 r (⟨g.val - 4736, by omega⟩ : Fin 128) : S48x128.Idx) = (ix2 r g' : S48x4864.Idx) := by
      funext a; apply Fin.ext
      match a with
      | ⟨0, _⟩ => show 0 + 1 * r.val = r.val; omega
      | ⟨1, _⟩ => show 4736 + 1 * (g.val - 4736) = g'.val; omega
    rw [← e, upd_emb]
    unfold Ins.lastWords
    refine (concatenate_pair_apply_left (t := S48x128) (s₁ := S48x12) (s₂ := S48x116) 1 I.maskTail (broadcast S48x116 0#32 : IVec S48x116 32)
      concatenates_S48x12_S48x116_S48x128_d1 (ix2 r (⟨g.val - 4736, by omega⟩ : Fin 128)) rfl (ix2 r (⟨g.val - 4736, by omega⟩ : Fin 12)) (fun b => match b with | ⟨0, _⟩ => rfl | ⟨1, _⟩ => rfl)).trans ?_
    refine congrArg I.mask (funext fun a => Fin.ext ?_)
    match a with
    | ⟨0, _⟩ => show 0 + 1 * r.val = r.val; omega
    | ⟨1, _⟩ => show 4736 + 1 * (g.val - 4736) = g.val; omega

/-- The kernel's tokens in the wider format. -/
abbrev Ins.wide : FVec Ideal S48x1024 .f32 := extf .f32 (I.x : FVec Ideal S48x1024 .bf16) bitsLt_bf16_f32

/-- The test of a column's mask bit, and a logit before the mask. -/
theorem parts_apply (hx : Finite I.wide) (t : Fin 48) (T : Fin 1187) (l : Fin 128) (c : Fin 151936) (hc : c.val = 128 * T.val + l.val) (g : Fin 4748) (hg : g.val = c.val / 32) :
    okOf (I.data.bits lanes (T.val / 32)) (BitVec.ofNat 32 (2 ^ (T.val % 32))) (ix2 t l)
        = BitVec.ofBool ((I.mask (ix2 t g) : BitVec 32).getLsbD (c.val % 32))
      ∧ lgOf (I.data.raw T.val) I.data.xs (scalesRow I.data.ws T) (ix2 t l)
        = (((∑ k : Fin 1024, codeOf I.wide t k * I.wc (ix2 k c)) * Ideal.exp2 (((tokenExp I.wide t).toInt : ℝ) : EReal)) * I.ws (ix2 T l) : EReal) := by
  have hl := l.isLt
  have hT := T.isLt
  have hraw := raw_apply I.data T t l c hc
  have hL : (∑ k : Fin 1024, I.data.L (ix2 (⟨t.val, by omega⟩ : Fin 64) k) * I.data.wc (ix2 k c) : EReal) = ∑ k : Fin 1024, codeOf I.wide t k * I.wc (ix2 k c) :=
    Finset.sum_congr rfl fun k _ => congrArg (· * (I.wc (ix2 k c) : EReal)) ((L_apply I t k).trans (codesOf_apply hx t k))
  have hs : I.data.xs (ix2 t l) = Ideal.exp2 (((tokenExp I.wide t).toInt : ℝ) : EReal) := scaleOf_apply hx (ix2 t l)
  have hws : broadcastTo S48x128 (scalesRow I.data.ws T) broadcasts_S1x128_S48x128 (ix2 t l) = I.ws (ix2 T l) :=
    broadcastTo_apply _ _ (ix2 t l) (ix2 (0 : Fin 1) l) (fun a => match a with | ⟨0, _⟩ => rfl | ⟨1, _⟩ => rfl)
  refine ⟨?_, ?_⟩
  · have e := okOf_apply (I.data.words (T.val / 32)) t l ⟨T.val % 32, Nat.mod_lt _ (by norm_num)⟩ ⟨4 * (T.val % 32) + l.val / 32, by omega⟩ rfl
    refine e.trans ?_
    have ew : I.data.words (T.val / 32) (ix2 t (⟨4 * (T.val % 32) + l.val / 32, by omega⟩ : Fin 128)) = I.mask (ix2 t g) :=
      mw_apply I t g (wordN (128 * (T.val / 32) + (4 * (T.val % 32) + l.val / 32))) (by
        show (128 * (T.val / 32) + (4 * (T.val % 32) + l.val / 32)) % 4864 = g.val
        omega)
    have em : l.val % 32 = c.val % 32 := by omega
    rw [ew, em]
  · rw [← hL, ← hraw, ← hs, ← hws]
    rfl

/-- A masked logit of the kernel. -/
theorem out_apply (hx : Finite I.wide) (t : Fin 48) (T : Fin 1187) (l : Fin 128) (c : Fin 151936) (hc : c.val = 128 * T.val + l.val) (g : Fin 4748) (hg : g.val = c.val / 32) :
    I.out (ix4 t T (0 : Fin 1) l)
      = Scalar.select (BitVec.ofBool ((I.mask (ix2 t g) : BitVec 32).getLsbD (c.val % 32)))
        ((((∑ k : Fin 1024, codeOf I.wide t k * I.wc (ix2 k c)) * Ideal.exp2 (((tokenExp I.wide t).toInt : ℝ) : EReal)) * I.ws (ix2 T l)) : EReal)
        (Ideal.ofBits .f32 0x00000000#32) := by
  have hin : inTile (ix4 t T (0 : Fin 1) l) = ix2 t l := by
    funext a; match a with | ⟨0, _⟩ => rfl | ⟨1, _⟩ => rfl
  have h0 : I.out (ix4 t T (0 : Fin 1) l) = I.data.want lanes T (ix2 t l) := congrArg (I.data.want lanes T) hin
  obtain ⟨hok, hlg⟩ := parts_apply I hx t T l c hc g hg
  rw [h0, ← hok, ← hlg]
  rfl

/-- A logit of the kernel, -∞ where the mask's bit is not set. -/
theorem neg_apply (hx : Finite I.wide) (t : Fin 48) (T : Fin 1187) (l : Fin 128) (c : Fin 151936) (hc : c.val = 128 * T.val + l.val) (g : Fin 4748) (hg : g.val = c.val / 32) :
    I.data.neg lanes T (ix2 t l)
      = Scalar.select (BitVec.ofBool ((I.mask (ix2 t g) : BitVec 32).getLsbD (c.val % 32)))
        ((((∑ k : Fin 1024, codeOf I.wide t k * I.wc (ix2 k c)) * Ideal.exp2 (((tokenExp I.wide t).toInt : ℝ) : EReal)) * I.ws (ix2 T l)) : EReal)
        (Ideal.ofBits .f32 0xFF800000#32) := by
  obtain ⟨hok, hlg⟩ := parts_apply I hx t T l c hc g hg
  rw [← hok, ← hlg]
  rfl

theorem codes_apply (hx : Finite I.wide) (t : Fin 48) (k : Fin 1024) : I.codes (ix2 t k) = codeOf I.wide t k := codesOf_apply hx t k

theorem scaleRow_apply (hx : Finite I.wide) (t : Fin 48) : I.scaleRow (ix2 (0 : Fin 1) t) = Ideal.exp2 (((tokenExp I.wide t).toInt : ℝ) : EReal) :=
  scaleOf_apply hx (ix2 t (38 : Fin 128))

end

end Cert.Kernel.Hand

end
-- ==== Proof.Stats.lean ====
/- The statistics of a row of logits over the extended reals: the greatest of a stretch of columns, the sum of exponentials
   of a stretch, and how the sums of stretches are put together to that of the row. -/
module

public import proofs.«01_k».proof.Proof.Quant

@[expose] public section

noncomputable section

namespace Cert.Kernel.Hand

open Idealize.ShloMosaic Idealize.ShloMosaic.ValueIdx

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- A value, or zero if it is not finite. -/
def fin (m : EReal) : EReal :=
  Scalar.select (Ideal.cmp .olt (max m (-m)) (Ideal.ofBits .f32 0x7F800000#32)) m (Ideal.ofBits .f32 0x00000000#32)

theorem fin_bot : fin ⊥ = 0 := by
  have h : ¬ (max (⊥ : EReal) (-⊥) < ⊤) := by simp
  unfold fin
  rw [ofBits_top]
  simp [Ideal.cmp, Scalar.select, Ideal.ofBits_zero_f32]
theorem fin_top : fin ⊤ = 0 := by
  unfold fin
  rw [ofBits_top]
  simp [Ideal.cmp, Scalar.select, Ideal.ofBits_zero_f32]
theorem fin_coe (r : ℝ) : fin (r : EReal) = r := by
  have h : max (r : EReal) (-(r : EReal)) < ⊤ := max_lt (EReal.coe_lt_top r) (by rw [← EReal.coe_neg]; exact EReal.coe_lt_top _)
  unfold fin
  rw [ofBits_top]
  simp only [Ideal.cmp, Scalar.select, h, decide_true]
  rfl
theorem fin_real (m : EReal) : ∃ r : ℝ, fin m = r := by
  induction m with
  | bot => exact ⟨0, fin_bot⟩
  | top => exact ⟨0, fin_top⟩
  | coe r => exact ⟨r, fin_coe r⟩

/-- The greatest of `n` columns from column `a`. -/
def supOf (g : ℕ → EReal) (a n : ℕ) : EReal := (Finset.range n).sup fun i => g (a + i)
/-- The sum of the exponentials of `n` columns from column `a`, each less `h`. -/
def sumOf (g : ℕ → EReal) (a n : ℕ) (h : EReal) : EReal := ∑ i ∈ Finset.range n, Ideal.exp (g (a + i) - h)

/-- A sum over blocks is the sum over the whole. -/
theorem sum_blocks (f : ℕ → EReal) (W n : ℕ) : ∑ k ∈ Finset.range n, ∑ i ∈ Finset.range W, f (W * k + i) = ∑ c ∈ Finset.range (W * n), f c := by
  induction n with
  | zero => simp
  | succ n ih => rw [Finset.sum_range_succ, ih, Nat.mul_succ, Finset.sum_range_add]

/-- The greatest over blocks is the greatest over the whole. -/
theorem sup_blocks (f : ℕ → EReal) {W : ℕ} (hW : 0 < W) (n : ℕ) :
    ((Finset.range W).sup fun i => (Finset.range n).sup fun k => f (W * k + i)) = (Finset.range (W * n)).sup f := by
  apply le_antisymm
  · refine Finset.sup_le fun i hi => Finset.sup_le fun k hk => ?_
    have hi' := Finset.mem_range.mp hi
    have hk' := Finset.mem_range.mp hk
    refine Finset.le_sup (f := f) (Finset.mem_range.mpr ?_)
    have : W * (k + 1) ≤ W * n := Nat.mul_le_mul_left _ hk'
    rw [Nat.mul_succ] at this
    omega
  · refine Finset.sup_le fun c hc => ?_
    have hc' := Finset.mem_range.mp hc
    have hd : c / W < n := Nat.div_lt_of_lt_mul hc'
    have e : f c = f (W * (c / W) + c % W) := by rw [Nat.div_add_mod]
    rw [e]
    exact le_trans (Finset.le_sup (f := fun k => f (W * k + c % W)) (Finset.mem_range.mpr hd))
      (Finset.le_sup (f := fun i => (Finset.range n).sup fun k => f (W * k + i)) (Finset.mem_range.mpr (Nat.mod_lt _ hW)))

theorem exp_nonneg (x : EReal) : 0 ≤ Ideal.exp x := by
  induction x with
  | bot => simp
  | top => simp
  | coe r => rw [Ideal.exp_coe]; exact EReal.coe_nonneg.mpr (Real.exp_pos r).le

theorem sum_mul_nonneg {ι : Type} (s : Finset ι) (f : ι → EReal) (hf : ∀ i, 0 ≤ f i) (c : EReal) : (∑ i ∈ s, f i) * c = ∑ i ∈ s, f i * c := by
  classical
  induction s using Finset.induction_on with
  | empty => simp
  | insert a s ha ih => rw [Finset.sum_insert ha, Finset.sum_insert ha, EReal.right_distrib_of_nonneg (hf a) (Finset.sum_nonneg fun i _ => hf i), ih]

theorem sum_top {s : Finset ℕ} {f : ℕ → EReal} (hf : ∀ i, 0 ≤ f i) {i : ℕ} (hi : i ∈ s) (ht : f i = ⊤) : ∑ i ∈ s, f i = ⊤ := by
  apply top_le_iff.mp
  rw [← ht]
  exact Finset.single_le_sum (f := f) (fun j _ => hf j) hi

/-- A stretch's sum, carried from its own greatest to another finite value: what a stretch gives to the row's sum. -/
theorem carried (g : ℕ → EReal) (a n : ℕ) (r : ℝ) :
    (if supOf g a n = ⊥ then 0 else sumOf g a n (fin (supOf g a n)) * Ideal.exp (supOf g a n - (r : EReal))) = sumOf g a n r := by
  have hle : ∀ i ∈ Finset.range n, g (a + i) ≤ supOf g a n := fun i hi => Finset.le_sup (f := fun i => g (a + i)) hi
  generalize hM : supOf g a n = M at *
  induction M with
  | bot =>
    rw [if_pos rfl]
    unfold sumOf
    refine (Finset.sum_eq_zero fun i hi => ?_).symm
    have : g (a + i) = ⊥ := le_bot_iff.mp (hle i hi)
    rw [this, sub_eq_add_neg, EReal.bot_add, Ideal.exp_bot]
  | top =>
    rw [if_neg (by simp), fin_top]
    have hex : ∃ i ∈ Finset.range n, g (a + i) = ⊤ := by
      by_contra hc
      push Not at hc
      have : supOf g a n < ⊤ := (Finset.sup_lt_iff bot_lt_top).mpr fun i hi => lt_top_iff_ne_top.mpr (hc i hi)
      exact absurd hM this.ne
    obtain ⟨i, hi, ht⟩ := hex
    have e0 : Ideal.exp (⊤ - (r : EReal)) = ⊤ := by rw [EReal.top_sub_coe]; rfl
    have e1 : sumOf g a n 0 = ⊤ := sum_top (f := fun i => Ideal.exp (g (a + i) - 0)) (fun _ => exp_nonneg _) hi (by
      show Ideal.exp (g (a + i) - 0) = ⊤
      rw [ht, sub_zero]; rfl)
    have e2 : sumOf g a n r = ⊤ := sum_top (f := fun i => Ideal.exp (g (a + i) - (r : EReal))) (fun _ => exp_nonneg _) hi (by
      show Ideal.exp (g (a + i) - (r : EReal)) = ⊤
      rw [ht]; exact e0)
    rw [e0, e1, e2]
    rfl
  | coe m =>
    rw [if_neg (EReal.coe_ne_bot m), fin_coe]
    unfold sumOf
    rw [sum_mul_nonneg _ _ (fun _ => exp_nonneg _)]
    refine Finset.sum_congr rfl fun i hi => ?_
    have h := hle i hi
    generalize g (a + i) = x at h
    induction x with
    | bot => rw [sub_eq_add_neg, sub_eq_add_neg _ (r : EReal), sub_eq_add_neg (⊥ : EReal), EReal.bot_add, EReal.bot_add, Ideal.exp_bot, zero_mul]
    | top => exact absurd h (by simp)
    | coe x =>
      rw [← EReal.coe_sub, ← EReal.coe_sub, ← EReal.coe_sub, Ideal.exp_coe, Ideal.exp_coe, Ideal.exp_coe, ← EReal.coe_mul, ← Real.exp_add]
      congr 2; ring

/-! ## The reductions of a block, as the greatest and the sum over its columns -/

theorem fold_range {N : ℕ} (f : ℕ → EReal) (F : Fin N → EReal) (hF : ∀ i : Fin N, F i = f i.val) :
    (Finset.univ : Finset (Fin N)).fold max (Ideal.ofBits .f32 0xFF800000#32) F = (Finset.range N).sup f := by
  rw [ofBits_bot]
  apply le_antisymm
  · refine (Finset.fold_max_le _).mpr ⟨bot_le, fun i _ => ?_⟩
    rw [hF]
    exact Finset.le_sup (f := f) (Finset.mem_range.mpr i.isLt)
  · refine Finset.sup_le fun i hi => (Finset.le_fold_max _).mpr (Or.inr ⟨⟨i, Finset.mem_range.mp hi⟩, Finset.mem_univ _, ?_⟩)
    rw [hF]

theorem sum_fin {N : ℕ} (f : ℕ → EReal) (F : Fin N → EReal) (hF : ∀ i : Fin N, F i = f i.val) : ∑ i, F i = ∑ i ∈ Finset.range N, f i :=
  (Finset.sum_congr rfl fun i _ => hF i).trans (Fin.sum_univ_eq_sum_range f N)

section
variable {M N : ℕ} (v : FVec Ideal ⟨2, ![M, N]⟩ .f32) (h : (⟨2, ![M, N]⟩ : Shape).Reduces [1] ⟨1, ![M]⟩) (hφ : FKind.Formats .f32) (t : Fin M)
  (f : ℕ → EReal) (hf : ∀ i : Fin N, v (ix2 t i) = f i.val)

theorem lift_row (i : Fin N) : h.lift (ix1 t) i = ix2 t i := by
  have e : h.drop (ix2 t i) = ix1 t := funext fun a => Fin.ext (match a with | ⟨0, _⟩ => rfl)
  rw [← e]; exact h.lift_drop (ix2 t i)

include hf

theorem max_row (hacc : (0xFF800000#32 : BitVec FTy.f32.bits) = FKind.maximumf.neutral .f32 hφ) :
    multiReduction .maximumf [1] ⟨1, ![M]⟩ v 0xFF800000#32 h hφ hacc (ix1 t) = (Finset.range N).sup f :=
  (Ideal.multiReduction_maximumf_single v _ h hφ hacc (ix1 t)).trans
    (fold_range f _ fun i => (congrArg v (lift_row h t i)).trans (hf i))

theorem sum_row (hacc : (0x00000000#32 : BitVec FTy.f32.bits) = FKind.add.neutral .f32 hφ) :
    multiReduction .add [1] ⟨1, ![M]⟩ v 0x00000000#32 h hφ hacc (ix1 t) = ∑ i ∈ Finset.range N, f i :=
  (Ideal.multiReduction_add_single v _ h hφ hacc (ix1 t)).trans
    (sum_fin f _ fun i => (congrArg v (lift_row h t i)).trans (hf i))
end

section
variable {M K N : ℕ} (v : FVec Ideal ⟨3, ![M, K, N]⟩ .f32) (h : (⟨3, ![M, K, N]⟩ : Shape).Reduces [2] ⟨2, ![M, K]⟩) (hφ : FKind.Formats .f32)
  (t : Fin M) (k : Fin K) (f : ℕ → EReal) (hf : ∀ i : Fin N, v (ix3 t k i) = f i.val)

theorem lift_row3 (i : Fin N) : h.lift (ix2 t k) i = ix3 t k i := by
  have e : h.drop (ix3 t k i) = ix2 t k := funext fun a => Fin.ext (match a with | ⟨0, _⟩ => rfl | ⟨1, _⟩ => rfl)
  rw [← e]; exact h.lift_drop (ix3 t k i)

include hf

theorem max_row3 (hacc : (0xFF800000#32 : BitVec FTy.f32.bits) = FKind.maximumf.neutral .f32 hφ) :
    multiReduction .maximumf [2] ⟨2, ![M, K]⟩ v 0xFF800000#32 h hφ hacc (ix2 t k) = (Finset.range N).sup f :=
  (Ideal.multiReduction_maximumf_single v _ h hφ hacc (ix2 t k)).trans
    (fold_range f _ fun i => (congrArg v (lift_row3 h t k i)).trans (hf i))

theorem sum_row3 (hacc : (0x00000000#32 : BitVec FTy.f32.bits) = FKind.add.neutral .f32 hφ) :
    multiReduction .add [2] ⟨2, ![M, K]⟩ v 0x00000000#32 h hφ hacc (ix2 t k) = ∑ i ∈ Finset.range N, f i :=
  (Ideal.multiReduction_add_single v _ h hφ hacc (ix2 t k)).trans
    (sum_fin f _ fun i => (congrArg v (lift_row3 h t k i)).trans (hf i))
end

end Cert.Kernel.Hand

end
-- ==== Proof.KernelStats.lean ====
/- The kernel's statistics read at an index, over the extended reals: each chunk's greatest logit and sum of exponentials, and
   the log of the row's sum, as the greatest and the sums over stretches of columns. -/
module

public import proofs.«01_k».proof.Proof.Stats
public import proofs.«01_k».proof.Proof.Mask
public import proofs.«01_k».proof.Proof.After

@[expose] public section

set_option maxRecDepth 16384

noncomputable section

namespace Cert.Kernel.Hand

open Cert.Kernel Cert.Kernel.Gen
open Idealize.ShloMosaic Idealize.ShloMosaic.TcCoe Idealize.ShloMosaic.ValueIdx

theorem finiteOf_apply (v : V48 Ideal) (i : S48x128.Idx) : finiteOf v i = fin (v i) := rfl

/-- One value for each row, on every lane. -/
theorem perRow_apply (v : FVec Ideal S48 .f32) (t : Fin 48) (l : Fin 128) :
    broadcastTo S48x128 (shapeCast S48x1 (shapeCast S48x1 v shapeCasts_S48_S48x1) shapeCasts_S48x1_S48x1) broadcasts_S48x1_S48x128 (ix2 t l) = v (ix1 t) := by
  refine (broadcastTo_apply _ _ (ix2 t l) (ix2 t (0 : Fin 1)) (fun a => match a with | ⟨0, _⟩ => rfl | ⟨1, _⟩ => rfl)).trans ?_
  rw [shapeCast_self]
  exact shapeCast_apply _ _ _ (ix1 t) (by rw [Shape.rowMajor_val_one, Shape.rowMajor_val_two]; show t.val = t.val * 1 + 0; omega)

theorem rowMax_apply (v : V48 Ideal) (t : Fin 48) (l : Fin 128) (f : ℕ → EReal) (hf : ∀ i : Fin 128, v (ix2 t i) = f i.val) :
    rowMax v (ix2 t l) = (Finset.range 128).sup f := by
  unfold rowMax
  exact (perRow_apply _ t l).trans (max_row v _ _ t f hf _)

theorem rowSum_apply (v : V48 Ideal) (t : Fin 48) (l : Fin 128) (f : ℕ → EReal) (hf : ∀ i : Fin 128, v (ix2 t i) = f i.val) :
    rowSum v (ix2 t l) = ∑ i ∈ Finset.range 128, f i := by
  unfold rowSum
  exact (perRow_apply _ t l).trans (sum_row v _ _ t f hf _)

/-- The lane of number `n`. -/
theorem lane_is (t : Fin 48) (l : Fin 128) (n : ℕ) (hn : n < 128) :
    cmpi .eq lanes (broadcast S48x128 (BitVec.ofNat 32 n)) (ix2 t l) = BitVec.ofBool (decide (l.val = n)) := by
  have hl := l.isLt
  have e : cmpi .eq lanes (broadcast S48x128 (BitVec.ofNat 32 n)) (ix2 t l) = IntOp.cmpi .eq (BitVec.ofNat 32 l.val) (BitVec.ofNat 32 n) :=
    congrArg (fun w => IntOp.cmpi .eq w (BitVec.ofNat 32 n)) (lanes_apply t l)
  rw [e]
  by_cases h : l.val = n
  · rw [h]; simp [IntOp.cmpi]
  · have h2 : BitVec.ofNat 32 l.val ≠ BitVec.ofNat 32 n := fun hc => h (by
      have := congrArg BitVec.toNat hc
      simp only [BitVec.toNat_ofNat] at this
      omega)
    simp [IntOp.cmpi, h, beq_eq_false_iff_ne.mpr h2]

theorem select_apply (c : IVec S48x128 1) (a b : V48 Ideal) (i : S48x128.Idx) (p : Bool) (h : c i = BitVec.ofBool p) : select c a b i = if p then a i else b i := by
  show Scalar.select (c i) (a i) (b i) = _
  rw [h]; cases p <;> rfl

section
variable (D : Data Ideal) (g : Fin 48 → ℕ → EReal) (hg : ∀ (T : Fin 1187) (t : Fin 48) (l : Fin 128), D.neg lanes T (ix2 t l) = g t (128 * T.val + l.val))
include hg

/-- A tile of a chunk. -/
theorem tile_apply (k n : ℕ) (h : 32 * k + n < 1187) (t : Fin 48) (l : Fin 128) : D.neg lanes (tileN (32 * k + n)) (ix2 t l) = g t (4096 * k + (128 * n + l.val)) := by
  rw [hg]
  congr 1
  show 128 * ((32 * k + n) % 1187) + l.val = _
  rw [Nat.mod_eq_of_lt h]; omega

theorem top_apply (k n : ℕ) (h : 32 * k + n ≤ 1187) (t : Fin 48) (l : Fin 128) :
    D.top lanes k n (ix2 t l) = (Finset.range n).sup fun j => g t (4096 * k + (128 * j + l.val)) := by
  induction n with
  | zero => exact ofBits_bot
  | succ n ih =>
    rw [Finset.range_add_one, Finset.sup_insert, sup_comm, ← ih (by omega), ← tile_apply D g hg k n (by omega)]
    rfl

theorem acc_apply (k n : ℕ) (h : 32 * k + n ≤ 1187) (v : V48 Ideal) (t : Fin 48) (l : Fin 128) :
    D.acc lanes k v n (ix2 t l) = ∑ j ∈ Finset.range n, Ideal.exp (g t (4096 * k + (128 * j + l.val)) - v (ix2 t l)) := by
  induction n with
  | zero => exact Ideal.ofBits_zero_f32
  | succ n ih =>
    rw [Finset.sum_range_succ, ← ih (by omega), ← tile_apply D g hg k n (by omega)]
    rfl

theorem chunk_fits (k : ℕ) (hk : k < 38) : 32 * k + tilesIn k ≤ 1187 := by unfold tilesIn; split <;> omega

/-- The greatest logit of a chunk. -/
theorem chunkMax_apply (k : ℕ) (hk : k < 38) (t : Fin 48) (l : Fin 128) : D.chunkMax lanes k (ix2 t l) = supOf (g t) (4096 * k) (128 * tilesIn k) := by
  unfold Data.chunkMax
  rw [rowMax_apply _ t l (fun i => (Finset.range (tilesIn k)).sup fun j => g t (4096 * k + (128 * j + i))) (fun i => top_apply D g hg k _ (chunk_fits D g hg k hk) t i)]
  exact sup_blocks (fun c => g t (4096 * k + c)) (by norm_num) (tilesIn k)

/-- A chunk's sum of exponentials. -/
theorem chunkSum_apply (k : ℕ) (hk : k < 38) (t : Fin 48) (l : Fin 128) :
    D.chunkSum lanes k (ix2 t l) = sumOf (g t) (4096 * k) (128 * tilesIn k) (fin (supOf (g t) (4096 * k) (128 * tilesIn k))) := by
  unfold Data.chunkSum
  rw [rowSum_apply _ t l (fun i => ∑ j ∈ Finset.range (tilesIn k), Ideal.exp (g t (4096 * k + (128 * j + i)) - fin (supOf (g t) (4096 * k) (128 * tilesIn k))))
    (fun i => by rw [acc_apply D g hg k _ (chunk_fits D g hg k hk), finiteOf_apply, chunkMax_apply D g hg k hk])]
  rw [Finset.sum_comm]
  exact sum_blocks (fun c => Ideal.exp (g t (4096 * k + c) - fin (supOf (g t) (4096 * k) (128 * tilesIn k)))) 128 (tilesIn k)

/-- The chunks' maxima, each on its lane. -/
theorem maxes_apply (n : ℕ) (hn : n ≤ 38) (t : Fin 48) (l : Fin 128) :
    D.maxes lanes n (ix2 t l) = if l.val < n then supOf (g t) (4096 * l.val) (128 * tilesIn l.val) else ⊥ := by
  induction n with
  | zero => exact ofBits_bot
  | succ n ih =>
    unfold Data.maxes
    rw [select_apply _ _ _ _ _ (lane_is t l n (by omega)), ih (by omega), chunkMax_apply D g hg n (by omega)]
    by_cases h : l.val = n
    · rw [if_pos (by simpa using h), if_pos (by omega), h]
    · rw [if_neg (by simpa using h)]
      by_cases h2 : l.val < n
      · rw [if_pos h2, if_pos (by omega)]
      · rw [if_neg h2, if_neg (by omega)]

theorem sums_apply (n : ℕ) (hn : n ≤ 38) (t : Fin 48) (l : Fin 128) :
    D.sums lanes n (ix2 t l) = if l.val < n then sumOf (g t) (4096 * l.val) (128 * tilesIn l.val) (fin (supOf (g t) (4096 * l.val) (128 * tilesIn l.val))) else 0 := by
  induction n with
  | zero => exact Ideal.ofBits_zero_f32
  | succ n ih =>
    unfold Data.sums
    rw [select_apply _ _ _ _ _ (lane_is t l n (by omega)), ih (by omega), chunkSum_apply D g hg n (by omega)]
    by_cases h : l.val = n
    · rw [if_pos (by simpa using h), if_pos (by omega), h]
    · rw [if_neg (by simpa using h)]
      by_cases h2 : l.val < n
      · rw [if_pos h2, if_pos (by omega)]
      · rw [if_neg h2, if_neg (by omega)]

end

/-- The chunks' sums make the row's. -/
theorem sum_chunks (f : ℕ → EReal) : ∑ k ∈ Finset.range 38, ∑ i ∈ Finset.range (128 * tilesIn k), f (4096 * k + i) = ∑ c ∈ Finset.range 151936, f c := by
  rw [Finset.sum_range_succ, Finset.sum_congr rfl (fun k hk => by
    have : tilesIn k = 32 := if_neg (by have := Finset.mem_range.mp hk; omega)
    rw [this]), sum_blocks f 4096 37]
  exact (Finset.sum_range_add f 151552 384).symm

/-- The chunks' maxima make the row's. -/
theorem sup_chunks (f : ℕ → EReal) :
    ((Finset.range 128).sup fun k => if k < 38 then supOf f (4096 * k) (128 * tilesIn k) else ⊥) = supOf f 0 151936 := by
  unfold supOf
  apply le_antisymm
  · refine Finset.sup_le fun k _ => ?_
    by_cases hk : k < 38
    · rw [if_pos hk]
      refine Finset.sup_le fun i hi => ?_
      have hi' := Finset.mem_range.mp hi
      have hb : 4096 * k + i < 151936 := by unfold tilesIn at hi'; split at hi' <;> omega
      have := Finset.le_sup (f := fun i => f (0 + i)) (Finset.mem_range.mpr hb)
      rwa [Nat.zero_add] at this
    · rw [if_neg hk]; exact bot_le
  · refine Finset.sup_le fun c hc => ?_
    have hc' := Finset.mem_range.mp hc
    have hk : c / 4096 < 38 := by omega
    have hi : c % 4096 < 128 * tilesIn (c / 4096) := by unfold tilesIn; split <;> omega
    refine le_trans ?_ (Finset.le_sup (f := fun k => if k < 38 then (Finset.range (128 * tilesIn k)).sup (fun i => f (4096 * k + i)) else ⊥)
      (Finset.mem_range.mpr (show c / 4096 < 128 by omega)))
    show f (0 + c) ≤ if c / 4096 < 38 then _ else ⊥
    rw [if_pos hk]
    have := Finset.le_sup (f := fun i => f (4096 * (c / 4096) + i)) (Finset.mem_range.mpr hi)
    simp only [Nat.div_add_mod] at this
    rw [Nat.zero_add]; exact this

section
variable (D : Data Ideal) (g : Fin 48 → ℕ → EReal) (hg : ∀ (T : Fin 1187) (t : Fin 48) (l : Fin 128), D.neg lanes T (ix2 t l) = g t (128 * T.val + l.val))
include hg

/-- The log of a row's sum of exponentials. -/
theorem lse_apply (t : Fin 48) (l : Fin 128) : lseOf (D.maxes lanes 38) (D.sums lanes 38) (ix2 t l)
    = Ideal.log (sumOf (g t) 0 151936 (fin (supOf (g t) 0 151936))) + fin (supOf (g t) 0 151936) := by
  have hm : rowMax (D.maxes lanes 38) (ix2 t l) = supOf (g t) 0 151936 :=
    (rowMax_apply _ t l (fun k => if k < 38 then supOf (g t) (4096 * k) (128 * tilesIn k) else ⊥) (fun i => maxes_apply D g hg 38 le_rfl t i)).trans (sup_chunks (g t))
  have hm' : ∀ i : Fin 128, finiteOf (rowMax (D.maxes lanes 38)) (ix2 t i) = fin (supOf (g t) 0 151936) := fun i =>
    congrArg fin ((rowMax_apply _ t i (fun k => if k < 38 then supOf (g t) (4096 * k) (128 * tilesIn k) else ⊥) (fun i => maxes_apply D g hg 38 le_rfl t i)).trans (sup_chunks (g t)))
  obtain ⟨r, hr⟩ := fin_real (supOf (g t) 0 151936)
  have hterm : ∀ i : Fin 128, select (cmpf .oeq (D.maxes lanes 38) (broadcast S48x128 (Scalar.ofBits .f32 0xFF800000#32))) (broadcast S48x128 (Scalar.ofBits .f32 0x00000000#32))
      (mulf (D.sums lanes 38) (exp (subf (D.maxes lanes 38) (finiteOf (rowMax (D.maxes lanes 38)))))) (ix2 t i)
      = if i.val < 38 then sumOf (g t) (4096 * i.val) (128 * tilesIn i.val) r else 0 := by
    intro i
    have e : select (cmpf .oeq (D.maxes lanes 38) (broadcast S48x128 (Scalar.ofBits .f32 0xFF800000#32))) (broadcast S48x128 (Scalar.ofBits .f32 0x00000000#32))
      (mulf (D.sums lanes 38) (exp (subf (D.maxes lanes 38) (finiteOf (rowMax (D.maxes lanes 38)))))) (ix2 t i)
      = Scalar.select (Ideal.cmp .oeq (D.maxes lanes 38 (ix2 t i)) (Ideal.ofBits .f32 0xFF800000#32)) (Ideal.ofBits .f32 0x00000000#32)
        ((D.sums lanes 38 (ix2 t i) : EReal) * Ideal.exp ((D.maxes lanes 38 (ix2 t i) : EReal) - (finiteOf (rowMax (D.maxes lanes 38)) (ix2 t i) : EReal)) : EReal) := rfl
    rw [e, hm' i, hr, ofBits_bot, Ideal.ofBits_zero_f32, maxes_apply D g hg 38 le_rfl, sums_apply D g hg 38 le_rfl]
    have hsel : ∀ a b : EReal, Scalar.select (Ideal.cmp .oeq a ⊥) (0 : EReal) b = if a = ⊥ then 0 else b := by
      intro a b
      by_cases h : a = ⊥
      · rw [if_pos h]; simp [Ideal.cmp, Scalar.select, h]
      · rw [if_neg h]; simp [Ideal.cmp, Scalar.select, h]
    rw [hsel]
    by_cases hi : i.val < 38
    · rw [if_pos hi, if_pos hi, if_pos hi]
      exact carried (g t) (4096 * i.val) (128 * tilesIn i.val) r
    · rw [if_neg hi, if_neg hi, if_pos rfl, if_neg hi]
  have e : lseOf (D.maxes lanes 38) (D.sums lanes 38) (ix2 t l)
    = Ideal.log (rowSum (select (cmpf .oeq (D.maxes lanes 38) (broadcast S48x128 (Scalar.ofBits .f32 0xFF800000#32))) (broadcast S48x128 (Scalar.ofBits .f32 0x00000000#32))
      (mulf (D.sums lanes 38) (exp (subf (D.maxes lanes 38) (finiteOf (rowMax (D.maxes lanes 38))))))) (ix2 t l) : EReal)
      + (finiteOf (rowMax (D.maxes lanes 38)) (ix2 t l) : EReal) := rfl
  have key : ∑ i ∈ Finset.range (38 + 90), (if i < 38 then sumOf (g t) (4096 * i) (128 * tilesIn i) r else 0) = sumOf (g t) 0 151936 r := by
    rw [Finset.sum_range_add, Finset.sum_congr rfl (fun i hi => if_pos (Finset.mem_range.mp hi)),
      Finset.sum_eq_zero (s := Finset.range 90) (fun i _ => if_neg (by omega)), add_zero]
    refine (sum_chunks (fun c => Ideal.exp (g t c - (r : EReal)))).trans ?_
    unfold sumOf
    exact Finset.sum_congr rfl fun c _ => by rw [Nat.zero_add]
  have hsum := (rowSum_apply _ t l (fun i => if i < 38 then sumOf (g t) (4096 * i) (128 * tilesIn i) r else 0) hterm).trans key
  rw [e, hm' l, hsum, hr]

end

end Cert.Kernel.Hand

end
-- ==== Proof.RefRun.lean ====
/- The reference's run with its six results named: what its one grid point writes back is its body's stored vectors. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What the one grid point writes back, and the final arrays -/

/-- What point `t` writes back to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- Block `t` of the final array, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- What point `t` writes back to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- Block `t` of the final array, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- What point `t` writes back to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- Block `t` of the final array, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- What point `t` writes back to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- Block `t` of the final array, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- What point `t` writes back to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index. -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- Block `t` of the final array, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- What point `t` writes back to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index. -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- Block `t` of the final array, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_3) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v2_4) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v2_5) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run with each output array named — `(dats m 0 c).arrAt w N`, which `blocks4` to `blocks9` read — and the arguments
    unchanged. -/
theorem run_blocks : θ_run defs (onTc (τ := τ) (main (F := F))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_v2_2) = (dats m 0 c).arrAt 6 cfg0.N
      ∧ r.2.mem ((c : Thread nD τ).loc main_v2_3) = (dats m 0 c).arrAt 7 cfg0.N
      ∧ r.2.mem ((c : Thread nD τ).loc main_v2_4) = (dats m 0 c).arrAt 8 cfg0.N
      ∧ r.2.mem ((c : Thread nD τ).loc main_v2_5) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post4 m r h c,
      post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

end Cert.ReferenceIdeal.Value

end
-- ==== Proof.RefArrays.lean ====
/- What the reference leaves in its results: its body's stored vectors, of the whole operands. -/
module

public import proofs.«01_k».proof.Proof.RefRun

@[expose] public section

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- A load of the whole of a buffer reads the buffer. -/
theorem ld_full {s : Shape} {e : EltTy} (X : Vec F s e) (off : Fin s.rank → ℕ) (h0 : ∀ a, off a = 0) (h : ∀ a, off a + s.size a ≤ s.size a) :
    View.ld X (Rect.unit (s := s) off s.size h) = X := by
  funext x
  refine congrArg X (funext fun a => Fin.ext ?_)
  show off a + 1 * (x a).val = (x a).val
  rw [h0]; omega

/-- A store of the whole of a buffer leaves what was stored. -/
theorem canon_full {s : Shape} {e : EltTy} (P : Vec F s e) (off : Fin s.rank → ℕ) (h0 : ∀ a, off a = 0) (h : ∀ a, off a + s.size a ≤ s.size a) :
    View.canon [(⟨Rect.unit (s := s) off s.size h, P⟩ : View.Piece (Elt F) s e)] = P := by
  funext y
  have e1 : (Rect.unit (s := s) off s.size h).emb y = y := by
    funext a; apply Fin.ext
    show off a + 1 * (y a).val = (y a).val
    rw [h0]; omega
  have := View.canon_cons_emb (Val := Elt F) (e := e) (Rect.unit (s := s) off s.size h) P [] y
  rwa [e1] at this

theorem z2 : ∀ a : Fin 2, (![0, 0] : Fin 2 → ℕ) a = 0 := by decide
theorem z3 : ∀ a : Fin 3, (![0, 0, 0] : Fin 3 → ℕ) a = 0 := by decide
theorem z4 : ∀ a : Fin 4, (![0, 0, 0, 0] : Fin 4 → ℕ) a = 0 := by decide

variable (m : (ℓ : Loc nD τ sig) → Buf (Elt F) ℓ) (c : Dev nD)

theorem iblk_0 : iblk m c 0 t0_0 = V m c main_v0 :=
  Memref.read_access_unit_zero (Elt F) main_v0 (show (fun a => (win0_0.index t0_0) a * main_v0.ty.shape.size a) = fun _ => 0 from
    funext fun a => by fin_cases a <;> decide) (fun a => by fin_cases a <;> decide) _
theorem iblk_1 : iblk m c 1 t0_0 = V m c main_arg1 :=
  Memref.read_access_unit_zero (Elt F) main_arg1 (show (fun a => (win0_1.index t0_0) a * main_arg1.ty.shape.size a) = fun _ => 0 from
    funext fun a => by fin_cases a <;> decide) (fun a => by fin_cases a <;> decide) _
theorem iblk_2 : iblk m c 2 t0_0 = V m c main_v1 :=
  Memref.read_access_unit_zero (Elt F) main_v1 (show (fun a => (win0_2.index t0_0) a * main_v1.ty.shape.size a) = fun _ => 0 from
    funext fun a => by fin_cases a <;> decide) (fun a => by fin_cases a <;> decide) _
theorem iblk_3 : iblk m c 3 t0_0 = V m c main_arg3 :=
  Memref.read_access_unit_zero (Elt F) main_arg3 (show (fun a => (win0_3.index t0_0) a * main_arg3.ty.shape.size a) = fun _ => 0 from
    funext fun a => by fin_cases a <;> decide) (fun a => by fin_cases a <;> decide) _
theorem read_4 (f : Buf (Elt F) ((c : Thread nD τ).loc main_v2_0)) : (win0_4.blk t0_0).view.read (Elt F) f = f :=
  Memref.read_access_unit_zero (Elt F) main_v2_0 (show (fun a => (win0_4.index t0_0) a * main_v2_0.ty.shape.size a) = fun _ => 0 from
    funext fun a => by fin_cases a <;> decide) (fun a => by fin_cases a <;> decide) f
theorem read_5 (f : Buf (Elt F) ((c : Thread nD τ).loc main_v2_1)) : (win0_5.blk t0_0).view.read (Elt F) f = f :=
  Memref.read_access_unit_zero (Elt F) main_v2_1 (show (fun a => (win0_5.index t0_0) a * main_v2_1.ty.shape.size a) = fun _ => 0 from
    funext fun a => by fin_cases a <;> decide) (fun a => by fin_cases a <;> decide) f
theorem read_6 (f : Buf (Elt F) ((c : Thread nD τ).loc main_v2_2)) : (win0_6.blk t0_0).view.read (Elt F) f = f :=
  Memref.read_access_unit_zero (Elt F) main_v2_2 (show (fun a => (win0_6.index t0_0) a * main_v2_2.ty.shape.size a) = fun _ => 0 from
    funext fun a => by fin_cases a <;> decide) (fun a => by fin_cases a <;> decide) f
theorem read_7 (f : Buf (Elt F) ((c : Thread nD τ).loc main_v2_3)) : (win0_7.blk t0_0).view.read (Elt F) f = f :=
  Memref.read_access_unit_zero (Elt F) main_v2_3 (show (fun a => (win0_7.index t0_0) a * main_v2_3.ty.shape.size a) = fun _ => 0 from
    funext fun a => by fin_cases a <;> decide) (fun a => by fin_cases a <;> decide) f
theorem read_8 (f : Buf (Elt F) ((c : Thread nD τ).loc main_v2_4)) : (win0_8.blk t0_0).view.read (Elt F) f = f :=
  Memref.read_access_unit_zero (Elt F) main_v2_4 (show (fun a => (win0_8.index t0_0) a * main_v2_4.ty.shape.size a) = fun _ => 0 from
    funext fun a => by fin_cases a <;> decide) (fun a => by fin_cases a <;> decide) f
theorem read_9 (f : Buf (Elt F) ((c : Thread nD τ).loc main_v2_5)) : (win0_9.blk t0_0).view.read (Elt F) f = f :=
  Memref.read_access_unit_zero (Elt F) main_v2_5 (show (fun a => (win0_9.index t0_0) a * main_v2_5.ty.shape.size a) = fun _ => 0 from
    funext fun a => by fin_cases a <;> decide) (fun a => by fin_cases a <;> decide) f

/-- The masked logits the reference leaves. -/
theorem arr_4 : (dats m 0 c).arrAt 4 cfg0.N = k0_pay8 (k0_pay5 (V m c main_v0) (V m c main_arg1)) (V m c main_v1) (V m c main_arg3) := by
  have hw := Value.blocks4 m c t0_0 (by decide)
  rw [Value.flushed4, iblk_0, iblk_1, iblk_2, iblk_3] at hw
  refine ((read_4 c _).symm.trans hw).trans ?_
  refine (show _ = out0_4 (V m c main_v0) (V m c main_arg1) (V m c main_v1) (V m c main_arg3) from funext fun _ => rfl).trans ?_
  unfold out0_4 k0_pay19
  rw [ld_full _ _ z2, ld_full _ _ z2, ld_full _ _ z2, ld_full _ _ z2]
  exact canon_full _ _ z4 _

/-- The logs of the sums of exponentials the reference leaves. -/
theorem arr_5 : (dats m 0 c).arrAt 5 cfg0.N = k0_pay10 (k0_pay5 (V m c main_v0) (V m c main_arg1)) (V m c main_v1) (V m c main_arg3) := by
  have hw := Value.blocks5 m c t0_0 (by decide)
  rw [Value.flushed5, iblk_0, iblk_1, iblk_2, iblk_3] at hw
  refine ((read_5 c _).symm.trans hw).trans ?_
  refine (show _ = out0_5 (V m c main_v0) (V m c main_arg1) (V m c main_v1) (V m c main_arg3) from funext fun _ => rfl).trans ?_
  unfold out0_5 k0_pay19
  rw [ld_full _ _ z2, ld_full _ _ z2, ld_full _ _ z2, ld_full _ _ z2]
  exact canon_full _ _ z2 _

/-- The chunks' maxima the reference leaves. -/
theorem arr_6 : (dats m 0 c).arrAt 6 cfg0.N = k0_pay16 (k0_pay9 (k0_pay5 (V m c main_v0) (V m c main_arg1)) (V m c main_v1) (V m c main_arg3)) (k0_pay11 (k0_pay5 (V m c main_v0) (V m c main_arg1)) (V m c main_v1) (V m c main_arg3)) := by
  have hw := Value.blocks6 m c t0_0 (by decide)
  rw [Value.flushed6, iblk_0, iblk_1, iblk_2, iblk_3] at hw
  refine ((read_6 c _).symm.trans hw).trans ?_
  refine (show _ = out0_6 (V m c main_v0) (V m c main_arg1) (V m c main_v1) (V m c main_arg3) from funext fun _ => rfl).trans ?_
  unfold out0_6 k0_pay21 k0_pay20 k0_pay19
  rw [ld_full _ _ z2, ld_full _ _ z2, ld_full _ _ z2, ld_full _ _ z2]
  exact canon_full _ _ z3 _

/-- The chunks' sums of exponentials the reference leaves. -/
theorem arr_7 : (dats m 0 c).arrAt 7 cfg0.N = k0_pay17 (k0_pay9 (k0_pay5 (V m c main_v0) (V m c main_arg1)) (V m c main_v1) (V m c main_arg3)) (k0_pay11 (k0_pay5 (V m c main_v0) (V m c main_arg1)) (V m c main_v1) (V m c main_arg3)) := by
  have hw := Value.blocks7 m c t0_0 (by decide)
  rw [Value.flushed7, iblk_0, iblk_1, iblk_2, iblk_3] at hw
  refine ((read_7 c _).symm.trans hw).trans ?_
  refine (show _ = out0_7 (V m c main_v0) (V m c main_arg1) (V m c main_v1) (V m c main_arg3) from funext fun _ => rfl).trans ?_
  unfold out0_7 k0_pay21 k0_pay20 k0_pay19
  rw [ld_full _ _ z2, ld_full _ _ z2, ld_full _ _ z2, ld_full _ _ z2]
  exact canon_full _ _ z3 _

/-- The codes the reference leaves. -/
theorem arr_8 : (dats m 0 c).arrAt 8 cfg0.N = k0_pay4 (V m c main_v0) := by
  have hw := Value.blocks8 m c t0_0 (by decide)
  rw [Value.flushed8, iblk_0, iblk_1, iblk_2, iblk_3] at hw
  refine ((read_8 c _).symm.trans hw).trans ?_
  refine (show _ = out0_8 (V m c main_v0) (V m c main_arg1) (V m c main_v1) (V m c main_arg3) from funext fun _ => rfl).trans ?_
  unfold out0_8
  rw [ld_full _ _ z2]
  exact canon_full _ _ z2 _

/-- The scales the reference leaves. -/
theorem arr_9 : (dats m 0 c).arrAt 9 cfg0.N = k0_pay18 (k0_pay3 (V m c main_v0)) := by
  have hw := Value.blocks9 m c t0_0 (by decide)
  rw [Value.flushed9, iblk_0, iblk_1, iblk_2, iblk_3] at hw
  refine ((read_9 c _).symm.trans hw).trans ?_
  refine (show _ = out0_9 (V m c main_v0) (V m c main_arg1) (V m c main_v1) (V m c main_arg3) from funext fun _ => rfl).trans ?_
  unfold out0_9
  rw [ld_full _ _ z2]
  exact canon_full _ _ z2 _

/-- The tokens with their middle axis dropped. -/
theorem V_x : V m c main_v0 = shapeCast S48x1024 (m ((c : Thread nD τ).loc main_arg0)) shapeCasts_S48x1x1024_S48x1024 := rfl
/-- The column scales as one row. -/
theorem V_ws : V m c main_v1 = shapeCast S1x151936 (m ((c : Thread nD τ).loc main_arg2)) shapeCasts_S151936_S1x151936 := rfl

end Cert.ReferenceIdeal.Hand

end
-- ==== Proof.RefApply.lean ====
/- The reference's logits, codes and scales read at an index, over the extended reals: the counted exponent is the one the kernel's
   search finds, and a masked logit is the contraction times the two scales where the mask's bit is set, else zero. -/
module

public import proofs.«01_k».proof.Proof.Quant
public import proofs.«01_k».proof.Proof.RefArrays
public import Idealize.ShloMosaic.Lib.WordSum
public import Idealize.ShloMosaic.Lib.MatmulPlain

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.ValueIdx
open Cert.Kernel.Hand (thr topOf tokenExp expFrom search recip448 Finite codeOf)

/-- The tokens in the wider format. -/
abbrev wide (x : Vec Ideal S48x1024 .bf16) : FVec Ideal S48x1024 .f32 := extf .f32 (x : FVec Ideal S48x1024 .bf16) bitsLt_bf16_f32

theorem pay1_eq (x : Vec Ideal S48x1024 .bf16) : k0_pay1 x = wide x := by
  unfold k0_pay1
  simp only [shapeCast_self]

/-- The exponents the reference compares with, as powers of two. -/
theorem power_apply (i : Fin 253) :
    Ideal.exp2 ((((IntOp.subi (BitVec.ofNat 32 i.val) 126#32).toInt : ℝ) : EReal)) = thr (i.val + 1) := by
  have h : (IntOp.subi (BitVec.ofNat 32 i.val) 126#32).toInt = (i.val : ℤ) - 126 := by revert i; decide +kernel
  rw [h, Ideal.exp2_coe, Cert.Kernel.Hand.rpow_int, Cert.Kernel.Hand.thr_mid (by omega) (by omega)]
  congr 2; push_cast; ring

/-- The comparisons the reference counts, at a token and a power of two. -/
def reached (x : FVec Ideal S48x1024 .f32) : IVec S48x253 32 := fun i =>
  if thr ((i 1).val + 1) ≤ topOf x ⟨(i 0).val, (i 0).isLt⟩ * recip448 then 1#32 else 0#32

theorem count_apply {x : FVec Ideal S48x1024 .f32} (hx : Finite x) (t : Fin 48) :
    multiReductionI .add [1] S48 (reached x) 0#32 reduces_S48x253_S48 rfl (ix1 t) = search (topOf x t * recip448) := by
  obtain ⟨h0, h1⟩ := Cert.Kernel.Hand.topOf_bounds hx t
  obtain ⟨f, hf, hs, h2, h3⟩ := Cert.Kernel.Hand.field_of h0 h1
  rw [hs]
  have hsum : ∑ i ∈ Finset.univ.filter (fun i => (reduces_S48x253_S48).drop i = ix1 t), (reached x i).toNat = f := by
    rw [← Cert.Kernel.Hand.count_found (f := f) (by omega) h2 h3]
    refine Finset.sum_bij' (fun i _ => (⟨(i 1).val, (i 1).isLt⟩ : Fin 253)) (fun k _ => ix2 t k) ?_ ?_ ?_ ?_ ?_
    · intro i _; exact Finset.mem_univ _
    · intro k _
      rw [Finset.mem_filter]
      refine ⟨Finset.mem_univ _, funext fun a => Fin.ext ?_⟩
      match a with | ⟨0, _⟩ => rfl
    · intro i hi
      have e : (reduces_S48x253_S48).drop i = ix1 t := (Finset.mem_filter.mp hi).2
      have e0 : (i 0).val = t.val := congrArg Fin.val (congrFun e 0)
      funext a; apply Fin.ext
      match a with | ⟨0, _⟩ => exact e0.symm | ⟨1, _⟩ => rfl
    · intro k _; rfl
    · intro i hi
      have e : (reduces_S48x253_S48).drop i = ix1 t := (Finset.mem_filter.mp hi).2
      have e0 : (i 0).val = t.val := congrArg Fin.val (congrFun e 0)
      have e1 : (⟨(i 0).val, (i 0).isLt⟩ : Fin 48) = t := Fin.ext e0
      show (if thr ((i 1).val + 1) ≤ topOf x ⟨(i 0).val, (i 0).isLt⟩ * recip448 then 1#32 else 0#32).toNat = _
      rw [e1]
      show _ = if thr ((i 1).val + 1) ≤ topOf x t * recip448 then 1 else 0
      split <;> rfl
  apply BitVec.eq_of_toNat_eq
  refine (WordSum.toNat_multiReductionI_add (reached x) reduces_S48x253_S48 rfl (ix1 t) (by rw [hsum]; omega)).trans ?_
  rw [hsum]
  simp only [BitVec.toNat_ofNat]
  omega

/-- The exponent that the reference counts is the exponent that the kernel's search finds. -/
theorem pay2_apply {x : Vec Ideal S48x1024 .bf16} (hx : Finite (wide x)) (t : Fin 48) :
    k0_pay2 x (ix2 t (0 : Fin 1)) = (((tokenExp (wide x) t).toInt : ℝ) : EReal) := by
  have col : ∀ {α : Type} (v : S48.Idx → α), shapeCast S48x1 v shapeCasts_S48_S48x1 (ix2 t (0 : Fin 1)) = v (ix1 t) := fun v =>
    shapeCast_apply _ _ _ (ix1 t) (by rw [Shape.rowMajor_val_one, Shape.rowMajor_val_two]; show t.val = t.val * 1 + 0; omega)
  have htop : ∀ u : Fin 48, shapeCast S48x1 (multiReduction (F := Ideal) .maximumf [1] S48 (absf (k0_pay1 x)) 0xFF800000#32 reduces_S48x1024_S48 (.inl rfl) rfl) shapeCasts_S48_S48x1
      (ix2 u (0 : Fin 1)) = topOf (wide x) u := fun u => by
    rw [shapeCast_apply _ _ _ (ix1 u) (by rw [Shape.rowMajor_val_one, Shape.rowMajor_val_two]; show u.val = u.val * 1 + 0; omega), pay1_eq]
    rfl
  unfold k0_pay2
  dsimp only
  have hr : (extui 32 (cmpf (F := Ideal) .ole
        (broadcastTo S48x253 (exp2 (sitofp .f32 (subi (iota .tc S1x253 32 [1] iota_S1x253_d1_w32) (broadcast S1x253 126#32)))) broadcasts_S1x253_S48x253)
        (broadcastTo S48x253 (mulf (shapeCast S48x1 (multiReduction .maximumf [1] S48 (absf (k0_pay1 x)) 0xFF800000#32 reduces_S48x1024_S48 (.inl rfl) rfl) shapeCasts_S48_S48x1)
          (broadcast S48x1 (Scalar.ofBits .f32 0x3B124925#32))) broadcasts_S48x1_S48x253)) natLt_1_32 : IVec S48x253 32) = reached (wide x) := by
    funext i
    have h0 : (i 0).val < 48 := (i 0).isLt
    have h1 : (i 1).val < 253 := (i 1).isLt
    have ea : broadcastTo S48x253 (exp2 (sitofp (F := Ideal) .f32 (subi (iota .tc S1x253 32 [1] iota_S1x253_d1_w32) (broadcast S1x253 126#32)))) broadcasts_S1x253_S48x253 i
        = thr ((i 1).val + 1) :=
      (broadcastTo_apply _ _ i (ix2 (0 : Fin 1) (⟨(i 1).val, h1⟩ : Fin 253)) (fun a => match a with | ⟨0, _⟩ => rfl | ⟨1, _⟩ => rfl)).trans
        ((congrArg (fun w : BitVec 32 => Ideal.exp2 ((((IntOp.subi w 126#32).toInt : ℝ) : EReal)))
          (iota_single_apply .tc S1x253 32 1 iota_S1x253_d1_w32 (ix2 (0 : Fin 1) (⟨(i 1).val, h1⟩ : Fin 253)))).trans (power_apply ⟨(i 1).val, h1⟩))
    have eb : broadcastTo S48x253 (mulf (F := Ideal) (shapeCast S48x1 (multiReduction .maximumf [1] S48 (absf (k0_pay1 x)) 0xFF800000#32 reduces_S48x1024_S48 (.inl rfl) rfl) shapeCasts_S48_S48x1)
          (broadcast S48x1 (Scalar.ofBits .f32 0x3B124925#32))) broadcasts_S48x1_S48x253 i = topOf (wide x) ⟨(i 0).val, h0⟩ * recip448 := by
      refine (broadcastTo_apply _ _ i (ix2 (⟨(i 0).val, h0⟩ : Fin 48) (0 : Fin 1)) (fun a => match a with | ⟨0, _⟩ => rfl | ⟨1, _⟩ => rfl)).trans ?_
      exact congrArg (· * recip448) (htop ⟨(i 0).val, h0⟩)
    have ec : ∀ (A B : FVec Ideal S48x253 .f32), (extui 32 (cmpf (F := Ideal) .ole A B) natLt_1_32 : IVec S48x253 32) i = if A i ≤ B i then 1#32 else 0#32 := by
      intro A B
      show BitVec.setWidth 32 (Ideal.cmp .ole (A i) (B i)) = _
      by_cases hc : A i ≤ B i
      · rw [if_pos hc]; simp [Ideal.cmp, hc]
      · rw [if_neg hc]; simp [Ideal.cmp, hc]
    rw [ec, ea, eb]
    rfl
  rw [hr]
  have hc := (col (multiReductionI .add [1] S48 (reached (wide x)) 0#32 reduces_S48x253_S48 rfl)).trans (count_apply hx t)
  have he : ∀ (A : FVec Ideal S48x1 .f32) (C : IVec S48x1 32) (i : S48x1.Idx),
      sitofp (F := Ideal) .f32 (select (ori (cmpf .oeq A (broadcast S48x1 (Scalar.ofBits .f32 0x00000000#32))) (cmpi .eq C (broadcast S48x1 0#32)))
        (broadcast S48x1 0#32) (subi C (broadcast S48x1 126#32))) i = (((expFrom (A i) (C i)).toInt : ℝ) : EReal) := fun _ _ _ => rfl
  refine (he _ _ _).trans ?_
  rw [hc, htop t, tokenExp]

/-- The scale of a token. -/
theorem pay3_apply {x : Vec Ideal S48x1024 .bf16} (hx : Finite (wide x)) (t : Fin 48) :
    k0_pay3 x (ix2 t (0 : Fin 1)) = Ideal.exp2 (((tokenExp (wide x) t).toInt : ℝ) : EReal) :=
  congrArg Ideal.exp2 (pay2_apply hx t)

/-- The scales as one row. -/
theorem pay18_apply {x : Vec Ideal S48x1024 .bf16} (hx : Finite (wide x)) (t : Fin 48) :
    k0_pay18 (k0_pay3 x) (ix2 (0 : Fin 1) t) = Ideal.exp2 (((tokenExp (wide x) t).toInt : ℝ) : EReal) := by
  refine Eq.trans ?_ (pay3_apply hx t)
  unfold k0_pay18
  exact shapeCast_apply _ _ _ (ix2 t (0 : Fin 1)) (by
    rw [Shape.rowMajor_val_two, Shape.rowMajor_val_two]; show t.val * 1 + 0 = 0 * 48 + t.val; omega)

/-- The code of an element. -/
theorem pay4_apply {x : Vec Ideal S48x1024 .bf16} (hx : Finite (wide x)) (t : Fin 48) (k : Fin 1024) : k0_pay4 x (ix2 t k) = codeOf (wide x) t k := by
  have hb : broadcastTo S48x1024 (exp2 (F := Ideal) (subf (broadcast S48x1 (Scalar.ofBits .f32 0x00000000#32)) (k0_pay2 x))) broadcasts_S48x1_S48x1024 (ix2 t k)
      = Ideal.exp2 (Ideal.ofBits .f32 0x00000000#32 - (((tokenExp (wide x) t).toInt : ℝ) : EReal)) := by
    refine (broadcastTo_apply _ _ (ix2 t k) (ix2 t (0 : Fin 1)) (fun a => match a with | ⟨0, _⟩ => rfl | ⟨1, _⟩ => rfl)).trans ?_
    exact congrArg (fun e => Ideal.exp2 (Ideal.ofBits .f32 0x00000000#32 - e)) (pay2_apply hx t)
  unfold k0_pay4
  rw [pay1_eq]
  unfold codeOf
  rw [← hb]
  rfl

/-- An unmasked logit without the column's scale. -/
theorem pay5_apply {x : Vec Ideal S48x1024 .bf16} (hx : Finite (wide x)) (w : Vec Ideal S1024x151936 .fp8e4m3) (t : Fin 48) (c : Fin 151936) :
    k0_pay5 x w (ix2 t c) = ((∑ k : Fin 1024, codeOf (wide x) t k * w (ix2 k c)) * Ideal.exp2 (((tokenExp (wide x) t).toInt : ℝ) : EReal) : EReal) := by
  have hb : broadcastTo S48x151936 (k0_pay3 x) broadcasts_S48x1_S48x151936 (ix2 t c) = Ideal.exp2 (((tokenExp (wide x) t).toInt : ℝ) : EReal) :=
    (broadcastTo_apply _ _ (ix2 t c) (ix2 t (0 : Fin 1)) (fun a => match a with | ⟨0, _⟩ => rfl | ⟨1, _⟩ => rfl)).trans (pay3_apply hx t)
  have hm : FloatOps.matmul (F := Ideal) (φ₂ := .fp8e4m3) dot_S48x1024_S1024x151936_S48x151936_1_0_0_1_n_n none (k0_pay4 x) (w : FVec Ideal S1024x151936 .fp8e4m3)
      (constant S48x151936 .f32 0x00000000#32) (ix2 t c) = (∑ k : Fin 1024, codeOf (wide x) t k * w (ix2 k c) : EReal) := by
    refine (Ideal.matmul_plain_apply (M := 48) (K := 1024) (N := 151936) none (k0_pay4 x) w (constant S48x151936 .f32 0x00000000#32) t c).trans ?_
    have hz : (constant (F := Ideal) S48x151936 .f32 0x00000000#32 (ix2 t c) : EReal) = 0 := Ideal.ofBits_zero_f32
    rw [hz, zero_add]
    exact Finset.sum_congr rfl fun k _ => congrArg (· * (w (ix2 k c) : EReal)) (pay4_apply hx t k)
  rw [← hb, ← hm]
  rfl

theorem bit_read (w : BitVec 32) (s : ℕ) (hs : s < 32) :
    IntOp.cmpi .eq (IntOp.andi (IntOp.shrsi .vector w (BitVec.ofNat 32 s)) 1#32) 1#32 = BitVec.ofBool (w.getLsbD s) := by
  have hn : (BitVec.ofNat 32 s).toNat = s := by simp; omega
  have h : IntOp.andi (IntOp.shrsi .vector w (BitVec.ofNat 32 s)) 1#32 = if w.getLsbD s then 1#32 else 0#32 := by
    have e : IntOp.shrsi .vector w (BitVec.ofNat 32 s) = w.sshiftRight s := by
      unfold IntOp.shrsi
      rw [hn, if_pos hs, BitVec.sshiftRight', hn]
    rw [e]
    apply BitVec.eq_of_getLsbD_eq
    intro i hi
    show ((w.sshiftRight s) &&& 1#32).getLsbD i = _
    rw [BitVec.getLsbD_and]
    by_cases hi0 : i = 0
    · subst hi0
      rw [BitVec.getLsbD_sshiftRight]
      cases hb : w.getLsbD s <;> simp [hb, hs]
    · cases hb : w.getLsbD s <;> simp [BitVec.getLsbD_one, hi0]
  rw [h]
  cases w.getLsbD s <;> rfl

/-- A logit where the mask's bit is set, else another value: the logit is the contraction times the two scales. -/
theorem logit_apply (p : FVec Ideal S48x151936 .f32) (ws : Vec Ideal S1x151936 .f32) (mask : Vec Ideal S48x4748 .i32) (z : EReal) (t : Fin 48)
    (c : Fin 151936) (g : Fin 4748) (hg : g.val = c.val / 32) :
    select (k0_pay7 (F := Ideal) mask) (k0_pay6 p ws) (broadcast S48x151936 z : FVec Ideal S48x151936 .f32) (ix2 t c)
      = Scalar.select (BitVec.ofBool (((mask (ix2 t g) : BitVec 32)).getLsbD (c.val % 32))) (p (ix2 t c) * ws (ix2 (0 : Fin 1) c) : EReal) z := by
  have hs : c.val % 32 < 32 := Nat.mod_lt _ (by norm_num)
  unfold k0_pay6 k0_pay7
  dsimp only
  have hb : broadcastTo S48x151936 (shapeCast S1x151936 (ws : FVec Ideal S1x151936 .f32) shapeCasts_S1x151936_S1x151936) broadcasts_S1x151936_S48x151936 (ix2 t c) = ws (ix2 (0 : Fin 1) c) := by
    rw [shapeCast_self]
    exact broadcastTo_apply _ _ (ix2 t c) (ix2 (0 : Fin 1) c) (fun a => match a with | ⟨0, _⟩ => rfl | ⟨1, _⟩ => rfl)
  have hm : broadcastTo S48x4748x32 (shapeCast S48x4748x1 (shapeCast S48x4748x1 (mask : IVec S48x4748 32) shapeCasts_S48x4748_S48x4748x1) shapeCasts_S48x4748x1_S48x4748x1)
      broadcasts_S48x4748x1_S48x4748x32 (ix3 t g (⟨c.val % 32, hs⟩ : Fin 32)) = mask (ix2 t g) := by
    rw [shapeCast_self]
    refine (broadcastTo_apply _ _ _ (ix3 t g (0 : Fin 1)) (fun a => match a with | ⟨0, _⟩ => rfl | ⟨1, _⟩ => rfl | ⟨2, _⟩ => rfl)).trans ?_
    exact shapeCast_apply _ _ _ (ix2 t g) (by
      rw [Shape.rowMajor_val_two, Shape.rowMajor_val_three]; show t.val * 4748 + g.val = (t.val * 4748 + g.val) * 1 + 0; omega)
  have hi : broadcastTo S48x4748x32 (shapeCast S1x1x32 (iota .tc S1x1x32 32 [2] iota_S1x1x32_d2_w32) shapeCasts_S1x1x32_S1x1x32)
      broadcasts_S1x1x32_S48x4748x32 (ix3 t g (⟨c.val % 32, hs⟩ : Fin 32)) = BitVec.ofNat 32 (c.val % 32) := by
    rw [shapeCast_self]
    refine (broadcastTo_apply _ _ _ (ix3 (0 : Fin 1) (0 : Fin 1) (⟨c.val % 32, hs⟩ : Fin 32)) (fun a => match a with | ⟨0, _⟩ => rfl | ⟨1, _⟩ => rfl | ⟨2, _⟩ => rfl)).trans ?_
    exact iota_single_apply .tc S1x1x32 32 2 iota_S1x1x32_d2_w32 _
  have hw : ∀ V : IVec S48x4748x32 32, shapeCast S48x151936 V shapeCasts_S48x4748x32_S48x151936 (ix2 t c) = V (ix3 t g (⟨c.val % 32, hs⟩ : Fin 32)) := fun V =>
    shapeCast_apply _ _ _ _ (by
      rw [Shape.rowMajor_val_two, Shape.rowMajor_val_three]
      show (t.val * 4748 + g.val) * 32 + c.val % 32 = t.val * 151936 + c.val; omega)
  have hsel : ∀ (P W : FVec Ideal S48x151936 .f32) (M : IVec S48x151936 32),
      select (cmpi .eq M (broadcast S48x151936 1#32)) (mulf P W) (broadcast S48x151936 z : FVec Ideal S48x151936 .f32) (ix2 t c)
        = Scalar.select (IntOp.cmpi .eq (M (ix2 t c)) 1#32) (P (ix2 t c) * W (ix2 t c) : EReal) z := fun _ _ _ => rfl
  have hand : ∀ (A B : IVec S48x4748x32 32) (i : S48x4748x32.Idx), andi (shrsi A B) (broadcast S48x4748x32 1#32) i = IntOp.andi (IntOp.shrsi .vector (A i) (B i)) 1#32 := fun _ _ _ => rfl
  rw [hsel, hb, hw, hand, hm, hi, bit_read _ _ hs]

/-- A masked logit. -/
theorem pay8_apply (p : FVec Ideal S48x151936 .f32) (ws : Vec Ideal S1x151936 .f32) (mask : Vec Ideal S48x4748 .i32) (t : Fin 48) (T : Fin 1187) (l : Fin 128)
    (c : Fin 151936) (hc : c.val = 128 * T.val + l.val) (g : Fin 4748) (hg : g.val = c.val / 32) :
    k0_pay8 p ws mask (ix4 t T (0 : Fin 1) l)
      = Scalar.select (BitVec.ofBool (((mask (ix2 t g) : BitVec 32)).getLsbD (c.val % 32))) (p (ix2 t c) * ws (ix2 (0 : Fin 1) c) : EReal) (Ideal.ofBits .f32 0x00000000#32) := by
  have hl := l.isLt
  unfold k0_pay8
  refine (shapeCast_apply _ _ _ (ix2 t c) (by
    rw [Shape.rowMajor_val_two, Shape.rowMajor_val_four]
    show t.val * 151936 + c.val = ((t.val * 1187 + T.val) * 1 + 0) * 128 + l.val; omega)).trans ?_
  exact logit_apply p ws mask _ t c g hg

/-- A logit, or `-∞` where the mask's bit is not set. -/
theorem pay9_apply (p : FVec Ideal S48x151936 .f32) (ws : Vec Ideal S1x151936 .f32) (mask : Vec Ideal S48x4748 .i32) (t : Fin 48)
    (c : Fin 151936) (g : Fin 4748) (hg : g.val = c.val / 32) :
    k0_pay9 p ws mask (ix2 t c)
      = Scalar.select (BitVec.ofBool (((mask (ix2 t g) : BitVec 32)).getLsbD (c.val % 32))) (p (ix2 t c) * ws (ix2 (0 : Fin 1) c) : EReal) (Ideal.ofBits .f32 0xFF800000#32) :=
  logit_apply p ws mask _ t c g hg

end Cert.ReferenceIdeal.Hand

end
-- ==== Proof.RefStats.lean ====
/- The reference's statistics read at an index, over the extended reals, as the greatest and the sums over stretches of the
   columns of a block of logits. -/
module

public import proofs.«01_k».proof.Proof.Stats
public import proofs.«01_k».proof.Proof.RefApply
public import Idealize.ShloMosaic.Lib.ValueLayout

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.ValueIdx
open Cert.Kernel.Hand (fin supOf sumOf max_row sum_row max_row3 sum_row3)

/-- One value for each row, as a column. -/
theorem column_apply (v : FVec Ideal S48 .f32) (t : Fin 48) : shapeCast S48x1 v shapeCasts_S48_S48x1 (ix2 t (0 : Fin 1)) = v (ix1 t) :=
  shapeCast_apply _ _ _ (ix1 t) (by rw [Shape.rowMajor_val_one, Shape.rowMajor_val_two]; show t.val = t.val * 1 + 0; omega)

/-- A value where it is finite, else zero. -/
theorem finite_apply {s : Shape} (A : FVec Ideal s .f32) (i : s.Idx) :
    select (cmpf .olt (absf A) (broadcast s (Scalar.ofBits .f32 0x7F800000#32))) A (broadcast s (Scalar.ofBits .f32 0x00000000#32)) i = fin (A i) := rfl

/-- The exponential of a difference. -/
theorem expSub_apply {s : Shape} (A B : FVec Ideal s .f32) (i : s.Idx) : exp (subf A B) i = Ideal.exp ((A i : EReal) - (B i : EReal)) := rfl

/-- A logarithm and a value added. -/
theorem logAdd_apply {s : Shape} (A B : FVec Ideal s .f32) (i : s.Idx) : addf (log A) B i = Ideal.log (A i) + (B i : EReal) := rfl

section
variable (R : FVec Ideal S48x151936 .f32) (t : Fin 48) (g : ℕ → EReal) (hg : ∀ c : Fin 151936, R (ix2 t c) = g c.val)
include hg

/-- The whole row's log of the sum of exponentials. -/
theorem lse_apply (p : FVec Ideal S48x151936 .f32) (ws : Vec Ideal S1x151936 .f32) (mask : Vec Ideal S48x4748 .i32) (hR : k0_pay9 p ws mask = R) :
    k0_pay10 p ws mask (ix2 (0 : Fin 1) t) = Ideal.log (sumOf g 0 151936 (fin (supOf g 0 151936))) + fin (supOf g 0 151936) := by
  have hmax : shapeCast S48x1 (multiReduction .maximumf [1] S48 R 0xFF800000#32 reduces_S48x151936_S48 (.inl rfl) rfl) shapeCasts_S48_S48x1 (ix2 t (0 : Fin 1)) = supOf g 0 151936 :=
    (column_apply _ t).trans (max_row R _ _ t (fun i => g (0 + i)) (fun i => (hg i).trans (congrArg g (Nat.zero_add _).symm)) _)
  unfold k0_pay10
  rw [hR]
  dsimp only
  generalize hA : shapeCast S48x1 (multiReduction .maximumf [1] S48 R 0xFF800000#32 reduces_S48x151936_S48 (.inl rfl) rfl) shapeCasts_S48_S48x1 = A at hmax ⊢
  have hfin : select (cmpf .olt (absf A) (broadcast S48x1 (Scalar.ofBits .f32 0x7F800000#32))) A (broadcast S48x1 (Scalar.ofBits .f32 0x00000000#32)) (ix2 t (0 : Fin 1))
      = fin (supOf g 0 151936) := (finite_apply A _).trans (congrArg fin hmax)
  generalize select (cmpf .olt (absf A) (broadcast S48x1 (Scalar.ofBits .f32 0x7F800000#32))) A (broadcast S48x1 (Scalar.ofBits .f32 0x00000000#32)) = B at hfin ⊢
  refine (shapeCast_apply _ _ _ (ix2 t (0 : Fin 1)) (by
    rw [Shape.rowMajor_val_two, Shape.rowMajor_val_two]; show t.val * 1 + 0 = 0 * 48 + t.val; omega)).trans ?_
  have hb : ∀ c : Fin 151936, broadcastTo S48x151936 B broadcasts_S48x1_S48x151936 (ix2 t c) = fin (supOf g 0 151936) := fun c =>
    (broadcastTo_apply _ _ (ix2 t c) (ix2 t (0 : Fin 1)) (fun a => match a with | ⟨0, _⟩ => rfl | ⟨1, _⟩ => rfl)).trans hfin
  have hs : shapeCast S48x1 (multiReduction .add [1] S48 (exp (subf R (broadcastTo S48x151936 B broadcasts_S48x1_S48x151936))) 0x00000000#32 reduces_S48x151936_S48 (.inl rfl) rfl) shapeCasts_S48_S48x1 (ix2 t (0 : Fin 1))
      = sumOf g 0 151936 (fin (supOf g 0 151936)) :=
    (column_apply _ t).trans (sum_row _ _ _ t (fun i => Ideal.exp (g (0 + i) - fin (supOf g 0 151936))) (fun c => by
      refine (expSub_apply R _ (ix2 t c)).trans ?_
      rw [hb, hg, Nat.zero_add]) _)
  refine (logAdd_apply _ _ _).trans ?_
  exact congrArg₂ (fun a b : EReal => Ideal.log a + b) hs hfin

/-- The full chunks, a row of 4096 each. -/
theorem heads_apply (k : Fin 37) (i : Fin 4096) : k0_pay12 (extractStridedSlice S48x151552 ![0, 0] R slices_S48x151936_o0_0_S48x151552) (ix3 t k i) = g (4096 * k.val + i.val) := by
  have hk := k.isLt
  have hi := i.isLt
  unfold k0_pay12
  refine (shapeCast_apply _ _ _ (ix2 t (⟨4096 * k.val + i.val, by omega⟩ : Fin 151552)) (by
    rw [Shape.rowMajor_val_two, Shape.rowMajor_val_three]
    show t.val * 151552 + (4096 * k.val + i.val) = (t.val * 37 + k.val) * 4096 + i.val; omega)).trans ?_
  refine (extractStridedSlice_apply _ _ _ _ (ix2 t (⟨4096 * k.val + i.val, by omega⟩ : Fin 151936)) (fun a => match a with | ⟨0, _⟩ => (Nat.zero_add _).symm | ⟨1, _⟩ => (Nat.zero_add _).symm)).trans ?_
  exact hg _

/-- The last chunk. -/
theorem tail_apply (i : Fin 384) : k0_pay14 R (ix2 t i) = g (151552 + i.val) := by
  have hi := i.isLt
  unfold k0_pay14
  refine (extractStridedSlice_apply _ _ _ _ (ix2 t (⟨151552 + i.val, by omega⟩ : Fin 151936)) (fun a => match a with | ⟨0, _⟩ => (Nat.zero_add _).symm | ⟨1, _⟩ => rfl)).trans ?_
  exact hg _

theorem headMax_apply (k : Fin 37) : k0_pay13 (extractStridedSlice S48x151552 ![0, 0] R slices_S48x151936_o0_0_S48x151552) (ix2 t k) = fin (supOf g (4096 * k.val) 4096) := by
  unfold k0_pay13
  dsimp only
  refine (finite_apply _ _).trans (congrArg fin ?_)
  exact (max_row3 _ reduces_S48x37x4096_S48x37 (.inl rfl) t k (fun i => g (4096 * k.val + i)) (fun i => heads_apply R t g hg k i) rfl)

theorem tailMax_apply : k0_pay15 R (ix2 t (0 : Fin 1)) = fin (supOf g 151552 384) := by
  unfold k0_pay15
  dsimp only
  refine (finite_apply _ _).trans (congrArg fin ?_)
  exact ((column_apply _ t).trans (max_row _ reduces_S48x384_S48 (.inl rfl) t (fun i => g (151552 + i)) (fun i => tail_apply R t g hg i) rfl))

omit hg in
/-- The full chunks' values and the last chunk's, one row for each chunk. -/
theorem rows_apply (H : FVec Ideal S48x37 .f32) (T : FVec Ideal S48x1 .f32) (k : Fin 38) :
    shapeCast S38x1x48 (transpose S38x48 [1, 0] (concatenate S48x38 1 [⟨S48x37, H⟩, ⟨S48x1, T⟩] concatenates_S48x37_S48x1_S48x38_d1) transposes_S48x38_p1_0_S38x48)
      shapeCasts_S38x48_S38x1x48 (ix3 k (0 : Fin 1) t) = if h : k.val < 37 then H (ix2 t (⟨k.val, h⟩ : Fin 37)) else T (ix2 t (0 : Fin 1)) := by
  have hk := k.isLt
  refine (shapeCast_apply _ _ _ (ix2 k t) (by
    rw [Shape.rowMajor_val_two, Shape.rowMajor_val_three]; show k.val * 48 + t.val = (k.val * 1 + 0) * 48 + t.val; omega)).trans ?_
  refine (transpose_ix2_apply _ _ k t).trans ?_
  by_cases h : k.val < 37
  · rw [dif_pos h]
    exact concatenate_pair_apply_left (t := S48x38) (s₁ := S48x37) (s₂ := S48x1) 1 H T concatenates_S48x37_S48x1_S48x38_d1 (ix2 t k) rfl (ix2 t (⟨k.val, h⟩ : Fin 37))
      (fun b => match b with | ⟨0, _⟩ => rfl | ⟨1, _⟩ => rfl)
  · rw [dif_neg h]
    exact concatenate_pair_apply_right (t := S48x38) (s₁ := S48x37) (s₂ := S48x1) 1 H T concatenates_S48x37_S48x1_S48x38_d1 (ix2 t k) rfl rfl (ix2 t (0 : Fin 1))
      (fun b => match b with | ⟨0, _⟩ => fun _ => rfl | ⟨1, _⟩ => fun hb => absurd rfl hb) (by show 0 + 37 = k.val; omega)

/-- The chunks' maxima. -/
theorem cmax_apply (k : Fin 38) : k0_pay16 R (extractStridedSlice S48x151552 ![0, 0] R slices_S48x151936_o0_0_S48x151552) (ix3 k (0 : Fin 1) t)
    = fin (supOf g (4096 * k.val) (if k.val = 37 then 384 else 4096)) := by
  have hk := k.isLt
  unfold k0_pay16
  refine (rows_apply t _ _ k).trans ?_
  by_cases h : k.val < 37
  · rw [dif_pos h, if_neg (by omega)]
    exact headMax_apply R t g hg ⟨k.val, h⟩
  · have e : k.val = 37 := by omega
    rw [dif_neg h, if_pos e, e]
    exact tailMax_apply R t g hg

/-- The chunks' sums of exponentials. -/
theorem csum_apply (k : Fin 38) : k0_pay17 R (extractStridedSlice S48x151552 ![0, 0] R slices_S48x151936_o0_0_S48x151552) (ix3 k (0 : Fin 1) t)
    = sumOf g (4096 * k.val) (if k.val = 37 then 384 else 4096) (fin (supOf g (4096 * k.val) (if k.val = 37 then 384 else 4096))) := by
  have hk := k.isLt
  unfold k0_pay17
  dsimp only
  refine (rows_apply t _ _ k).trans ?_
  by_cases h : k.val < 37
  · rw [dif_pos h, if_neg (by omega)]
    refine sum_row3 _ reduces_S48x37x4096_S48x37 (.inl rfl) t ⟨k.val, h⟩ (fun i => Ideal.exp (g (4096 * k.val + i) - fin (supOf g (4096 * k.val) 4096))) (fun i => ?_) rfl
    have hb : broadcastTo S48x37x4096 (shapeCast S48x37x1 (k0_pay13 (extractStridedSlice S48x151552 ![0, 0] R slices_S48x151936_o0_0_S48x151552)) shapeCasts_S48x37_S48x37x1)
        broadcasts_S48x37x1_S48x37x4096 (ix3 t (⟨k.val, h⟩ : Fin 37) i) = fin (supOf g (4096 * k.val) 4096) := by
      refine (broadcastTo_apply _ _ _ (ix3 t (⟨k.val, h⟩ : Fin 37) (0 : Fin 1)) (fun a => match a with | ⟨0, _⟩ => rfl | ⟨1, _⟩ => rfl | ⟨2, _⟩ => rfl)).trans ?_
      refine (shapeCast_apply _ _ _ (ix2 t (⟨k.val, h⟩ : Fin 37)) (by
        rw [Shape.rowMajor_val_two, Shape.rowMajor_val_three]; show t.val * 37 + k.val = (t.val * 37 + k.val) * 1 + 0; omega)).trans ?_
      exact headMax_apply R t g hg ⟨k.val, h⟩
    exact (expSub_apply _ _ _).trans (congrArg₂ (fun a b : EReal => Ideal.exp (a - b)) (heads_apply R t g hg ⟨k.val, h⟩ i) hb)
  · have e : k.val = 37 := by omega
    rw [dif_neg h, if_pos e, e]
    refine (column_apply _ t).trans (sum_row _ reduces_S48x384_S48 (.inl rfl) t (fun i => Ideal.exp (g (151552 + i) - fin (supOf g 151552 384))) (fun i => ?_) rfl)
    have hb : broadcastTo S48x384 (k0_pay15 R) broadcasts_S48x1_S48x384 (ix2 t i) = fin (supOf g 151552 384) :=
      (broadcastTo_apply _ _ (ix2 t i) (ix2 t (0 : Fin 1)) (fun a => match a with | ⟨0, _⟩ => rfl | ⟨1, _⟩ => rfl)).trans (tailMax_apply R t g hg)
    exact (expSub_apply _ _ _).trans (congrArg₂ (fun a b : EReal => Ideal.exp (a - b)) (tail_apply R t g hg i) hb)

end

end Cert.ReferenceIdeal.Hand

end
-- ==== Proof.Equal.lean ====
/- The kernel's results are the reference's, over the extended reals, for tokens that are finite. -/
module

public import proofs.«01_k».proof.Proof.Logits
public import proofs.«01_k».proof.Proof.KernelStats
public import proofs.«01_k».proof.Proof.RefStats
public import proofs.«01_k».proof.Proof.Frame
public import proofs.«01_k».proof.Pre_tokens_finite

@[expose] public section

set_option maxRecDepth 16384

noncomputable section

namespace Cert.Kernel.Hand

open Cert.Kernel Cert.Kernel.Gen
open Idealize.ShloMosaic Idealize.ShloMosaic.TcCoe Idealize.ShloMosaic.ValueIdx
open Cert.ReferenceIdeal.Gen (k0_pay3 k0_pay4 k0_pay5 k0_pay8 k0_pay9 k0_pay10 k0_pay11 k0_pay16 k0_pay17 k0_pay18)

variable (I : Ins Ideal) (hx : Finite I.wide)

include hx

/-- The masked logits. -/
theorem out_eq (ws : Vec Ideal Cert.ReferenceIdeal.S1x151936 .f32)
    (hs : ∀ (T : Fin 1187) (l : Fin 128) (c : Fin 151936), c.val = 128 * T.val + l.val → I.ws (ix2 T l) = ws (ix2 (0 : Fin 1) c)) :
    I.out = k0_pay8 (k0_pay5 I.x I.wc) ws I.mask := by
  funext i
  obtain ⟨t, T, z, l, rfl⟩ : ∃ (t : Fin 48) (T : Fin 1187) (z : Fin 1) (l : Fin 128), i = ix4 t T z l := ⟨_, _, _, _, eq_ix4 i⟩
  obtain rfl : z = 0 := Fin.ext (by omega)
  have hT := T.isLt
  have hl := l.isLt
  rw [out_apply I hx t T l ⟨128 * T.val + l.val, by omega⟩ rfl ⟨(128 * T.val + l.val) / 32, by omega⟩ rfl]
  refine Eq.trans ?_ (Cert.ReferenceIdeal.Hand.pay8_apply (k0_pay5 I.x I.wc) ws I.mask t T l ⟨128 * T.val + l.val, by omega⟩ rfl ⟨(128 * T.val + l.val) / 32, by omega⟩ rfl).symm
  rw [hs T l ⟨128 * T.val + l.val, by omega⟩ rfl, Cert.ReferenceIdeal.Hand.pay5_apply (x := I.x) hx I.wc t ⟨128 * T.val + l.val, by omega⟩]

/-- The codes. -/
theorem codes_eq : I.codes = k0_pay4 I.x := by
  funext i
  obtain ⟨t, k, rfl⟩ : ∃ (t : Fin 48) (k : Fin 1024), i = ix2 t k := ⟨_, _, eq_ix2 i⟩
  exact (codes_apply I hx t k).trans (Cert.ReferenceIdeal.Hand.pay4_apply (x := I.x) hx t k).symm

/-- The scales. -/
theorem scaleRow_eq : I.scaleRow = k0_pay18 (k0_pay3 I.x) := by
  funext i
  obtain ⟨z, t, rfl⟩ : ∃ (z : Fin 1) (t : Fin 48), i = ix2 z t := ⟨_, _, eq_ix2 i⟩
  obtain rfl : z = 0 := Fin.ext (by omega)
  exact (scaleRow_apply I hx t).trans (Cert.ReferenceIdeal.Hand.pay18_apply (x := I.x) hx t).symm

/-! ## The statistics -/

section
variable (ws : Vec Ideal Cert.ReferenceIdeal.S1x151936 .f32)
  (hs : ∀ (T : Fin 1187) (l : Fin 128) (c : Fin 151936), c.val = 128 * T.val + l.val → I.ws (ix2 T l) = ws (ix2 (0 : Fin 1) c))

omit hx in
/-- The reference's logits, -∞ where the mask's bit is not set, by token and column. -/
def logitOf (t : Fin 48) (n : ℕ) : EReal := k0_pay9 (k0_pay5 I.x I.wc) ws I.mask (ix2 t (⟨n % 151936, Nat.mod_lt _ (by norm_num)⟩ : Fin 151936))

omit hx in
theorem logitOf_eq (t : Fin 48) (c : Fin 151936) : k0_pay9 (k0_pay5 I.x I.wc) ws I.mask (ix2 t c) = logitOf I ws t c.val :=
  congrArg (fun d => k0_pay9 (k0_pay5 I.x I.wc) ws I.mask (ix2 t d)) (Fin.ext (Nat.mod_eq_of_lt c.isLt).symm)

include hs

/-- The kernel's logits, -∞ where the mask's bit is not set, are the reference's. -/
theorem neg_eq (T : Fin 1187) (t : Fin 48) (l : Fin 128) : I.data.neg lanes T (ix2 t l) = logitOf I ws t (128 * T.val + l.val) := by
  have hT := T.isLt
  have hl := l.isLt
  refine Eq.trans ?_ (logitOf_eq I ws t ⟨128 * T.val + l.val, by omega⟩)
  refine (neg_apply I hx t T l ⟨128 * T.val + l.val, by omega⟩ rfl ⟨(128 * T.val + l.val) / 32, by omega⟩ rfl).trans ?_
  refine Eq.trans ?_ (Cert.ReferenceIdeal.Hand.pay9_apply (k0_pay5 I.x I.wc) ws I.mask t ⟨128 * T.val + l.val, by omega⟩ ⟨(128 * T.val + l.val) / 32, by omega⟩ rfl).symm
  rw [hs T l ⟨128 * T.val + l.val, by omega⟩ rfl, Cert.ReferenceIdeal.Hand.pay5_apply (x := I.x) hx I.wc t ⟨128 * T.val + l.val, by omega⟩]

/-- The logs of the sums of exponentials. -/
theorem lse_eq : I.lse = k0_pay10 (k0_pay5 I.x I.wc) ws I.mask := by
  funext i
  obtain ⟨z, t, rfl⟩ : ∃ (z : Fin 1) (t : Fin 48), i = ix2 z t := ⟨_, _, eq_ix2 i⟩
  obtain rfl : z = 0 := Fin.ext (by omega)
  exact (lse_apply I.data (logitOf I ws) (neg_eq I hx ws hs) t (38 : Fin 128)).trans
    (Cert.ReferenceIdeal.Hand.lse_apply _ t (logitOf I ws t) (logitOf_eq I ws t) (k0_pay5 I.x I.wc) ws I.mask rfl).symm

omit hx hs in
/-- A chunk's number of columns. -/
theorem chunk_width (k : ℕ) : 128 * tilesIn k = if k = 37 then 384 else 4096 := by
  unfold tilesIn
  split <;> rfl

/-- The chunks' maxima. -/
theorem cmax_eq : I.cmax = k0_pay16 (k0_pay9 (k0_pay5 I.x I.wc) ws I.mask) (k0_pay11 (k0_pay5 I.x I.wc) ws I.mask) := by
  funext i
  obtain ⟨k, z, t, rfl⟩ : ∃ (k : Fin 38) (z : Fin 1) (t : Fin 48), i = ix3 k z t := ⟨_, _, _, eq_ix3 i⟩
  obtain rfl : z = 0 := Fin.ext (by omega)
  have hk := k.isLt
  have h := maxes_apply I.data (logitOf I ws) (neg_eq I hx ws hs) 38 le_rfl t (⟨k.val, by omega⟩ : Fin 128)
  rw [if_pos hk, chunk_width] at h
  exact ((finiteOf_apply _ _).trans (congrArg fin h)).trans (Cert.ReferenceIdeal.Hand.cmax_apply _ t (logitOf I ws t) (logitOf_eq I ws t) k).symm

/-- The chunks' sums of exponentials. -/
theorem csum_eq : I.csum = k0_pay17 (k0_pay9 (k0_pay5 I.x I.wc) ws I.mask) (k0_pay11 (k0_pay5 I.x I.wc) ws I.mask) := by
  funext i
  obtain ⟨k, z, t, rfl⟩ : ∃ (k : Fin 38) (z : Fin 1) (t : Fin 48), i = ix3 k z t := ⟨_, _, _, eq_ix3 i⟩
  obtain rfl : z = 0 := Fin.ext (by omega)
  have hk := k.isLt
  have h := sums_apply I.data (logitOf I ws) (neg_eq I hx ws hs) 38 le_rfl t (⟨k.val, by omega⟩ : Fin 128)
  rw [if_pos hk, chunk_width] at h
  exact h.trans (Cert.ReferenceIdeal.Hand.csum_apply _ t (logitOf I ws t) (logitOf_eq I ws t) k).symm

end

omit hx

/-- The precondition's one shape relation. -/
theorem preFacts : Cert.Pre_tokens_finite.Facts := ⟨by decide⟩

/-- What the precondition says of the tokens. -/
theorem finite_of_pre [Cert.Pre_tokens_finite.Facts] (x : FVec Ideal S48x1x1024 .bf16) (w : FVec Ideal S1024x151936 .fp8e4m3) (s : FVec Ideal S151936 .f32) (mask : IVec S48x4748 32) (cd : IVec S48x1x32 32)
    (h : Cert.Pre_tokens_finite.fn (F := Ideal) x w s mask cd = fun _ => 1#1) :
    Finite (extf .f32 (shapeCast S48x1024 x shapeCasts_S48x1x1024_S48x1024 : FVec Ideal S48x1024 .bf16) bitsLt_bf16_f32) := by
  intro i
  obtain ⟨t, k, rfl⟩ : ∃ (t : Fin 48) (k : Fin 1024), i = ix2 t k := ⟨_, _, eq_ix2 i⟩
  have e : shapeCast S48x1024 x shapeCasts_S48x1x1024_S48x1024 (ix2 t k) = x (ix3 t (0 : Fin 1) k) :=
    shapeCast_apply _ _ _ _ (by
      rw [Shape.rowMajor_val_two, Shape.rowMajor_val_three]; show (t.val * 1 + 0) * 1024 + k.val = t.val * 1024 + k.val; omega)
  have h1 : Ideal.cmp .ole (max (x (ix3 t (0 : Fin 1) k)) (-(x (ix3 t (0 : Fin 1) k)))) (Ideal.ofBits .bf16 0x7F7F#16) = 1#1 := congrFun h (ix3 t (0 : Fin 1) k)
  show max (shapeCast S48x1024 x shapeCasts_S48x1x1024_S48x1024 (ix2 t k) : EReal) (-(shapeCast S48x1024 x shapeCasts_S48x1x1024_S48x1024 (ix2 t k) : EReal)) ≤ _
  rw [e]
  by_contra hc
  simp [Ideal.cmp, hc] at h1

/-- The column scales, in tiles of 128 and as one row, are the same scales. -/
theorem scales_same (s : FVec Ideal S151936 .f32) (T : Fin 1187) (l : Fin 128) (c : Fin 151936) (hc : c.val = 128 * T.val + l.val) :
    shapeCast S1187x128 s shapeCasts_S151936_S1187x128 (ix2 T l) = shapeCast Cert.ReferenceIdeal.S1x151936 s Cert.ReferenceIdeal.Gen.shapeCasts_S151936_S1x151936 (ix2 (0 : Fin 1) c) := by
  rw [shapeCast_apply _ _ (ix2 T l) (ix1 c) (by
    rw [Shape.rowMajor_val_one, Shape.rowMajor_val_two]; show c.val = T.val * 128 + l.val; omega)]
  exact (shapeCast_apply s Cert.ReferenceIdeal.Gen.shapeCasts_S151936_S1x151936 (ix2 (0 : Fin 1) c) (ix1 c) (by
    rw [Shape.rowMajor_val_one, Shape.rowMajor_val_two]
    show c.val = (0 : Fin 1).val * 151936 + c.val
    rw [Fin.val_zero, Nat.zero_mul, Nat.zero_add])).symm

end Cert.Kernel.Hand

end
-- ==== Proof.lean ====
module

public import proofs.«01_k».proof.Defs
public import proofs.«01_k».proof.Proof.Frame
public import proofs.«01_k».proof.Proof.Equal
public import proofs.«01_k».proof.Proof.Gen.KernelIdeal
public import proofs.«01_k».proof.Proof.Gen.ReferenceIdeal
public import proofs.«01_k».proof.Proof.RefRun

@[expose] public section

set_option maxRecDepth 65536

noncomputable section

namespace Cert.Proof

open Idealize.ShloMosaic Idealize.ShloMosaic.TcCoe Idealize.SL.Sem

/-- The kernel over the extended reals is the kernel's text at another reading, so it runs alike. -/
theorem runIdeal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      (r.2.mem ((c.tc : Thread Cert.KernelIdeal.nD Cert.KernelIdeal.τ).loc Cert.KernelIdeal.main_v4_0) = (Cert.Kernel.Hand.insAt (F := Ideal) m c).out
        ∧ r.2.mem ((c.tc : Thread Cert.KernelIdeal.nD Cert.KernelIdeal.τ).loc Cert.KernelIdeal.main_v4_1) = (Cert.Kernel.Hand.insAt (F := Ideal) m c).lse
        ∧ r.2.mem ((c.tc : Thread Cert.KernelIdeal.nD Cert.KernelIdeal.τ).loc Cert.KernelIdeal.main_v4_3) = (Cert.Kernel.Hand.insAt (F := Ideal) m c).cmax
        ∧ r.2.mem ((c.tc : Thread Cert.KernelIdeal.nD Cert.KernelIdeal.τ).loc Cert.KernelIdeal.main_v4_4) = (Cert.Kernel.Hand.insAt (F := Ideal) m c).csum
        ∧ r.2.mem ((c.tc : Thread Cert.KernelIdeal.nD Cert.KernelIdeal.τ).loc Cert.KernelIdeal.main_v4_5) = (Cert.Kernel.Hand.insAt (F := Ideal) m c).codes
        ∧ r.2.mem ((c.tc : Thread Cert.KernelIdeal.nD Cert.KernelIdeal.τ).loc Cert.KernelIdeal.main_v4_6) = (Cert.Kernel.Hand.insAt (F := Ideal) m c).scaleRow)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  Cert.Kernel.Hand.run (F := Ideal) m ρ

/-- The reference's results are the kernel's, of the same arguments, for finite tokens. -/
theorem same [Cert.Pre_tokens_finite.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal_tokens_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Gen.dats m' 0 c).arrAt 4 Cert.ReferenceIdeal.cfg0.N = (Cert.Kernel.Hand.insAt (F := Ideal) m c).out
      ∧ (Cert.ReferenceIdeal.Gen.dats m' 0 c).arrAt 5 Cert.ReferenceIdeal.cfg0.N = (Cert.Kernel.Hand.insAt (F := Ideal) m c).lse
      ∧ (Cert.ReferenceIdeal.Gen.dats m' 0 c).arrAt 6 Cert.ReferenceIdeal.cfg0.N = (Cert.Kernel.Hand.insAt (F := Ideal) m c).cmax
      ∧ (Cert.ReferenceIdeal.Gen.dats m' 0 c).arrAt 7 Cert.ReferenceIdeal.cfg0.N = (Cert.Kernel.Hand.insAt (F := Ideal) m c).csum
      ∧ (Cert.ReferenceIdeal.Gen.dats m' 0 c).arrAt 8 Cert.ReferenceIdeal.cfg0.N = (Cert.Kernel.Hand.insAt (F := Ideal) m c).codes
      ∧ (Cert.ReferenceIdeal.Gen.dats m' 0 c).arrAt 9 Cert.ReferenceIdeal.cfg0.N = (Cert.Kernel.Hand.insAt (F := Ideal) m c).scaleRow := by
  have hx : (Cert.Kernel.Hand.insAt (F := Ideal) m c).x = Cert.ReferenceIdeal.Gen.V m' c Cert.ReferenceIdeal.main_v0 := by
    rw [Cert.ReferenceIdeal.Hand.V_x, h0]; rfl
  have hw : (Cert.Kernel.Hand.insAt (F := Ideal) m c).wc = Cert.ReferenceIdeal.Gen.V m' c Cert.ReferenceIdeal.main_arg1 := by
    rw [Cert.ReferenceIdeal.Gen.V_main_arg1, h1]; rfl
  have hm : (Cert.Kernel.Hand.insAt (F := Ideal) m c).mask = Cert.ReferenceIdeal.Gen.V m' c Cert.ReferenceIdeal.main_arg3 := by
    rw [Cert.ReferenceIdeal.Gen.V_main_arg3, h3]; rfl
  have hf : Cert.Kernel.Hand.Finite (Cert.Kernel.Hand.insAt (F := Ideal) m c).wide := Cert.Kernel.Hand.finite_of_pre _ _ _ _ _ (hpre c)
  have hs : ∀ (T : Fin 1187) (l : Fin 128) (k : Fin 151936), k.val = 128 * T.val + l.val →
      (Cert.Kernel.Hand.insAt (F := Ideal) m c).ws (ValueIdx.ix2 T l) = Cert.ReferenceIdeal.Gen.V m' c Cert.ReferenceIdeal.main_v1 (ValueIdx.ix2 (0 : Fin 1) k) := fun T l k hk => by
    rw [Cert.ReferenceIdeal.Hand.V_ws, h2]
    exact Cert.Kernel.Hand.scales_same _ T l k hk
  refine ⟨?_, ?_, ?_, ?_, ?_, ?_⟩
  · rw [Cert.ReferenceIdeal.Hand.arr_4, ← hx, ← hw, ← hm]
    exact (Cert.Kernel.Hand.out_eq _ hf _ hs).symm
  · rw [Cert.ReferenceIdeal.Hand.arr_5, ← hx, ← hw, ← hm]
    exact (Cert.Kernel.Hand.lse_eq _ hf _ hs).symm
  · rw [Cert.ReferenceIdeal.Hand.arr_6, ← hx, ← hw, ← hm]
    exact (Cert.Kernel.Hand.cmax_eq _ hf _ hs).symm
  · rw [Cert.ReferenceIdeal.Hand.arr_7, ← hx, ← hw, ← hm]
    exact (Cert.Kernel.Hand.csum_eq _ hf _ hs).symm
  · rw [Cert.ReferenceIdeal.Hand.arr_8, ← hx]
    exact (Cert.Kernel.Hand.codes_eq _ hf).symm
  · rw [Cert.ReferenceIdeal.Hand.arr_9, ← hx]
    exact (Cert.Kernel.Hand.scaleRow_eq _ hf).symm

theorem claim : Cert.Claim := by
  haveI := Cert.Kernel.Hand.preFacts
  exact ⟨Cert.Kernel.Gen.facts, Cert.KernelIdeal.Gen.facts, Cert.ReferenceIdeal.Gen.facts, Cert.Kernel.Hand.preFacts,
    fun m ρ _ => (θ_run _ _ _).mono (fun _ h => ⟨fun c => (h.1 c).2, h.2⟩) (Cert.Kernel.Hand.run m ρ),
    fun m ρ _ => (θ_run _ _ _).mono (fun _ h => ⟨fun c => (h.1 c).2, h.2⟩) (runIdeal m ρ),
    fun m ρ _ => (θ_run _ _ _).mono (fun _ h => ⟨fun c => (h.1 c).2, h.2⟩) (runIdeal m ρ),
    fun m ρ _ => Cert.ReferenceIdeal.Gen.frame m ρ,
    fun m ρ _ => Cert.ReferenceIdeal.Gen.frame m ρ,
    trivial,
    fun m ρ m' ρ' hpre hargs => ⟨fun c => (Cert.Kernel.Hand.insAt (F := Ideal) m c).out,
      fun c => (Cert.Kernel.Hand.insAt (F := Ideal) m c).lse,
      fun c => (Cert.Kernel.Hand.insAt (F := Ideal) m c).cmax,
      fun c => (Cert.Kernel.Hand.insAt (F := Ideal) m c).csum,
      fun c => (Cert.Kernel.Hand.insAt (F := Ideal) m c).codes,
      fun c => (Cert.Kernel.Hand.insAt (F := Ideal) m c).scaleRow,
      (θ_run _ _ _).mono (fun _ h c => by
        obtain ⟨⟨e0, e1, e2, e3, e4, e5⟩, e⟩ := h.1 c
        exact ⟨e0, e1, e2, e3, e4, e5, e⟩) (runIdeal m ρ),
      (θ_run _ _ _).mono (fun _ h c => by
        obtain ⟨e0, e1, e2, e3, e4, e5, e⟩ := h c
        obtain ⟨a0, a1, a2, a3, -⟩ := hargs c
        obtain ⟨s0, s1, s2, s3, s4, s5⟩ := same m m' hpre c a0 a1 a2 a3
        exact ⟨e0.trans s0, e1.trans s1, e2.trans s2, e3.trans s3, e4.trans s4, e5.trans s5, e⟩) (Cert.ReferenceIdeal.Value.run_blocks m' ρ')⟩⟩

end Cert.Proof

end
